-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_swiglu [hPre_finite_swiglu : Cert.Pre_finite_swiglu.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_swiglu.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_swiglu [hPre_finite_swiglu : Cert.Pre_finite_swiglu.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_swiglu.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_swiglu [hKernel3Ideal : Cert.Kernel3Ideal.Facts] [hPre_finite_swiglu : Cert.Pre_finite_swiglu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_swiglu m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_swiglu [hReference3Ideal : Cert.Reference3Ideal.Facts] [hPre_finite_swiglu : Cert.Pre_finite_swiglu.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_swiglu m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def preserves_Kernel3_Kernel3Ideal : Prop :=
  True

def algebraic_Kernel3Ideal_Reference3Ideal_pre_finite_swiglu [hKernel3Ideal : Cert.Kernel3Ideal.Facts] [hReference3Ideal : Cert.Reference3Ideal.Facts] [hPre_finite_swiglu : Cert.Pre_finite_swiglu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_swiglu m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_swiglu (hKernel3Ideal := hKernel3Ideal) (hPre_finite_swiglu := hPre_finite_swiglu)
    ∧ quiescent_Reference3Ideal (hReference3Ideal := hReference3Ideal)
    ∧ quiescent_Reference3Ideal_pre_finite_swiglu (hReference3Ideal := hReference3Ideal) (hPre_finite_swiglu := hPre_finite_swiglu)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal_pre_finite_swiglu (hKernel3Ideal := hKernel3Ideal) (hReference3Ideal := hReference3Ideal) (hPre_finite_swiglu := hPre_finite_swiglu)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4224x512 : Shape := ⟨2, ![4224, 512]⟩
abbrev S4224x128 : Shape := ⟨2, ![4224, 128]⟩
abbrev S2x4x33x128x128 : Shape := ⟨5, ![2, 4, 33, 128, 128]⟩
abbrev S2x4x33x64x64 : Shape := ⟨5, ![2, 4, 33, 64, 64]⟩
abbrev S_ : Shape := ⟨0, ![]⟩

class Facts : Prop where
  bcast_S_S4224x512 : S_.BroadcastsInDim S4224x512 (![] : Fin 0 → Fin S4224x512.rank)
  reducesTo_S4224x512_S_d0_1 : S4224x512.ReducesTo [0, 1] S_
  h_S_ : 0 < S_.numel
  bcast_S_S4224x128 : S_.BroadcastsInDim S4224x128 (![] : Fin 0 → Fin S4224x128.rank)
  reducesTo_S4224x128_S_d0_1 : S4224x128.ReducesTo [0, 1] S_
  bcast_S_S2x4x33x128x128 : S_.BroadcastsInDim S2x4x33x128x128 (![] : Fin 0 → Fin S2x4x33x128x128.rank)
  reducesTo_S2x4x33x128x128_S_d0_1_2_3_4 : S2x4x33x128x128.ReducesTo [0, 1, 2, 3, 4] S_
  bcast_S_S2x4x33x64x64 : S_.BroadcastsInDim S2x4x33x64x64 (![] : Fin 0 → Fin S2x4x33x64x64.rank)
  reducesTo_S2x4x33x64x64_S_d0_1_2_3_4 : S2x4x33x64x64.ReducesTo [0, 1, 2, 3, 4] S_

variable [Facts]

def fn_part1 {F : FTy → Type} [FloatOps F] (main_arg4 : FVec F S4224x128 .f32) (main_arg5 : FVec F S2x4x33x128x128 .f32) (main_arg6 : FVec F S2x4x33x64x64 .f32) (main_v13 : IVec S_ 1) (main_v16 : IVec S4224x512 1) : IVec S_ 1 :=
  let main_c_5 : IVec S_ 1 := constantI S_ 1 1#1
  let main_v17 : IVec S_ 1 := (fun x v => Host.reduce IntOp.andi x v reducesTo_S4224x512_S_d0_1 h_S_) main_v16 main_c_5
  let main_v18 : IVec S_ 1 := andi main_v13 main_v17
  let main_v19 : FVec F S4224x128 .f32 := Host.absf main_arg4
  let main_cst_6 : FVec F S_ .f32 := constant S_ .f32 0x7F800000#32
  let main_v20 : FVec F S4224x128 .f32 := broadcastInDim S4224x128 ![] bcast_S_S4224x128 main_cst_6
  let main_v21 : IVec S4224x128 1 := cmpf .olt main_v19 main_v20
  let main_c_7 : IVec S_ 1 := constantI S_ 1 1#1
  let main_v22 : IVec S_ 1 := (fun x v => Host.reduce IntOp.andi x v reducesTo_S4224x128_S_d0_1 h_S_) main_v21 main_c_7
  let main_v23 : IVec S_ 1 := andi main_v18 main_v22
  let main_v24 : FVec F S2x4x33x128x128 .f32 := Host.absf main_arg5
  let main_cst_8 : FVec F S_ .f32 := constant S_ .f32 0x7F800000#32
  let main_v25 : FVec F S2x4x33x128x128 .f32 := broadcastInDim S2x4x33x128x128 ![] bcast_S_S2x4x33x128x128 main_cst_8
  let main_v26 : IVec S2x4x33x128x128 1 := cmpf .olt main_v24 main_v25
  let main_c_9 : IVec S_ 1 := constantI S_ 1 1#1
  let main_v27 : IVec S_ 1 := (fun x v => Host.reduce IntOp.andi x v reducesTo_S2x4x33x128x128_S_d0_1_2_3_4 h_S_) main_v26 main_c_9
  let main_v28 : IVec S_ 1 := andi main_v23 main_v27
  let main_v29 : FVec F S2x4x33x64x64 .f32 := Host.absf main_arg6
  let main_cst_10 : FVec F S_ .f32 := constant S_ .f32 0x7F800000#32
  let main_v30 : FVec F S2x4x33x64x64 .f32 := broadcastInDim S2x4x33x64x64 ![] bcast_S_S2x4x33x64x64 main_cst_10
  let main_v31 : IVec S2x4x33x64x64 1 := cmpf .olt main_v29 main_v30
  let main_c_11 : IVec S_ 1 := constantI S_ 1 1#1
  let main_v32 : IVec S_ 1 := (fun x v => Host.reduce IntOp.andi x v reducesTo_S2x4x33x64x64_S_d0_1_2_3_4 h_S_) main_v31 main_c_11
  let main_v33 : IVec S_ 1 := andi main_v28 main_v32
  main_v33

def fn {F : FTy → Type} [FloatOps F] (main_arg0 : FVec F S4224x512 .f32) (main_arg1 : FVec F S4224x512 .f32) (main_arg2 : FVec F S4224x512 .f32) (main_arg3 : FVec F S4224x512 .f32) (main_arg4 : FVec F S4224x128 .f32) (main_arg5 : FVec F S2x4x33x128x128 .f32) (main_arg6 : FVec F S2x4x33x64x64 .f32) : IVec S_ 1 :=
  let main_v0 : FVec F S4224x512 .f32 := Host.absf main_arg0
  let main_cst : FVec F S_ .f32 := constant S_ .f32 0x7F800000#32
  let main_v1 : FVec F S4224x512 .f32 := broadcastInDim S4224x512 ![] bcast_S_S4224x512 main_cst
  let main_v2 : IVec S4224x512 1 := cmpf .olt main_v0 main_v1
  let main_c : IVec S_ 1 := constantI S_ 1 1#1
  let main_v3 : IVec S_ 1 := (fun x v => Host.reduce IntOp.andi x v reducesTo_S4224x512_S_d0_1 h_S_) main_v2 main_c
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_c_1 : IVec S_ 1 := constantI S_ 1 1#1
  let main_v7 : IVec S_ 1 := (fun x v => Host.reduce IntOp.andi x v reducesTo_S4224x512_S_d0_1 h_S_) main_v6 main_c_1
  let main_v8 : IVec S_ 1 := andi main_v3 main_v7
  let main_v9 : FVec F S4224x512 .f32 := Host.absf main_arg2
  let main_cst_2 : FVec F S_ .f32 := constant S_ .f32 0x7F800000#32
  let main_v10 : FVec F S4224x512 .f32 := broadcastInDim S4224x512 ![] bcast_S_S4224x512 main_cst_2
  let main_v11 : IVec S4224x512 1 := cmpf .olt main_v9 main_v10
  let main_c_3 : IVec S_ 1 := constantI S_ 1 1#1
  let main_v12 : IVec S_ 1 := (fun x v => Host.reduce IntOp.andi x v reducesTo_S4224x512_S_d0_1 h_S_) main_v11 main_c_3
  let main_v13 : IVec S_ 1 := andi main_v8 main_v12
  let main_v14 : FVec F S4224x512 .f32 := Host.absf main_arg3
  let main_cst_4 : FVec F S_ .f32 := constant S_ .f32 0x7F800000#32
  let main_v15 : FVec F S4224x512 .f32 := broadcastInDim S4224x512 ![] bcast_S_S4224x512 main_cst_4
  let main_v16 : IVec S4224x512 1 := cmpf .olt main_v14 main_v15
  fn_part1 (F := F) main_arg4 main_arg5 main_arg6 main_v13 main_v16
-- ==== Pre_finite_swiglu.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4224x2816 : S_.BroadcastsInDim S4224x2816 (![] : Fin 0 → Fin S4224x2816.rank)
  reducesTo_S4224x2816_S_d0_1 : S4224x2816.ReducesTo [0, 1] S_

variable [Facts]

def fn_part1 {F : FTy → Type} [FloatOps F] (main_v16 : IVec S_ 1) (main_v17 : FVec F S4224x2816 .f32) : IVec S_ 1 :=
  let main_v18 : FVec F S4224x2816 .f32 := Host.absf main_v17
  let main_cst_4 : FVec F S_ .f32 := constant S_ .f32 0x7F800000#32
  let main_v19 : FVec F S4224x2816 .f32 := broadcastInDim S4224x2816 ![] bcast_S_S4224x2816 main_cst_4
  let main_v20 : IVec S4224x2816 1 := cmpf .olt main_v18 main_v19
  let main_c_5 : IVec S_ 1 := constantI S_ 1 1#1
  let main_v21 : IVec S_ 1 := (fun x v => Host.reduce IntOp.andi x v reducesTo_S4224x2816_S_d0_1 h_S_) main_v20 main_c_5
  let main_v22 : IVec S_ 1 := andi main_v16 main_v21
  main_v22

def fn {F : FTy → Type} [FloatOps F] (main_arg0 : FVec F S4224x1024 .bf16) (main_arg1 : FVec F S2816x1024 .bf16) (main_arg2 : FVec F S4224x2816 .bf16) (main_arg3 : FVec F S4224x2816 .bf16) : IVec S_ 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_c : IVec S_ 1 := constantI S_ 1 1#1
  let main_v4 : IVec S_ 1 := (fun x v => Host.reduce IntOp.andi x v reducesTo_S4224x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4224x2816 .f32 := (extf .f32 · bitsLt_bf16_f32) main_arg2
  let main_v12 : FVec F S4224x2816 .f32 := Host.absf main_v11
  let main_cst_2 : FVec F S_ .f32 := constant S_ .f32 0x7F800000#32
  let main_v13 : FVec F S4224x2816 .f32 := broadcastInDim S4224x2816 ![] bcast_S_S4224x2816 main_cst_2
  let main_v14 : IVec S4224x2816 1 := cmpf .olt main_v12 main_v13
  let main_c_3 : IVec S_ 1 := constantI S_ 1 1#1
  let main_v15 : IVec S_ 1 := (fun x v => Host.reduce IntOp.andi x v reducesTo_S4224x2816_S_d0_1 h_S_) main_v14 main_c_3
  let main_v16 : IVec S_ 1 := andi main_v10 main_v15
  let main_v17 : FVec F S4224x2816 .f32 := (extf .f32 · bitsLt_bf16_f32) main_arg3
  fn_part1 (F := F) main_v16 main_v17
-- ==== Kernel.lean ====
abbrev S4224x512 : Shape := ⟨2, ![4224, 512]⟩
abbrev S4224x128 : Shape := ⟨2, ![4224, 128]⟩
abbrev S2x4x33x128x128 : Shape := ⟨5, ![2, 4, 33, 128, 128]⟩
abbrev S2x4x33x64x64 : Shape := ⟨5, ![2, 4, 33, 64, 64]⟩
abbrev S2x2112x512 : Shape := ⟨3, ![2, 2112, 512]⟩
abbrev S2x2112x128 : Shape := ⟨3, ![2, 2112, 128]⟩
abbrev S2x192x512 : Shape := ⟨3, ![2, 192, 512]⟩
abbrev S2x192x128 : Shape := ⟨3, ![2, 192, 128]⟩
abbrev S2x4x3x128x128 : Shape := ⟨5, ![2, 4, 3, 128, 128]⟩
abbrev S2x4x3x64x64 : Shape := ⟨5, ![2, 4, 3, 64, 64]⟩
abbrev S2x4x128x128 : Shape := ⟨4, ![2, 4, 128, 128]⟩
abbrev S64x64 : Shape := ⟨2, ![64, 64]⟩
abbrev S1x128 : Shape := ⟨2, ![1, 128]⟩
abbrev S1x64x128 : Shape := ⟨3, ![1, 64, 128]⟩
abbrev S64x128 : Shape := ⟨2, ![64, 128]⟩
abbrev S64x1 : Shape := ⟨2, ![64, 1]⟩
abbrev S1x1x1x128x128 : Shape := ⟨5, ![1, 1, 1, 128, 128]⟩
abbrev S128x128 : Shape := ⟨2, ![128, 128]⟩
abbrev S1x1x1x64x64 : Shape := ⟨5, ![1, 1, 1, 64, 64]⟩
abbrev S1x1x128x128 : Shape := ⟨4, ![1, 1, 128, 128]⟩
abbrev S64 : Shape := ⟨1, ![64]⟩
abbrev S1x64 : Shape := ⟨2, ![1, 64]⟩
abbrev S1 : Shape := ⟨1, ![1]⟩
abbrev S1x1 : Shape := ⟨2, ![1, 1]⟩
abbrev S128 : Shape := ⟨1, ![128]⟩
abbrev S128x1 : Shape := ⟨2, ![128, 1]⟩

abbrev nBuf : Space → Nat
  | .hbm => 16
  | .vmem => 23
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x512, .f32⟩
  | .hbm, ⟨3, _⟩ => ⟨S4224x512, .f32⟩
  | .hbm, ⟨4, _⟩ => ⟨S4224x128, .f32⟩
  | .hbm, ⟨5, _⟩ => ⟨S2x4x33x128x128, .f32⟩
  | .hbm, ⟨6, _⟩ => ⟨S2x4x33x64x64, .f32⟩
  | .hbm, ⟨7, _⟩ => ⟨S2x2112x512, .f32⟩
  | .hbm, ⟨8, _⟩ => ⟨S2x2112x512, .f32⟩
  | .hbm, ⟨9, _⟩ => ⟨S2x2112x512, .f32⟩
  | .hbm, ⟨10, _⟩ => ⟨S2x2112x512, .f32⟩
  | .hbm, ⟨11, _⟩ => ⟨S2x2112x128, .f32⟩
  | .hbm, ⟨12, _⟩ => ⟨S2x2112x512, .f32⟩
  | .hbm, ⟨13, _⟩ => ⟨S2x2112x512, .f32⟩
  | .hbm, ⟨14, _⟩ => ⟨S2x2112x512, .f32⟩
  | .hbm, ⟨15, _⟩ => ⟨S2x2112x128, .f32⟩
  | .local _ .vmem, ⟨0, _⟩ => ⟨S2x192x512, .f32⟩
  | .local _ .vmem, ⟨1, _⟩ => ⟨S2x192x512, .f32⟩
  | .local _ .vmem, ⟨2, _⟩ => ⟨S2x192x512, .f32⟩
  | .local _ .vmem, ⟨3, _⟩ => ⟨S2x192x512, .f32⟩
  | .local _ .vmem, ⟨4, _⟩ => ⟨S2x192x512, .f32⟩
  | .local _ .vmem, ⟨5, _⟩ => ⟨S2x192x512, .f32⟩
  | .local _ .vmem, ⟨6, _⟩ => ⟨S2x192x512, .f32⟩
  | .local _ .vmem, ⟨7, _⟩ => ⟨S2x192x512, .f32⟩
  | .local _ .vmem, ⟨8, _⟩ => ⟨S2x192x128, .f32⟩
  | .local _ .vmem, ⟨9, _⟩ => ⟨S2x192x128, .f32⟩
  | .local _ .vmem, ⟨10, _⟩ => ⟨S2x4x3x128x128, .f32⟩
  | .local _ .vmem, ⟨11, _⟩ => ⟨S2x4x3x128x128, .f32⟩
  | .local _ .vmem, ⟨12, _⟩ => ⟨S2x4x3x64x64, .f32⟩
  | .local _ .vmem, ⟨13, _⟩ => ⟨S2x4x3x64x64, .f32⟩
  | .local _ .vmem, ⟨14, _⟩ => ⟨S2x192x512, .f32⟩
  | .local _ .vmem, ⟨15, _⟩ => ⟨S2x192x512, .f32⟩
  | .local _ .vmem, ⟨16, _⟩ => ⟨S2x192x512, .f32⟩
  | .local _ .vmem, ⟨17, _⟩ => ⟨S2x192x512, .f32⟩
  | .local _ .vmem, ⟨18, _⟩ => ⟨S2x192x512, .f32⟩
  | .local _ .vmem, ⟨19, _⟩ => ⟨S2x192x512, .f32⟩
  | .local _ .vmem, ⟨20, _⟩ => ⟨S2x192x128, .f32⟩
  | .local _ .vmem, ⟨21, _⟩ => ⟨S2x192x128, .f32⟩
  | .local _ .vmem, ⟨22, _⟩ => ⟨S2x4x128x128, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32_1 : BitVec 32 := 0#32
  let c3_i32 : BitVec 32 := 3#32
  let v8 : BitVec 32 := Scalar.addi c0_i32_1 c3_i32
  let c1_i32 : BitVec 32 := 1#32
  ⟨c0_i32_1, v8, c1_i32⟩
def k0_mult1 (k0_t1 : Fin k0_t1_loop.trips) : BitVec 32 :=
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  v10
def k0_off1 (k0_t1 : Fin k0_t1_loop.trips) : Fin 3 → Nat :=
  let c0 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v12 : Index := Scalar.indexCast v11
  let c0_3 : Index := 0#32
  ![0, v12.toNat, 0]
def k0_off2 (k0_t1 : Fin k0_t1_loop.trips) : Fin 3 → Nat :=
  let c1 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v15 : Index := Scalar.indexCast v11
  let c0_4 : Index := 0#32
  ![1, v15.toNat, 0]
def k0_off3 (k0_t1 : Fin k0_t1_loop.trips) : Fin 3 → Nat :=
  let c0_5 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v18 : Index := Scalar.indexCast v11
  let c0_6 : Index := 0#32
  ![0, v18.toNat, 0]
def k0_off4 (k0_t1 : Fin k0_t1_loop.trips) : Fin 3 → Nat :=
  let c0_7 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v21 : Index := Scalar.indexCast v11
  let c128 : Index := 128#32
  ![0, v21.toNat, 128]
def k0_off5 (k0_t1 : Fin k0_t1_loop.trips) : Fin 3 → Nat :=
  let c0_8 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v24 : Index := Scalar.indexCast v11
  let c256 : Index := 256#32
  ![0, v24.toNat, 256]
def k0_off6 (k0_t1 : Fin k0_t1_loop.trips) : Fin 3 → Nat :=
  let c0_9 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v27 : Index := Scalar.indexCast v11
  let c384 : Index := 384#32
  ![0, v27.toNat, 384]
def k0_off7 (k0_t1 : Fin k0_t1_loop.trips) : Fin 3 → Nat :=
  let c1_10 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v30 : Index := Scalar.indexCast v11
  let c0_11 : Index := 0#32
  ![1, v30.toNat, 0]
def k0_off8 (k0_t1 : Fin k0_t1_loop.trips) : Fin 3 → Nat :=
  let c1_12 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v33 : Index := Scalar.indexCast v11
  let c128_13 : Index := 128#32
  ![1, v33.toNat, 128]
def k0_off9 (k0_t1 : Fin k0_t1_loop.trips) : Fin 3 → Nat :=
  let c1_14 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v36 : Index := Scalar.indexCast v11
  let c256_15 : Index := 256#32
  ![1, v36.toNat, 256]
def k0_off10 (k0_t1 : Fin k0_t1_loop.trips) : Fin 3 → Nat :=
  let c1_16 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let c64_i32 : BitVec 32 := 64#32
  let v10 : BitVec 32 := Scalar.muli v9 c64_i32
  let v11 : BitVec 32 := v10
  let v39 : Index := Scalar.indexCast v11
  let c384_17 : Index := 384#32
  ![1, v39.toNat, 384]
def k0_off11 (k0_t1 : Fin k0_t1_loop.trips) : Fin 5 → Nat :=
  let c0_66 : Index := 0#32
  let c0_67 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v122 : Index := Scalar.indexCast v9
  let c0_68 : Index := 0#32
  let c0_69 : Index := 0#32
  ![0, 0, v122.toNat, 0, 0]
def k0_off12 (k0_t1 : Fin k0_t1_loop.trips) : Fin 5 → Nat :=
  let c0_70 : Index := 0#32
  let c1_71 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v125 : Index := Scalar.indexCast v9
  let c0_72 : Index := 0#32
  let c0_73 : Index := 0#32
  ![0, 1, v125.toNat, 0, 0]
def k0_off13 (k0_t1 : Fin k0_t1_loop.trips) : Fin 5 → Nat :=
  let c0_74 : Index := 0#32
  let c2 : Index := 2#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v128 : Index := Scalar.indexCast v9
  let c0_75 : Index := 0#32
  let c0_76 : Index := 0#32
  ![0, 2, v128.toNat, 0, 0]
def k0_off14 (k0_t1 : Fin k0_t1_loop.trips) : Fin 5 → Nat :=
  let c0_77 : Index := 0#32
  let c3 : Index := 3#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v131 : Index := Scalar.indexCast v9
  let c0_78 : Index := 0#32
  let c0_79 : Index := 0#32
  ![0, 3, v131.toNat, 0, 0]
def k0_off15 (k0_t1 : Fin k0_t1_loop.trips) : Fin 5 → Nat :=
  let c1_80 : Index := 1#32
  let c0_81 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v134 : Index := Scalar.indexCast v9
  let c0_82 : Index := 0#32
  let c0_83 : Index := 0#32
  ![1, 0, v134.toNat, 0, 0]
def k0_off16 (k0_t1 : Fin k0_t1_loop.trips) : Fin 5 → Nat :=
  let c1_84 : Index := 1#32
  let c1_85 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v137 : Index := Scalar.indexCast v9
  let c0_86 : Index := 0#32
  let c0_87 : Index := 0#32
  ![1, 1, v137.toNat, 0, 0]
def k0_off17 (k0_t1 : Fin k0_t1_loop.trips) : Fin 5 → Nat :=
  let c1_88 : Index := 1#32
  let c2_89 : Index := 2#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v140 : Index := Scalar.indexCast v9
  let c0_90 : Index := 0#32
  let c0_91 : Index := 0#32
  ![1, 2, v140.toNat, 0, 0]
def k0_off18 (k0_t1 : Fin k0_t1_loop.trips) : Fin 5 → Nat :=
  let c1_92 : Index := 1#32
  let c3_93 : Index := 3#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v143 : Index := Scalar.indexCast v9
  let c0_94 : Index := 0#32
  let c0_95 : Index := 0#32
  ![1, 3, v143.toNat, 0, 0]
def k0_off19 (k0_t1 : Fin k0_t1_loop.trips) : Fin 5 → Nat :=
  let c0_96 : Index := 0#32
  let c0_97 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v146 : Index := Scalar.indexCast v9
  let c0_98 : Index := 0#32
  let c0_99 : Index := 0#32
  ![0, 0, v146.toNat, 0, 0]
def k0_off20 (k0_t1 : Fin k0_t1_loop.trips) : Fin 5 → Nat :=
  let c0_100 : Index := 0#32
  let c1_101 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v149 : Index := Scalar.indexCast v9
  let c0_102 : Index := 0#32
  let c0_103 : Index := 0#32
  ![0, 1, v149.toNat, 0, 0]
def k0_off21 (k0_t1 : Fin k0_t1_loop.trips) : Fin 5 → Nat :=
  let c0_104 : Index := 0#32
  let c2_105 : Index := 2#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v152 : Index := Scalar.indexCast v9
  let c0_106 : Index := 0#32
  let c0_107 : Index := 0#32
  ![0, 2, v152.toNat, 0, 0]
def k0_off22 (k0_t1 : Fin k0_t1_loop.trips) : Fin 5 → Nat :=
  let c0_108 : Index := 0#32
  let c3_109 : Index := 3#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v155 : Index := Scalar.indexCast v9
  let c0_110 : Index := 0#32
  let c0_111 : Index := 0#32
  ![0, 3, v155.toNat, 0, 0]
def k0_off23 (k0_t1 : Fin k0_t1_loop.trips) : Fin 5 → Nat :=
  let c1_112 : Index := 1#32
  let c0_113 : Index := 0#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v158 : Index := Scalar.indexCast v9
  let c0_114 : Index := 0#32
  let c0_115 : Index := 0#32
  ![1, 0, v158.toNat, 0, 0]
def k0_off24 (k0_t1 : Fin k0_t1_loop.trips) : Fin 5 → Nat :=
  let c1_116 : Index := 1#32
  let c1_117 : Index := 1#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v161 : Index := Scalar.indexCast v9
  let c0_118 : Index := 0#32
  let c0_119 : Index := 0#32
  ![1, 1, v161.toNat, 0, 0]
def k0_off25 (k0_t1 : Fin k0_t1_loop.trips) : Fin 5 → Nat :=
  let c1_120 : Index := 1#32
  let c2_121 : Index := 2#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v164 : Index := Scalar.indexCast v9
  let c0_122 : Index := 0#32
  let c0_123 : Index := 0#32
  ![1, 2, v164.toNat, 0, 0]
def k0_off26 (k0_t1 : Fin k0_t1_loop.trips) : Fin 5 → Nat :=
  let c1_124 : Index := 1#32
  let c3_125 : Index := 3#32
  let c2_i32 : BitVec 32 := 2#32
  let c0_i32_1 : BitVec 32 := 0#32
  let c1_i32 : BitVec 32 := 1#32
  let arg13 : BitVec 32 := Scf.iv c0_i32_1 c1_i32 k0_t1
  let v9 : BitVec 32 := Scalar.subi c2_i32 arg13
  let v167 : Index := Scalar.indexCast v9
  let c0_126 : Index := 0#32
  let c0_127 : Index := 0#32
  ![1, 3, v167.toNat, 0, 0]
def cc0_transform_0 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 5 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_6 (i : grid0.Coords) : Fin 5 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_7 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x3x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x3x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4224x512 : Shape := ⟨2, ![4224, 512]⟩
abbrev S4224x128 : Shape := ⟨2, ![4224, 128]⟩
abbrev S2x4x33x128x128 : Shape := ⟨5, ![2, 4, 33, 128, 128]⟩
abbrev S2x4x33x64x64 : Shape := ⟨5, ![2, 4, 33, 64, 64]⟩
abbrev S4224x4 : Shape := ⟨2, ![4224, 4]⟩
abbrev S2x33x64x4x1 : Shape := ⟨5, ![2, 33, 64, 4, 1]⟩
abbrev S33x2x4x64x1 : Shape := ⟨5, ![33, 2, 4, 64, 1]⟩
abbrev S33x2x4x64 : Shape := ⟨4, ![33, 2, 4, 64]⟩
abbrev S2x33x64x4x128 : Shape := ⟨5, ![2, 33, 64, 4, 128]⟩
abbrev S33x2x4x64x128 : Shape := ⟨5, ![33, 2, 4, 64, 128]⟩
abbrev S33x2x4x128x128 : Shape := ⟨5, ![33, 2, 4, 128, 128]⟩
abbrev S33x2x4x64x64 : Shape := ⟨5, ![33, 2, 4, 64, 64]⟩
abbrev S_ : Shape := ⟨0, ![]⟩
abbrev S2x4x128x128 : Shape := ⟨4, ![2, 4, 128, 128]⟩
abbrev S1x2x4x64x128 : Shape := ⟨5, ![1, 2, 4, 64, 128]⟩
abbrev S2x4x64x128 : Shape := ⟨4, ![2, 4, 64, 128]⟩
abbrev S1x2x4x64 : Shape := ⟨4, ![1, 2, 4, 64]⟩
abbrev S2x4x64 : Shape := ⟨3, ![2, 4, 64]⟩
abbrev S1x2x4x128x128 : Shape := ⟨5, ![1, 2, 4, 128, 128]⟩
abbrev S1x2x4x64x64 : Shape := ⟨5, ![1, 2, 4, 64, 64]⟩
abbrev S2x4x64x64 : Shape := ⟨4, ![2, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x64x1 : Shape := ⟨4, ![2, 4, 64, 1]⟩
abbrev S2x4x1x64 : Shape := ⟨4, ![2, 4, 1, 64]⟩
abbrev S2x4x1 : Shape := ⟨3, ![2, 4, 1]⟩
abbrev S2x4 : Shape := ⟨2, ![2, 4]⟩
abbrev S2x4x1x1 : Shape := ⟨4, ![2, 4, 1, 1]⟩
abbrev S2x4x128x64 : Shape := ⟨4, ![2, 4, 128, 64]⟩
abbrev S2x2112x4 : Shape := ⟨3, ![2, 2112, 4]⟩
abbrev S2x2112x8 : Shape := ⟨3, ![2, 2112, 8]⟩
abbrev S2x2112x512 : Shape := ⟨3, ![2, 2112, 512]⟩
abbrev S2x2112x128 : Shape := ⟨3, ![2, 2112, 128]⟩

abbrev nBuf : Space → Nat
  | .hbm => 375
  | .vmem => 0
  | .smem => 0
  | _ => 0

abbrev hbmTy0_0 (i : Nat) : BufTy := match i % 128 with
  | 0 => ⟨S4224x512, .f32⟩
  | 1 => ⟨S4224x512, .f32⟩
  | 2 => ⟨S4224x512, .f32⟩
  | 3 => ⟨S4224x512, .f32⟩
  | 4 => ⟨S4224x128, .f32⟩
  | 5 => ⟨S2x4x33x128x128, .f32⟩
  | 6 => ⟨S2x4x33x64x64, .f32⟩
  | 7 => ⟨S4224x4, .f32⟩
  | 8 => ⟨S2x33x64x4x1, .f32⟩
  | 9 => ⟨S33x2x4x64x1, .f32⟩
  | 10 => ⟨S33x2x4x64, .f32⟩
  | 11 => ⟨S4224x4, .f32⟩
  | 12 => ⟨S2x33x64x4x1, .f32⟩
  | 13 => ⟨S33x2x4x64x1, .f32⟩
  | 14 => ⟨S33x2x4x64, .f32⟩
  | 15 => ⟨S2x33x64x4x128, .f32⟩
  | 16 => ⟨S33x2x4x64x128, .f32⟩
  | 17 => ⟨S2x33x64x4x128, .f32⟩
  | 18 => ⟨S33x2x4x64x128, .f32⟩
  | 19 => ⟨S2x33x64x4x128, .f32⟩
  | 20 => ⟨S33x2x4x64x128, .f32⟩
  | 21 => ⟨S2x33x64x4x128, .f32⟩
  | 22 => ⟨S33x2x4x64x128, .f32⟩
  | 23 => ⟨S33x2x4x128x128, .f32⟩
  | 24 => ⟨S33x2x4x64x64, .f32⟩
  | 25 => ⟨S_, .f32⟩
  | 26 => ⟨S2x4x128x128, .f32⟩
  | 27 => ⟨S_, .f32⟩
  | 28 => ⟨S33x2x4x64x128, .f32⟩
  | 29 => ⟨S_, .f32⟩
  | 30 => ⟨S33x2x4x64x128, .f32⟩
  | 31 => ⟨S_, .f32⟩
  | 32 => ⟨S33x2x4x64x128, .f32⟩
  | 33 => ⟨S_, .f32⟩
  | 34 => ⟨S33x2x4x64, .f32⟩
  | 35 => ⟨S_, .f32⟩
  | 36 => ⟨S33x2x4x64, .f32⟩
  | 37 => ⟨S_, .i32⟩
  | 38 => ⟨S33x2x4x64x128, .f32⟩
  | 39 => ⟨S33x2x4x64x128, .f32⟩
  | 40 => ⟨S33x2x4x64x128, .f32⟩
  | 41 => ⟨S33x2x4x64x128, .f32⟩
  | 42 => ⟨S33x2x4x64, .f32⟩
  | 43 => ⟨S33x2x4x64, .f32⟩
  | 44 => ⟨S33x2x4x128x128, .f32⟩
  | 45 => ⟨S33x2x4x64x64, .f32⟩
  | 46 => ⟨S_, .i32⟩
  | 47 => ⟨S2x4x128x128, .f32⟩
  | 48 => ⟨S33x2x4x64x128, .f32⟩
  | 49 => ⟨S33x2x4x64x128, .f32⟩
  | 50 => ⟨S33x2x4x64x128, .f32⟩
  | 51 => ⟨S33x2x4x64, .f32⟩
  | 52 => ⟨S33x2x4x64, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S1x2x4x64x128, .f32⟩
  | 64 => ⟨S2x4x64x128, .f32⟩
  | 65 => ⟨S_, .i32⟩
  | 66 => ⟨S_, .i32⟩
  | 67 => ⟨S_, .i32⟩
  | 68 => ⟨S_, .i32⟩
  | 69 => ⟨S1x2x4x64x128, .f32⟩
  | 70 => ⟨S2x4x64x128, .f32⟩
  | 71 => ⟨S_, .i32⟩
  | 72 => ⟨S_, .i32⟩
  | 73 => ⟨S_, .i32⟩
  | 74 => ⟨S_, .i32⟩
  | 75 => ⟨S1x2x4x64x128, .f32⟩
  | 76 => ⟨S2x4x64x128, .f32⟩
  | 77 => ⟨S_, .i32⟩
  | 78 => ⟨S_, .i32⟩
  | 79 => ⟨S_, .i32⟩
  | 80 => ⟨S_, .i32⟩
  | 81 => ⟨S1x2x4x64x128, .f32⟩
  | 82 => ⟨S2x4x64x128, .f32⟩
  | 83 => ⟨S_, .i32⟩
  | 84 => ⟨S_, .i32⟩
  | 85 => ⟨S_, .i32⟩
  | 86 => ⟨S1x2x4x64, .f32⟩
  | 87 => ⟨S2x4x64, .f32⟩
  | 88 => ⟨S_, .i32⟩
  | 89 => ⟨S_, .i32⟩
  | 90 => ⟨S_, .i32⟩
  | 91 => ⟨S1x2x4x64, .f32⟩
  | 92 => ⟨S2x4x64, .f32⟩
  | 93 => ⟨S_, .i32⟩
  | 94 => ⟨S_, .i32⟩
  | 95 => ⟨S_, .i32⟩
  | 96 => ⟨S_, .i32⟩
  | 97 => ⟨S1x2x4x128x128, .f32⟩
  | 98 => ⟨S2x4x128x128, .f32⟩
  | 99 => ⟨S_, .i32⟩
  | 100 => ⟨S_, .i32⟩
  | 101 => ⟨S_, .i32⟩
  | 102 => ⟨S_, .i32⟩
  | 103 => ⟨S1x2x4x64x64, .f32⟩
  | 104 => ⟨S2x4x64x64, .f32⟩
  | 105 => ⟨S_, .f32⟩
  | 106 => ⟨S_, .f32⟩
  | 107 => ⟨S2x4x64, .f32⟩
  | 108 => ⟨S64, .i32⟩
  | 109 => ⟨S64x1, .i32⟩
  | 110 => ⟨S1x64, .i32⟩
  | 111 => ⟨S64x64, .i32⟩
  | 112 => ⟨S64x64, .i32⟩
  | 113 => ⟨S64x64, .i1⟩
  | 114 => ⟨S64x1, .i32⟩
  | 115 => ⟨S1x64, .i32⟩
  | 116 => ⟨S64x64, .i32⟩
  | 117 => ⟨S64x64, .i32⟩
  | 118 => ⟨S64x64, .i1⟩
  | 119 => ⟨S2x4x64x1, .f32⟩
  | 120 => ⟨S2x4x1x64, .f32⟩
  | 121 => ⟨S2x4x64x64, .f32⟩
  | 122 => ⟨S2x4x64x64, .f32⟩
  | 123 => ⟨S2x4x64x64, .f32⟩
  | 124 => ⟨S_, .f32⟩
  | 125 => ⟨S_, .f32⟩
  | 126 => ⟨S2x4x64x64, .i1⟩
  | 127 => ⟨S2x4x64x64, .f32⟩
  | _ => ⟨S4224x512, .f32⟩

abbrev hbmTy0_1 (i : Nat) : BufTy := match i % 128 with
  | 0 => ⟨S2x4x64x64, .f32⟩
  | 1 => ⟨S_, .f32⟩
  | 2 => ⟨S2x4x64x64, .f32⟩
  | 3 => ⟨S2x4x64x64, .f32⟩
  | 4 => ⟨S_, .f32⟩
  | 5 => ⟨S_, .f32⟩
  | 6 => ⟨S2x4x64x64, .i1⟩
  | 7 => ⟨S2x4x64x64, .f32⟩
  | 8 => ⟨S2x4x64x64, .f32⟩
  | 9 => ⟨S_, .f32⟩
  | 10 => ⟨S2x4x64x64, .f32⟩
  | 11 => ⟨S2x4x64x1, .f32⟩
  | 12 => ⟨S2x4x64x128, .f32⟩
  | 13 => ⟨S2x4x64x128, .f32⟩
  | 14 => ⟨S2x4x64x64, .f32⟩
  | 15 => ⟨S2x4x64x64, .f32⟩
  | 16 => ⟨S_, .f32⟩
  | 17 => ⟨S_, .f32⟩
  | 18 => ⟨S2x4x64x64, .i1⟩
  | 19 => ⟨S2x4x64x64, .f32⟩
  | 20 => ⟨S2x4x64x64, .f32⟩
  | 21 => ⟨S_, .f32⟩
  | 22 => ⟨S2x4x64x64, .f32⟩
  | 23 => ⟨S2x4x64x1, .f32⟩
  | 24 => ⟨S2x4x64x128, .f32⟩
  | 25 => ⟨S2x4x64x128, .f32⟩
  | 26 => ⟨S2x4x64x128, .f32⟩
  | 27 => ⟨S2x4x64, .f32⟩
  | 28 => ⟨S2x4x64x1, .f32⟩
  | 29 => ⟨S2x4x64x128, .f32⟩
  | 30 => ⟨S2x4x64x128, .f32⟩
  | 31 => ⟨S2x4x64x128, .f32⟩
  | 32 => ⟨S2x4x64x64, .f32⟩
  | 33 => ⟨S2x4x64x64, .f32⟩
  | 34 => ⟨S_, .f32⟩
  | 35 => ⟨S_, .f32⟩
  | 36 => ⟨S2x4x64x64, .i1⟩
  | 37 => ⟨S2x4x64x64, .f32⟩
  | 38 => ⟨S2x4x64x64, .f32⟩
  | 39 => ⟨S_, .f32⟩
  | 40 => ⟨S2x4x64x64, .f32⟩
  | 41 => ⟨S2x4x64, .f32⟩
  | 42 => ⟨S2x4x64x1, .f32⟩
  | 43 => ⟨S2x4x64x128, .f32⟩
  | 44 => ⟨S2x4x64x128, .f32⟩
  | 45 => ⟨S2x4x1, .f32⟩
  | 46 => ⟨S2x4x64, .f32⟩
  | 47 => ⟨S2x4x64, .f32⟩
  | 48 => ⟨S2x4x64, .f32⟩
  | 49 => ⟨S2x4x64x1, .f32⟩
  | 50 => ⟨S2x4x64x128, .f32⟩
  | 51 => ⟨S2x4x64x128, .f32⟩
  | 52 => ⟨S2x4x1, .f32⟩
  | 53 => ⟨S2x4, .f32⟩
  | 54 => ⟨S2x4, .f32⟩
  | 55 => ⟨S2x4x64x128, .f32⟩
  | 56 => ⟨S2x4x64x128, .f32⟩
  | 57 => ⟨S2x4x64x128, .f32⟩
  | 58 => ⟨S2x4x64x128, .f32⟩
  | 59 => ⟨S2x4x64x128, .f32⟩
  | 60 => ⟨S2x4x1x1, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x4x128x64, .f32⟩
  | 66 => ⟨S2x4x64x128, .f32⟩
  | 67 => ⟨S2x4x128x64, .f32⟩
  | 68 => ⟨S2x4x64x128, .f32⟩
  | 69 => ⟨S2x4x128x128, .f32⟩
  | 70 => ⟨S_, .f32⟩
  | 71 => ⟨S2x4, .f32⟩
  | 72 => ⟨S2x4x1x1, .f32⟩
  | 73 => ⟨S2x4x128x128, .f32⟩
  | 74 => ⟨S2x4x128x128, .f32⟩
  | 75 => ⟨S_, .f32⟩
  | 76 => ⟨S2x4, .f32⟩
  | 77 => ⟨S2x4x128x64, .f32⟩
  | 78 => ⟨S2x4x64x128, .f32⟩
  | 79 => ⟨S2x4x64x128, .f32⟩
  | 80 => ⟨S2x4x64x64, .f32⟩
  | 81 => ⟨S2x4x128x128, .f32⟩
  | 82 => ⟨S2x4x128x128, .f32⟩
  | 83 => ⟨S2x4x128x128, .f32⟩
  | 84 => ⟨S2x4x64x128, .f32⟩
  | 85 => ⟨S2x4x64x128, .f32⟩
  | 86 => ⟨S2x4x128x128, .f32⟩
  | 87 => ⟨S2x4x128x128, .f32⟩
  | 88 => ⟨S2x4x128x128, .f32⟩
  | 89 => ⟨S2x4x64x128, .f32⟩
  | 90 => ⟨S2x4, .f32⟩
  | 91 => ⟨S2x4x1, .f32⟩
  | 92 => ⟨S_, .f32⟩
  | 93 => ⟨S2x4x64, .f32⟩
  | 94 => ⟨S2x4x64x128, .f32⟩
  | 95 => ⟨S_, .f32⟩
  | 96 => ⟨S2x4x64, .f32⟩
  | 97 => ⟨S2x4x64x1, .f32⟩
  | 98 => ⟨S2x4x64x128, .f32⟩
  | 99 => ⟨S2x4x64x128, .f32⟩
  | 100 => ⟨S_, .f32⟩
  | 101 => ⟨S2x4x64, .f32⟩
  | 102 => ⟨S2x4x64, .f32⟩
  | 103 => ⟨S_, .f32⟩
  | 104 => ⟨S2x4, .f32⟩
  | 105 => ⟨S2x4x1, .f32⟩
  | 106 => ⟨S2x4x64, .f32⟩
  | 107 => ⟨S2x4x64, .f32⟩
  | 108 => ⟨S_, .f32⟩
  | 109 => ⟨S2x4x64, .f32⟩
  | 110 => ⟨S2x4x64, .f32⟩
  | 111 => ⟨S2x4x64x128, .f32⟩
  | 112 => ⟨S_, .f32⟩
  | 113 => ⟨S2x4x64, .f32⟩
  | 114 => ⟨S2x4x64x1, .f32⟩
  | 115 => ⟨S2x4x64x128, .f32⟩
  | 116 => ⟨S2x4x64x128, .f32⟩
  | 117 => ⟨S_, .f32⟩
  | 118 => ⟨S2x4x64, .f32⟩
  | 119 => ⟨S2x4x64, .f32⟩
  | 120 => ⟨S2x4x64, .f32⟩
  | 121 => ⟨S_, .f32⟩
  | 122 => ⟨S2x4x64x64, .f32⟩
  | 123 => ⟨S2x4x64x64, .f32⟩
  | 124 => ⟨S2x4x64x64, .f32⟩
  | 125 => ⟨S2x4x64x64, .f32⟩
  | 126 => ⟨S2x4x64x128, .f32⟩
  | 127 => ⟨S2x4x64x128, .f32⟩
  | _ => ⟨S4224x512, .f32⟩

abbrev hbmTy0_2 (i : Nat) : BufTy := match i % 128 with
  | 0 => ⟨S2x4x64x128, .f32⟩
  | 1 => ⟨S2x4x64x128, .f32⟩
  | 2 => ⟨S2x4x128x64, .f32⟩
  | 3 => ⟨S2x4x64x128, .f32⟩
  | 4 => ⟨S2x4x64x64, .f32⟩
  | 5 => ⟨S2x4x64x128, .f32⟩
  | 6 => ⟨S_, .f32⟩
  | 7 => ⟨S2x4x64, .f32⟩
  | 8 => ⟨S2x4x64x1, .f32⟩
  | 9 => ⟨S2x4x64x128, .f32⟩
  | 10 => ⟨S2x4x64x128, .f32⟩
  | 11 => ⟨S_, .f32⟩
  | 12 => ⟨S2x4x64, .f32⟩
  | 13 => ⟨S2x4x64, .f32⟩
  | 14 => ⟨S2x4x64, .f32⟩
  | 15 => ⟨S2x4x128x64, .f32⟩
  | 16 => ⟨S2x4x64x128, .f32⟩
  | 17 => ⟨S2x4x64x64, .f32⟩
  | 18 => ⟨S2x4x64x64, .f32⟩
  | 19 => ⟨S2x4x64x128, .f32⟩
  | 20 => ⟨S_, .f32⟩
  | 21 => ⟨S2x4x64, .f32⟩
  | 22 => ⟨S2x4x64x1, .f32⟩
  | 23 => ⟨S2x4x64x128, .f32⟩
  | 24 => ⟨S2x4x64x128, .f32⟩
  | 25 => ⟨S_, .f32⟩
  | 26 => ⟨S2x4x64, .f32⟩
  | 27 => ⟨S2x4x64x64, .f32⟩
  | 28 => ⟨S2x4x64x64, .f32⟩
  | 29 => ⟨S2x4x64x64, .f32⟩
  | 30 => ⟨S_, .f32⟩
  | 31 => ⟨S2x4x64x64, .f32⟩
  | 32 => ⟨S2x4x64x64, .f32⟩
  | 33 => ⟨S2x4x64x64, .f32⟩
  | 34 => ⟨S2x4x64x64, .f32⟩
  | 35 => ⟨S2x4x64x64, .f32⟩
  | 36 => ⟨S2x4x64x128, .f32⟩
  | 37 => ⟨S2x4x64x128, .f32⟩
  | 38 => ⟨S2x4x64x128, .f32⟩
  | 39 => ⟨S2x4x64x128, .f32⟩
  | 40 => ⟨S2x4x64x128, .f32⟩
  | 41 => ⟨S_, .f32⟩
  | 42 => ⟨S2x4x64, .f32⟩
  | 43 => ⟨S2x4x64x1, .f32⟩
  | 44 => ⟨S2x4x64x128, .f32⟩
  | 45 => ⟨S2x4x64x128, .f32⟩
  | 46 => ⟨S2x4x64x128, .f32⟩
  | 47 => ⟨S_, .f32⟩
  | 48 => ⟨S2x4x64, .f32⟩
  | 49 => ⟨S2x4x64, .f32⟩
  | 50 => ⟨S_, .f32⟩
  | 51 => ⟨S2x4x64x64, .f32⟩
  | 52 => ⟨S2x4x64x64, .f32⟩
  | 53 => ⟨S2x4x64x64, .f32⟩
  | 54 => ⟨S_, .f32⟩
  | 55 => ⟨S2x4x64x64, .f32⟩
  | 56 => ⟨S2x4x64x64, .f32⟩
  | 57 => ⟨S_, .f32⟩
  | 58 => ⟨S2x4x64, .f32⟩
  | 59 => ⟨S2x4x64x1, .f32⟩
  | 60 => ⟨S2x4x64x64, .f32⟩
  | 61 => ⟨S_, .f32⟩
  | 62 => ⟨S2x4x64, .f32⟩
  | 63 => ⟨S2x4x1x64, .f32⟩
  | 64 => ⟨S_, .f32⟩
  | 65 => ⟨S2x4x64, .f32⟩
  | 66 => ⟨S2x4x64, .f32⟩
  | 67 => ⟨S_, .f32⟩
  | 68 => ⟨S2x4x64, .f32⟩
  | 69 => ⟨S2x4x64, .f32⟩
  | 70 => ⟨S_, .f32⟩
  | 71 => ⟨S_, .f32⟩
  | 72 => ⟨S2x4x64, .f32⟩
  | 73 => ⟨S1x2x4x64x128, .f32⟩
  | 74 => ⟨S_, .i32⟩
  | 75 => ⟨S_, .i32⟩
  | 76 => ⟨S_, .i32⟩
  | 77 => ⟨S_, .i32⟩
  | 78 => ⟨S33x2x4x64x128, .f32⟩
  | 79 => ⟨S1x2x4x64x128, .f32⟩
  | 80 => ⟨S_, .i32⟩
  | 81 => ⟨S_, .i32⟩
  | 82 => ⟨S_, .i32⟩
  | 83 => ⟨S_, .i32⟩
  | 84 => ⟨S33x2x4x64x128, .f32⟩
  | 85 => ⟨S1x2x4x64x128, .f32⟩
  | 86 => ⟨S_, .i32⟩
  | 87 => ⟨S_, .i32⟩
  | 88 => ⟨S_, .i32⟩
  | 89 => ⟨S_, .i32⟩
  | 90 => ⟨S33x2x4x64x128, .f32⟩
  | 91 => ⟨S1x2x4x64, .f32⟩
  | 92 => ⟨S_, .i32⟩
  | 93 => ⟨S_, .i32⟩
  | 94 => ⟨S_, .i32⟩
  | 95 => ⟨S33x2x4x64, .f32⟩
  | 96 => ⟨S1x2x4x64, .f32⟩
  | 97 => ⟨S_, .i32⟩
  | 98 => ⟨S_, .i32⟩
  | 99 => ⟨S_, .i32⟩
  | 100 => ⟨S33x2x4x64, .f32⟩
  | 101 => ⟨S_, .i32⟩
  | 102 => ⟨S_, .i32⟩
  | 103 => ⟨S33x2x4x64x1, .f32⟩
  | 104 => ⟨S2x33x64x4x1, .f32⟩
  | 105 => ⟨S2x2112x4, .f32⟩
  | 106 => ⟨S33x2x4x64x1, .f32⟩
  | 107 => ⟨S2x33x64x4x1, .f32⟩
  | 108 => ⟨S2x2112x4, .f32⟩
  | 109 => ⟨S2x2112x8, .f32⟩
  | 110 => ⟨S2x33x64x4x128, .f32⟩
  | 111 => ⟨S2x2112x512, .f32⟩
  | 112 => ⟨S2x33x64x4x128, .f32⟩
  | 113 => ⟨S2x2112x512, .f32⟩
  | 114 => ⟨S2x33x64x4x128, .f32⟩
  | 115 => ⟨S2x2112x512, .f32⟩
  | 116 => ⟨S_, .i32⟩
  | 117 => ⟨S_, .f32⟩
  | 118 => ⟨S2x2112x128, .f32⟩
  | _ => ⟨S4224x512, .f32⟩

abbrev hbmTy (i : Nat) : BufTy := match i / 128 with
  | 0 => hbmTy0_0 i
  | 1 => hbmTy0_1 i
  | 2 => hbmTy0_2 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_c : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_v24_5 : Ref sig .tc := ⟨.hbm, 43, rfl⟩
abbrev main_v24_6 : Ref sig .tc := ⟨.hbm, 44, rfl⟩
abbrev main_v24_7 : Ref sig .tc := ⟨.hbm, 45, rfl⟩
abbrev main_v24_8 : Ref sig .tc := ⟨.hbm, 46, rfl⟩
abbrev main_v24_9 : Ref sig .tc := ⟨.hbm, 47, rfl⟩
abbrev main_v24_10 : Ref sig .tc := ⟨.hbm, 48, rfl⟩
abbrev main_v24_11 : Ref sig .tc := ⟨.hbm, 49, rfl⟩
abbrev main_v24_12 : Ref sig .tc := ⟨.hbm, 50, rfl⟩
abbrev main_v24_13 : Ref sig .tc := ⟨.hbm, 51, rfl⟩
abbrev main_v24_14 : Ref sig .tc := ⟨.hbm, 52, rfl⟩
abbrev main_while0c_c_20 : Ref sig .tc := ⟨.hbm, 53, rfl⟩
abbrev main_while0c_v39 : Ref sig .tc := ⟨.hbm, 54, rfl⟩
abbrev main_while0b_c_20 : Ref sig .tc := ⟨.hbm, 55, rfl⟩
abbrev main_while0b_v39 : Ref sig .tc := ⟨.hbm, 56, rfl⟩
abbrev main_while0b_c_21 : Ref sig .tc := ⟨.hbm, 57, rfl⟩
abbrev main_while0b_v40 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_c_2 : Ref sig .tc := ⟨.hbm, 62, rfl⟩
abbrev main_while0b_call0_v0 : Ref sig .tc := ⟨.hbm, 63, rfl⟩
abbrev main_while0b_v41 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_call1_c_1 : Ref sig .tc := ⟨.hbm, 67, rfl⟩
abbrev main_while0b_call1_c_2 : Ref sig .tc := ⟨.hbm, 68, rfl⟩
abbrev main_while0b_call1_v0 : Ref sig .tc := ⟨.hbm, 69, rfl⟩
abbrev main_while0b_v42 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_c_2 : Ref sig .tc := ⟨.hbm, 74, rfl⟩
abbrev main_while0b_call2_v0 : Ref sig .tc := ⟨.hbm, 75, rfl⟩
abbrev main_while0b_v43 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_c_2 : Ref sig .tc := ⟨.hbm, 80, rfl⟩
abbrev main_while0b_call3_v0 : Ref sig .tc := ⟨.hbm, 81, rfl⟩
abbrev main_while0b_v44 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v45 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v46 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_call6_v0 : Ref sig .tc := ⟨.hbm, 97, rfl⟩
abbrev main_while0b_v47 : Ref sig .tc := ⟨.hbm, 98, rfl⟩
abbrev main_while0b_call7_c : Ref sig .tc := ⟨.hbm, 99, rfl⟩
abbrev main_while0b_call7_c_0 : Ref sig .tc := ⟨.hbm, 100, rfl⟩
abbrev main_while0b_call7_c_1 : Ref sig .tc := ⟨.hbm, 101, rfl⟩
abbrev main_while0b_call7_c_2 : Ref sig .tc := ⟨.hbm, 102, rfl⟩
abbrev main_while0b_call7_v0 : Ref sig .tc := ⟨.hbm, 103, rfl⟩
abbrev main_while0b_v48 : Ref sig .tc := ⟨.hbm, 104, rfl⟩
abbrev main_while0b_call8_call0_cst : Ref sig .tc := ⟨.hbm, 105, rfl⟩
abbrev main_while0b_call8_call0_v0 : Ref sig .tc := ⟨.hbm, 106, rfl⟩
abbrev main_while0b_v49 : Ref sig .tc := ⟨.hbm, 107, rfl⟩
abbrev main_while0b_v50 : Ref sig .tc := ⟨.hbm, 108, rfl⟩
abbrev main_while0b_v51 : Ref sig .tc := ⟨.hbm, 109, rfl⟩
abbrev main_while0b_v52 : Ref sig .tc := ⟨.hbm, 110, rfl⟩
abbrev main_while0b_v53 : Ref sig .tc := ⟨.hbm, 111, rfl⟩
abbrev main_while0b_v54 : Ref sig .tc := ⟨.hbm, 112, rfl⟩
abbrev main_while0b_v55 : Ref sig .tc := ⟨.hbm, 113, rfl⟩
abbrev main_while0b_v56 : Ref sig .tc := ⟨.hbm, 114, rfl⟩
abbrev main_while0b_v57 : Ref sig .tc := ⟨.hbm, 115, rfl⟩
abbrev main_while0b_v58 : Ref sig .tc := ⟨.hbm, 116, rfl⟩
abbrev main_while0b_v59 : Ref sig .tc := ⟨.hbm, 117, rfl⟩
abbrev main_while0b_v60 : Ref sig .tc := ⟨.hbm, 118, rfl⟩
abbrev main_while0b_v61 : Ref sig .tc := ⟨.hbm, 119, rfl⟩
abbrev main_while0b_v62 : Ref sig .tc := ⟨.hbm, 120, rfl⟩
abbrev main_while0b_v63 : Ref sig .tc := ⟨.hbm, 121, rfl⟩
abbrev main_while0b_v64 : Ref sig .tc := ⟨.hbm, 122, rfl⟩
abbrev main_while0b_v65 : Ref sig .tc := ⟨.hbm, 123, rfl⟩
abbrev main_while0b_cst_22 : Ref sig .tc := ⟨.hbm, 124, rfl⟩
abbrev main_while0b_call9_v0 : Ref sig .tc := ⟨.hbm, 125, rfl⟩
abbrev main_while0b_v66_1 : Ref sig .tc := ⟨.hbm, 126, rfl⟩
abbrev main_while0b_call9_v2 : Ref sig .tc := ⟨.hbm, 127, rfl⟩
abbrev main_while0b_v66_0 : Ref sig .tc := ⟨.hbm, 128, rfl⟩
abbrev main_while0b_call9_cst : Ref sig .tc := ⟨.hbm, 129, rfl⟩
abbrev main_while0b_v66_2 : Ref sig .tc := ⟨.hbm, 130, rfl⟩
abbrev main_while0b_v67 : Ref sig .tc := ⟨.hbm, 131, rfl⟩
abbrev main_while0b_cst_23 : Ref sig .tc := ⟨.hbm, 132, rfl⟩
abbrev main_while0b_call10_v0 : Ref sig .tc := ⟨.hbm, 133, rfl⟩
abbrev main_while0b_v68_1 : Ref sig .tc := ⟨.hbm, 134, rfl⟩
abbrev main_while0b_call10_v2 : Ref sig .tc := ⟨.hbm, 135, rfl⟩
abbrev main_while0b_v68_0 : Ref sig .tc := ⟨.hbm, 136, rfl⟩
abbrev main_while0b_call10_cst : Ref sig .tc := ⟨.hbm, 137, rfl⟩
abbrev main_while0b_v68_2 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_cst_24 : Ref sig .tc := ⟨.hbm, 144, rfl⟩
abbrev main_while0b_call11_v0 : Ref sig .tc := ⟨.hbm, 145, rfl⟩
abbrev main_while0b_v74_1 : Ref sig .tc := ⟨.hbm, 146, rfl⟩
abbrev main_while0b_call11_v2 : Ref sig .tc := ⟨.hbm, 147, rfl⟩
abbrev main_while0b_v74_0 : Ref sig .tc := ⟨.hbm, 148, rfl⟩
abbrev main_while0b_call11_cst : Ref sig .tc := ⟨.hbm, 149, rfl⟩
abbrev main_while0b_v74_2 : Ref sig .tc := ⟨.hbm, 150, rfl⟩
abbrev main_while0b_v75 : Ref sig .tc := ⟨.hbm, 151, rfl⟩
abbrev main_while0b_v76 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_v84 : Ref sig .tc := ⟨.hbm, 160, rfl⟩
abbrev main_while0b_v85 : Ref sig .tc := ⟨.hbm, 161, rfl⟩
abbrev main_while0b_cst_25 : Ref sig .tc := ⟨.hbm, 162, rfl⟩
abbrev main_while0b_call12_v0 : Ref sig .tc := ⟨.hbm, 163, rfl⟩
abbrev main_while0b_v86_1 : Ref sig .tc := ⟨.hbm, 164, rfl⟩
abbrev main_while0b_call12_v2 : Ref sig .tc := ⟨.hbm, 165, rfl⟩
abbrev main_while0b_v86_0 : Ref sig .tc := ⟨.hbm, 166, rfl⟩
abbrev main_while0b_call12_cst : Ref sig .tc := ⟨.hbm, 167, rfl⟩
abbrev main_while0b_v86_2 : Ref sig .tc := ⟨.hbm, 168, rfl⟩
abbrev main_while0b_v87 : Ref sig .tc := ⟨.hbm, 169, rfl⟩
abbrev main_while0b_v88 : Ref sig .tc := ⟨.hbm, 170, rfl⟩
abbrev main_while0b_v89 : Ref sig .tc := ⟨.hbm, 171, rfl⟩
abbrev main_while0b_v90 : Ref sig .tc := ⟨.hbm, 172, rfl⟩
abbrev main_while0b_v91 : Ref sig .tc := ⟨.hbm, 173, rfl⟩
abbrev main_while0b_v92 : Ref sig .tc := ⟨.hbm, 174, rfl⟩
abbrev main_while0b_v93 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_v98 : Ref sig .tc := ⟨.hbm, 180, rfl⟩
abbrev main_while0b_v99 : Ref sig .tc := ⟨.hbm, 181, rfl⟩
abbrev main_while0b_v100 : Ref sig .tc := ⟨.hbm, 182, rfl⟩
abbrev main_while0b_v101 : Ref sig .tc := ⟨.hbm, 183, rfl⟩
abbrev main_while0b_v102 : Ref sig .tc := ⟨.hbm, 184, rfl⟩
abbrev main_while0b_v103 : Ref sig .tc := ⟨.hbm, 185, rfl⟩
abbrev main_while0b_v104 : Ref sig .tc := ⟨.hbm, 186, rfl⟩
abbrev main_while0b_v105 : Ref sig .tc := ⟨.hbm, 187, rfl⟩
abbrev main_while0b_v106 : Ref sig .tc := ⟨.hbm, 188, rfl⟩
abbrev main_while0b_v107 : Ref sig .tc := ⟨.hbm, 189, rfl⟩
abbrev main_while0b_v108 : Ref sig .tc := ⟨.hbm, 190, rfl⟩
abbrev main_while0b_v109 : Ref sig .tc := ⟨.hbm, 191, rfl⟩
abbrev main_while0b_v110 : Ref sig .tc := ⟨.hbm, 192, rfl⟩
abbrev main_while0b_v111 : Ref sig .tc := ⟨.hbm, 193, rfl⟩
abbrev main_while0b_v112 : Ref sig .tc := ⟨.hbm, 194, rfl⟩
abbrev main_while0b_v113 : Ref sig .tc := ⟨.hbm, 195, rfl⟩
abbrev main_while0b_v114 : Ref sig .tc := ⟨.hbm, 196, rfl⟩
abbrev main_while0b_v115 : Ref sig .tc := ⟨.hbm, 197, rfl⟩
abbrev main_while0b_cst_26 : Ref sig .tc := ⟨.hbm, 198, rfl⟩
abbrev main_while0b_v116 : Ref sig .tc := ⟨.hbm, 199, rfl⟩
abbrev main_while0b_v117 : Ref sig .tc := ⟨.hbm, 200, rfl⟩
abbrev main_while0b_v118 : Ref sig .tc := ⟨.hbm, 201, rfl⟩
abbrev main_while0b_v119 : Ref sig .tc := ⟨.hbm, 202, rfl⟩
abbrev main_while0b_cst_27 : Ref sig .tc := ⟨.hbm, 203, rfl⟩
abbrev main_while0b_v120 : Ref sig .tc := ⟨.hbm, 204, rfl⟩
abbrev main_while0b_v121 : Ref sig .tc := ⟨.hbm, 205, rfl⟩
abbrev main_while0b_v122 : Ref sig .tc := ⟨.hbm, 206, rfl⟩
abbrev main_while0b_v123 : Ref sig .tc := ⟨.hbm, 207, rfl⟩
abbrev main_while0b_v124 : Ref sig .tc := ⟨.hbm, 208, rfl⟩
abbrev main_while0b_v125 : Ref sig .tc := ⟨.hbm, 209, rfl⟩
abbrev main_while0b_v126 : Ref sig .tc := ⟨.hbm, 210, rfl⟩
abbrev main_while0b_v127 : Ref sig .tc := ⟨.hbm, 211, rfl⟩
abbrev main_while0b_v128 : Ref sig .tc := ⟨.hbm, 212, rfl⟩
abbrev main_while0b_v129 : Ref sig .tc := ⟨.hbm, 213, rfl⟩
abbrev main_while0b_v130 : Ref sig .tc := ⟨.hbm, 214, rfl⟩
abbrev main_while0b_v131 : Ref sig .tc := ⟨.hbm, 215, rfl⟩
abbrev main_while0b_v132 : Ref sig .tc := ⟨.hbm, 216, rfl⟩
abbrev main_while0b_v133 : Ref sig .tc := ⟨.hbm, 217, rfl⟩
abbrev main_while0b_v134 : Ref sig .tc := ⟨.hbm, 218, rfl⟩
abbrev main_while0b_v135 : Ref sig .tc := ⟨.hbm, 219, rfl⟩
abbrev main_while0b_cst_28 : Ref sig .tc := ⟨.hbm, 220, rfl⟩
abbrev main_while0b_v136 : Ref sig .tc := ⟨.hbm, 221, rfl⟩
abbrev main_while0b_v137 : Ref sig .tc := ⟨.hbm, 222, rfl⟩
abbrev main_while0b_cst_29 : Ref sig .tc := ⟨.hbm, 223, rfl⟩
abbrev main_while0b_v138 : Ref sig .tc := ⟨.hbm, 224, rfl⟩
abbrev main_while0b_v139 : Ref sig .tc := ⟨.hbm, 225, rfl⟩
abbrev main_while0b_v140 : Ref sig .tc := ⟨.hbm, 226, rfl⟩
abbrev main_while0b_v141 : Ref sig .tc := ⟨.hbm, 227, rfl⟩
abbrev main_while0b_cst_30 : Ref sig .tc := ⟨.hbm, 228, rfl⟩
abbrev main_while0b_v142 : Ref sig .tc := ⟨.hbm, 229, rfl⟩
abbrev main_while0b_v143 : Ref sig .tc := ⟨.hbm, 230, rfl⟩
abbrev main_while0b_cst_31 : Ref sig .tc := ⟨.hbm, 231, rfl⟩
abbrev main_while0b_v144 : Ref sig .tc := ⟨.hbm, 232, rfl⟩
abbrev main_while0b_v145 : Ref sig .tc := ⟨.hbm, 233, rfl⟩
abbrev main_while0b_v146 : Ref sig .tc := ⟨.hbm, 234, rfl⟩
abbrev main_while0b_v147 : Ref sig .tc := ⟨.hbm, 235, rfl⟩
abbrev main_while0b_cst_32 : Ref sig .tc := ⟨.hbm, 236, rfl⟩
abbrev main_while0b_v148 : Ref sig .tc := ⟨.hbm, 237, rfl⟩
abbrev main_while0b_v149 : Ref sig .tc := ⟨.hbm, 238, rfl⟩
abbrev main_while0b_v150 : Ref sig .tc := ⟨.hbm, 239, rfl⟩
abbrev main_while0b_cst_33 : Ref sig .tc := ⟨.hbm, 240, rfl⟩
abbrev main_while0b_v151 : Ref sig .tc := ⟨.hbm, 241, rfl⟩
abbrev main_while0b_v152 : Ref sig .tc := ⟨.hbm, 242, rfl⟩
abbrev main_while0b_v153 : Ref sig .tc := ⟨.hbm, 243, rfl⟩
abbrev main_while0b_v154 : Ref sig .tc := ⟨.hbm, 244, rfl⟩
abbrev main_while0b_cst_34 : Ref sig .tc := ⟨.hbm, 245, rfl⟩
abbrev main_while0b_v155 : Ref sig .tc := ⟨.hbm, 246, rfl⟩
abbrev main_while0b_v156 : Ref sig .tc := ⟨.hbm, 247, rfl⟩
abbrev main_while0b_v157 : Ref sig .tc := ⟨.hbm, 248, rfl⟩
abbrev main_while0b_call13_cst : Ref sig .tc := ⟨.hbm, 249, rfl⟩
abbrev main_while0b_call13_v0 : Ref sig .tc := ⟨.hbm, 250, rfl⟩
abbrev main_while0b_v158 : Ref sig .tc := ⟨.hbm, 251, rfl⟩
abbrev main_while0b_v159 : Ref sig .tc := ⟨.hbm, 252, rfl⟩
abbrev main_while0b_v160 : Ref sig .tc := ⟨.hbm, 253, rfl⟩
abbrev main_while0b_v161 : Ref sig .tc := ⟨.hbm, 254, rfl⟩
abbrev main_while0b_v162 : Ref sig .tc := ⟨.hbm, 255, rfl⟩
abbrev main_while0b_v163 : Ref sig .tc := ⟨.hbm, 256, rfl⟩
abbrev main_while0b_v164 : Ref sig .tc := ⟨.hbm, 257, rfl⟩
abbrev main_while0b_v165 : Ref sig .tc := ⟨.hbm, 258, rfl⟩
abbrev main_while0b_v166 : Ref sig .tc := ⟨.hbm, 259, rfl⟩
abbrev main_while0b_v167 : Ref sig .tc := ⟨.hbm, 260, rfl⟩
abbrev main_while0b_v168 : Ref sig .tc := ⟨.hbm, 261, rfl⟩
abbrev main_while0b_cst_35 : Ref sig .tc := ⟨.hbm, 262, rfl⟩
abbrev main_while0b_v169 : Ref sig .tc := ⟨.hbm, 263, rfl⟩
abbrev main_while0b_v170 : Ref sig .tc := ⟨.hbm, 264, rfl⟩
abbrev main_while0b_v171 : Ref sig .tc := ⟨.hbm, 265, rfl⟩
abbrev main_while0b_v172 : Ref sig .tc := ⟨.hbm, 266, rfl⟩
abbrev main_while0b_cst_36 : Ref sig .tc := ⟨.hbm, 267, rfl⟩
abbrev main_while0b_v173 : Ref sig .tc := ⟨.hbm, 268, rfl⟩
abbrev main_while0b_v174 : Ref sig .tc := ⟨.hbm, 269, rfl⟩
abbrev main_while0b_v175 : Ref sig .tc := ⟨.hbm, 270, rfl⟩
abbrev main_while0b_v176 : Ref sig .tc := ⟨.hbm, 271, rfl⟩
abbrev main_while0b_v177 : Ref sig .tc := ⟨.hbm, 272, rfl⟩
abbrev main_while0b_v178 : Ref sig .tc := ⟨.hbm, 273, rfl⟩
abbrev main_while0b_v179 : Ref sig .tc := ⟨.hbm, 274, rfl⟩
abbrev main_while0b_v180 : Ref sig .tc := ⟨.hbm, 275, rfl⟩
abbrev main_while0b_cst_37 : Ref sig .tc := ⟨.hbm, 276, rfl⟩
abbrev main_while0b_v181 : Ref sig .tc := ⟨.hbm, 277, rfl⟩
abbrev main_while0b_v182 : Ref sig .tc := ⟨.hbm, 278, rfl⟩
abbrev main_while0b_v183 : Ref sig .tc := ⟨.hbm, 279, rfl⟩
abbrev main_while0b_v184 : Ref sig .tc := ⟨.hbm, 280, rfl⟩
abbrev main_while0b_cst_38 : Ref sig .tc := ⟨.hbm, 281, rfl⟩
abbrev main_while0b_v185 : Ref sig .tc := ⟨.hbm, 282, rfl⟩
abbrev main_while0b_v186 : Ref sig .tc := ⟨.hbm, 283, rfl⟩
abbrev main_while0b_v187 : Ref sig .tc := ⟨.hbm, 284, rfl⟩
abbrev main_while0b_v188 : Ref sig .tc := ⟨.hbm, 285, rfl⟩
abbrev main_while0b_call14_cst : Ref sig .tc := ⟨.hbm, 286, rfl⟩
abbrev main_while0b_call14_v0 : Ref sig .tc := ⟨.hbm, 287, rfl⟩
abbrev main_while0b_v189 : Ref sig .tc := ⟨.hbm, 288, rfl⟩
abbrev main_while0b_v190 : Ref sig .tc := ⟨.hbm, 289, rfl⟩
abbrev main_while0b_v191 : Ref sig .tc := ⟨.hbm, 290, rfl⟩
abbrev main_while0b_v192 : Ref sig .tc := ⟨.hbm, 291, rfl⟩
abbrev main_while0b_v193 : Ref sig .tc := ⟨.hbm, 292, rfl⟩
abbrev main_while0b_v194 : Ref sig .tc := ⟨.hbm, 293, rfl⟩
abbrev main_while0b_v195 : Ref sig .tc := ⟨.hbm, 294, rfl⟩
abbrev main_while0b_v196 : Ref sig .tc := ⟨.hbm, 295, rfl⟩
abbrev main_while0b_v197 : Ref sig .tc := ⟨.hbm, 296, rfl⟩
abbrev main_while0b_cst_39 : Ref sig .tc := ⟨.hbm, 297, rfl⟩
abbrev main_while0b_v198 : Ref sig .tc := ⟨.hbm, 298, rfl⟩
abbrev main_while0b_v199 : Ref sig .tc := ⟨.hbm, 299, rfl⟩
abbrev main_while0b_v200 : Ref sig .tc := ⟨.hbm, 300, rfl⟩
abbrev main_while0b_v201 : Ref sig .tc := ⟨.hbm, 301, rfl⟩
abbrev main_while0b_v202 : Ref sig .tc := ⟨.hbm, 302, rfl⟩
abbrev main_while0b_cst_40 : Ref sig .tc := ⟨.hbm, 303, rfl⟩
abbrev main_while0b_v203 : Ref sig .tc := ⟨.hbm, 304, rfl⟩
abbrev main_while0b_v204 : Ref sig .tc := ⟨.hbm, 305, rfl⟩
abbrev main_while0b_call15_cst : Ref sig .tc := ⟨.hbm, 306, rfl⟩
abbrev main_while0b_call15_v0 : Ref sig .tc := ⟨.hbm, 307, rfl⟩
abbrev main_while0b_v205 : Ref sig .tc := ⟨.hbm, 308, rfl⟩
abbrev main_while0b_v206 : Ref sig .tc := ⟨.hbm, 309, rfl⟩
abbrev main_while0b_call16_cst : Ref sig .tc := ⟨.hbm, 310, rfl⟩
abbrev main_while0b_call16_v0 : Ref sig .tc := ⟨.hbm, 311, rfl⟩
abbrev main_while0b_v207 : Ref sig .tc := ⟨.hbm, 312, rfl⟩
abbrev main_while0b_cst_41 : Ref sig .tc := ⟨.hbm, 313, rfl⟩
abbrev main_while0b_v208 : Ref sig .tc := ⟨.hbm, 314, rfl⟩
abbrev main_while0b_v209 : Ref sig .tc := ⟨.hbm, 315, rfl⟩
abbrev main_while0b_v210 : Ref sig .tc := ⟨.hbm, 316, rfl⟩
abbrev main_while0b_cst_42 : Ref sig .tc := ⟨.hbm, 317, rfl⟩
abbrev main_while0b_v211 : Ref sig .tc := ⟨.hbm, 318, rfl⟩
abbrev main_while0b_v212 : Ref sig .tc := ⟨.hbm, 319, rfl⟩
abbrev main_while0b_cst_43 : Ref sig .tc := ⟨.hbm, 320, rfl⟩
abbrev main_while0b_v213 : Ref sig .tc := ⟨.hbm, 321, rfl⟩
abbrev main_while0b_v214 : Ref sig .tc := ⟨.hbm, 322, rfl⟩
abbrev main_while0b_cst_44 : Ref sig .tc := ⟨.hbm, 323, rfl⟩
abbrev main_while0b_v215 : Ref sig .tc := ⟨.hbm, 324, rfl⟩
abbrev main_while0b_v216 : Ref sig .tc := ⟨.hbm, 325, rfl⟩
abbrev main_while0b_call17_call0_cst : Ref sig .tc := ⟨.hbm, 326, rfl⟩
abbrev main_while0b_call17_call0_v0 : Ref sig .tc := ⟨.hbm, 327, rfl⟩
abbrev main_while0b_v217 : Ref sig .tc := ⟨.hbm, 328, rfl⟩
abbrev main_while0b_call18_v0 : Ref sig .tc := ⟨.hbm, 329, rfl⟩
abbrev main_while0b_call18_c : Ref sig .tc := ⟨.hbm, 330, rfl⟩
abbrev main_while0b_call18_c_0 : Ref sig .tc := ⟨.hbm, 331, rfl⟩
abbrev main_while0b_call18_c_1 : Ref sig .tc := ⟨.hbm, 332, rfl⟩
abbrev main_while0b_call18_c_2 : Ref sig .tc := ⟨.hbm, 333, rfl⟩
abbrev main_while0b_v218 : Ref sig .tc := ⟨.hbm, 334, rfl⟩
abbrev main_while0b_call19_v0 : Ref sig .tc := ⟨.hbm, 335, rfl⟩
abbrev main_while0b_call19_c : Ref sig .tc := ⟨.hbm, 336, rfl⟩
abbrev main_while0b_call19_c_0 : Ref sig .tc := ⟨.hbm, 337, rfl⟩
abbrev main_while0b_call19_c_1 : Ref sig .tc := ⟨.hbm, 338, rfl⟩
abbrev main_while0b_call19_c_2 : Ref sig .tc := ⟨.hbm, 339, rfl⟩
abbrev main_while0b_v219 : Ref sig .tc := ⟨.hbm, 340, rfl⟩
abbrev main_while0b_call20_v0 : Ref sig .tc := ⟨.hbm, 341, rfl⟩
abbrev main_while0b_call20_c : Ref sig .tc := ⟨.hbm, 342, rfl⟩
abbrev main_while0b_call20_c_0 : Ref sig .tc := ⟨.hbm, 343, rfl⟩
abbrev main_while0b_call20_c_1 : Ref sig .tc := ⟨.hbm, 344, rfl⟩
abbrev main_while0b_call20_c_2 : Ref sig .tc := ⟨.hbm, 345, rfl⟩
abbrev main_while0b_v220 : Ref sig .tc := ⟨.hbm, 346, rfl⟩
abbrev main_while0b_call21_v0 : Ref sig .tc := ⟨.hbm, 347, rfl⟩
abbrev main_while0b_call21_c : Ref sig .tc := ⟨.hbm, 348, rfl⟩
abbrev main_while0b_call21_c_0 : Ref sig .tc := ⟨.hbm, 349, rfl⟩
abbrev main_while0b_call21_c_1 : Ref sig .tc := ⟨.hbm, 350, rfl⟩
abbrev main_while0b_v221 : Ref sig .tc := ⟨.hbm, 351, rfl⟩
abbrev main_while0b_call22_v0 : Ref sig .tc := ⟨.hbm, 352, rfl⟩
abbrev main_while0b_call22_c : Ref sig .tc := ⟨.hbm, 353, rfl⟩
abbrev main_while0b_call22_c_0 : Ref sig .tc := ⟨.hbm, 354, rfl⟩
abbrev main_while0b_call22_c_1 : Ref sig .tc := ⟨.hbm, 355, rfl⟩
abbrev main_while0b_v222 : Ref sig .tc := ⟨.hbm, 356, rfl⟩
abbrev main_while0b_c_45 : Ref sig .tc := ⟨.hbm, 357, rfl⟩
abbrev main_while0b_v223 : Ref sig .tc := ⟨.hbm, 358, rfl⟩
abbrev main_v25 : Ref sig .tc := ⟨.hbm, 359, rfl⟩
abbrev main_v26 : Ref sig .tc := ⟨.hbm, 360, rfl⟩
abbrev main_v27 : Ref sig .tc := ⟨.hbm, 361, rfl⟩
abbrev main_v28 : Ref sig .tc := ⟨.hbm, 362, rfl⟩
abbrev main_v29 : Ref sig .tc := ⟨.hbm, 363, rfl⟩
abbrev main_v30 : Ref sig .tc := ⟨.hbm, 364, rfl⟩
abbrev main_v31 : Ref sig .tc := ⟨.hbm, 365, rfl⟩
abbrev main_v32 : Ref sig .tc := ⟨.hbm, 366, rfl⟩
abbrev main_v33 : Ref sig .tc := ⟨.hbm, 367, rfl⟩
abbrev main_v34 : Ref sig .tc := ⟨.hbm, 368, rfl⟩
abbrev main_v35 : Ref sig .tc := ⟨.hbm, 369, rfl⟩
abbrev main_v36 : Ref sig .tc := ⟨.hbm, 370, rfl⟩
abbrev main_v37 : Ref sig .tc := ⟨.hbm, 371, rfl⟩
abbrev main_c_5 : Ref sig .tc := ⟨.hbm, 372, rfl⟩
abbrev main_call23_v0 : Ref sig .tc := ⟨.hbm, 373, rfl⟩
abbrev main_v38 : Ref sig .tc := ⟨.hbm, 374, rfl⟩

abbrev nD : Nat := 1
abbrev τ : Topo := Topo.v7x

variable {F : FTy → Type} [FloatOps F]

abbrev main_while0_count : Scf.Loop 32 := ⟨0#32, 33#32, 1#32⟩
-- ==== Kernel2.lean ====
abbrev S4224x1024 : Shape := ⟨2, ![4224, 1024]⟩
abbrev S4224x3840 : Shape := ⟨2, ![4224, 3840]⟩
abbrev S3x512 : Shape := ⟨2, ![3, 512]⟩
abbrev S4224x512 : Shape := ⟨2, ![4224, 512]⟩
abbrev S2112x256 : Shape := ⟨2, ![2112, 256]⟩
abbrev S3x256 : Shape := ⟨2, ![3, 256]⟩
abbrev S2128x128 : Shape := ⟨2, ![2128, 128]⟩
abbrev S3x128 : Shape := ⟨2, ![3, 128]⟩
abbrev S2112x128 : Shape := ⟨2, ![2112, 128]⟩
abbrev S8x128 : Shape := ⟨2, ![8, 128]⟩
abbrev S1x128 : Shape := ⟨2, ![1, 128]⟩
abbrev S128 : Shape := ⟨1, ![128]⟩

abbrev nBuf : Space → Nat
  | .hbm => 8
  | .vmem => 20
  | .smem => 0
  | _ => 0

abbrev bufTy : (tb : Table) → Fin (tcTables nBuf tb) → BufTy
  | .hbm, ⟨0, _⟩ => ⟨S4224x1024, .f32⟩
  | .hbm, ⟨1, _⟩ => ⟨S4224x3840, .f32⟩
  | .hbm, ⟨2, _⟩ => ⟨S3x512, .f32⟩
  | .hbm, ⟨3, _⟩ => ⟨S4224x3840, .bf16⟩
  | .hbm, ⟨4, _⟩ => ⟨S4224x3840, .bf16⟩
  | .hbm, ⟨5, _⟩ => ⟨S4224x512, .bf16⟩
  | .hbm, ⟨6, _⟩ => ⟨S4224x512, .bf16⟩
  | .hbm, ⟨7, _⟩ => ⟨S3x512, .f32⟩
  | .local _ .vmem, ⟨0, _⟩ => ⟨S2112x256, .f32⟩
  | .local _ .vmem, ⟨1, _⟩ => ⟨S2112x256, .f32⟩
  | .local _ .vmem, ⟨2, _⟩ => ⟨S2112x256, .f32⟩
  | .local _ .vmem, ⟨3, _⟩ => ⟨S2112x256, .f32⟩
  | .local _ .vmem, ⟨4, _⟩ => ⟨S2112x256, .f32⟩
  | .local _ .vmem, ⟨5, _⟩ => ⟨S2112x256, .f32⟩
  | .local _ .vmem, ⟨6, _⟩ => ⟨S2112x256, .f32⟩
  | .local _ .vmem, ⟨7, _⟩ => ⟨S2112x256, .f32⟩
  | .local _ .vmem, ⟨8, _⟩ => ⟨S3x256, .f32⟩
  | .local _ .vmem, ⟨9, _⟩ => ⟨S3x256, .f32⟩
  | .local _ .vmem, ⟨10, _⟩ => ⟨S2112x256, .bf16⟩
  | .local _ .vmem, ⟨11, _⟩ => ⟨S2112x256, .bf16⟩
  | .local _ .vmem, ⟨12, _⟩ => ⟨S2112x256, .bf16⟩
  | .local _ .vmem, ⟨13, _⟩ => ⟨S2112x256, .bf16⟩
  | .local _ .vmem, ⟨14, _⟩ => ⟨S2112x256, .bf16⟩
  | .local _ .vmem, ⟨15, _⟩ => ⟨S2112x256, .bf16⟩
  | .local _ .vmem, ⟨16, _⟩ => ⟨S3x256, .f32⟩
  | .local _ .vmem, ⟨17, _⟩ => ⟨S3x256, .f32⟩
  | .local _ .vmem, ⟨18, _⟩ => ⟨S2128x128, .f32⟩
  | .local _ .vmem, ⟨19, _⟩ => ⟨S2128x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v64 : BitVec 1 := Scalar.cmpi .eq arg1 c0_i32
  let v77 : BitVec 32 := Scalar.extui v64
  let c0_i32_39 : BitVec 32 := 0#32
  let v78 : BitVec 1 := Scalar.cmpi .ne v77 c0_i32_39
  v78

def k0_cond2 (i : grid0.Coords) : BitVec 1 :=
  let arg1 : BitVec 32 := BitVec.ofNat 32 (i 1).val
  let c0_i32 : BitVec 32 := 0#32
  let v64 : BitVec 1 := Scalar.cmpi .eq arg1 c0_i32
  let v_true : BitVec 1 := 1#1
  let v79 : BitVec 1 := Scalar.xori v64 v_true
  let v80 : BitVec 32 := Scalar.extui v79
  let c0_i32_40 : BitVec 32 := 0#32
  let v81 : BitVec 1 := Scalar.cmpi .ne v80 c0_i32_40
  v81

def k0_cond3 (i : grid0.Coords) : BitVec 1 :=
  let arg1 : BitVec 32 := BitVec.ofNat 32 (i 1).val
  let c0_i32_80 : BitVec 32 := 0#32
  let v146 : BitVec 1 := Scalar.cmpi .eq arg1 c0_i32_80
  let v159 : BitVec 32 := Scalar.extui v146
  let c0_i32_88 : BitVec 32 := 0#32
  let v160 : BitVec 1 := Scalar.cmpi .ne v159 c0_i32_88
  v160

def k0_cond4 (i : grid0.Coords) : BitVec 1 :=
  let arg1 : BitVec 32 := BitVec.ofNat 32 (i 1).val
  let c0_i32_80 : BitVec 32 := 0#32
  let v146 : BitVec 1 := Scalar.cmpi .eq arg1 c0_i32_80
  let true_89 : BitVec 1 := 1#1
  let v161 : BitVec 1 := Scalar.xori v146 true_89
  let v162 : BitVec 32 := Scalar.extui v161
  let c0_i32_90 : BitVec 32 := 0#32
  let v163 : BitVec 1 := Scalar.cmpi .ne v162 c0_i32_90
  v163

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2112x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2112x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2112x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2112x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4224x1024 : Shape := ⟨2, ![4224, 1024]⟩
abbrev S4224x3840 : Shape := ⟨2, ![4224, 3840]⟩
abbrev S3x512 : Shape := ⟨2, ![3, 512]⟩
abbrev S4224x512 : Shape := ⟨2, ![4224, 512]⟩
abbrev S2x2112x512 : Shape := ⟨3, ![2, 2112, 512]⟩
abbrev S_ : Shape := ⟨0, ![]⟩
abbrev S2x2x512 : Shape := ⟨3, ![2, 2, 512]⟩
abbrev S2x2114x512 : Shape := ⟨3, ![2, 2114, 512]⟩
abbrev S1x512 : Shape := ⟨2, ![1, 512]⟩
abbrev S512 : Shape := ⟨1, ![512]⟩
abbrev S1x1x512 : Shape := ⟨3, ![1, 1, 512]⟩
abbrev S4224x2048 : Shape := ⟨2, ![4224, 2048]⟩
abbrev S4224x1280 : Shape := ⟨2, ![4224, 1280]⟩

abbrev nBuf : Space → Nat
  | .hbm => 100
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x3840, .f32⟩
  | .hbm, ⟨2, _⟩ => ⟨S3x512, .f32⟩
  | .hbm, ⟨3, _⟩ => ⟨S4224x3840, .bf16⟩
  | .hbm, ⟨4, _⟩ => ⟨S4224x512, .f32⟩
  | .hbm, ⟨5, _⟩ => ⟨S2x2112x512, .f32⟩
  | .hbm, ⟨6, _⟩ => ⟨S4224x512, .f32⟩
  | .hbm, ⟨7, _⟩ => ⟨S2x2112x512, .f32⟩
  | .hbm, ⟨8, _⟩ => ⟨S4224x512, .f32⟩
  | .hbm, ⟨9, _⟩ => ⟨S2x2112x512, .f32⟩
  | .hbm, ⟨10, _⟩ => ⟨S2x2112x512, .f32⟩
  | .hbm, ⟨11, _⟩ => ⟨S_, .f32⟩
  | .hbm, ⟨12, _⟩ => ⟨S2x2x512, .f32⟩
  | .hbm, ⟨13, _⟩ => ⟨S2x2114x512, .f32⟩
  | .hbm, ⟨14, _⟩ => ⟨S_, .f32⟩
  | .hbm, ⟨15, _⟩ => ⟨S2x2x512, .f32⟩
  | .hbm, ⟨16, _⟩ => ⟨S2x2112x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S2x2112x512, .f32⟩
  | .hbm, ⟨21, _⟩ => ⟨S2x2112x512, .f32⟩
  | .hbm, ⟨22, _⟩ => ⟨S_, .f32⟩
  | .hbm, ⟨23, _⟩ => ⟨S2x2112x512, .f32⟩
  | .hbm, ⟨24, _⟩ => ⟨S2x2112x512, .f32⟩
  | .hbm, ⟨25, _⟩ => ⟨S2x2112x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S2x2112x512, .f32⟩
  | .hbm, ⟨30, _⟩ => ⟨S2x2112x512, .f32⟩
  | .hbm, ⟨31, _⟩ => ⟨S2x2112x512, .f32⟩
  | .hbm, ⟨32, _⟩ => ⟨S2x2112x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S2x2112x512, .f32⟩
  | .hbm, ⟨37, _⟩ => ⟨S2x2112x512, .f32⟩
  | .hbm, ⟨38, _⟩ => ⟨S2x2112x512, .f32⟩
  | .hbm, ⟨39, _⟩ => ⟨S2x2112x512, .f32⟩
  | .hbm, ⟨40, _⟩ => ⟨S4224x512, .f32⟩
  | .hbm, ⟨41, _⟩ => ⟨S2x2112x512, .f32⟩
  | .hbm, ⟨42, _⟩ => ⟨S2x2112x512, .f32⟩
  | .hbm, ⟨43, _⟩ => ⟨S2x2112x512, .f32⟩
  | .hbm, ⟨44, _⟩ => ⟨S2x2112x512, .f32⟩
  | .hbm, ⟨45, _⟩ => ⟨S_, .f32⟩
  | .hbm, ⟨46, _⟩ => ⟨S512, .f32⟩
  | .hbm, ⟨47, _⟩ => ⟨S1x1x512, .f32⟩
  | .hbm, ⟨48, _⟩ => ⟨S2x2112x512, .f32⟩
  | .hbm, ⟨49, _⟩ => ⟨S2x2112x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S3x512, .f32⟩
  | .hbm, ⟨55, _⟩ => ⟨S_, .f32⟩
  | .hbm, ⟨56, _⟩ => ⟨S2x2114x512, .f32⟩
  | .hbm, ⟨57, _⟩ => ⟨S2x2112x512, .f32⟩
  | .hbm, ⟨58, _⟩ => ⟨S_, .f32⟩
  | .hbm, ⟨59, _⟩ => ⟨S512, .f32⟩
  | .hbm, ⟨60, _⟩ => ⟨S1x1x512, .f32⟩
  | .hbm, ⟨61, _⟩ => ⟨S2x2112x512, .f32⟩
  | .hbm, ⟨62, _⟩ => ⟨S2x2112x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S3x512, .f32⟩
  | .hbm, ⟨68, _⟩ => ⟨S3x512, .f32⟩
  | .hbm, ⟨69, _⟩ => ⟨S_, .f32⟩
  | .hbm, ⟨70, _⟩ => ⟨S2x2114x512, .f32⟩
  | .hbm, ⟨71, _⟩ => ⟨S2x2114x512, .f32⟩
  | .hbm, ⟨72, _⟩ => ⟨S2x2112x512, .f32⟩
  | .hbm, ⟨73, _⟩ => ⟨S_, .f32⟩
  | .hbm, ⟨74, _⟩ => ⟨S512, .f32⟩
  | .hbm, ⟨75, _⟩ => ⟨S1x1x512, .f32⟩
  | .hbm, ⟨76, _⟩ => ⟨S2x2112x512, .f32⟩
  | .hbm, ⟨77, _⟩ => ⟨S2x2112x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S_, .f32⟩
  | .hbm, ⟨85, _⟩ => ⟨S2x2114x512, .f32⟩
  | .hbm, ⟨86, _⟩ => ⟨S2x2114x512, .f32⟩
  | .hbm, ⟨87, _⟩ => ⟨S2x2x512, .f32⟩
  | .hbm, ⟨88, _⟩ => ⟨S2x2112x512, .f32⟩
  | .hbm, ⟨89, _⟩ => ⟨S2x2112x512, .f32⟩
  | .hbm, ⟨90, _⟩ => ⟨S2x2112x512, .f32⟩
  | .hbm, ⟨91, _⟩ => ⟨S4224x512, .f32⟩
  | .hbm, ⟨92, _⟩ => ⟨S4224x512, .bf16⟩
  | .hbm, ⟨93, _⟩ => ⟨S4224x512, .f32⟩
  | .hbm, ⟨94, _⟩ => ⟨S4224x512, .bf16⟩
  | .hbm, ⟨95, _⟩ => ⟨S4224x512, .f32⟩
  | .hbm, ⟨96, _⟩ => ⟨S4224x512, .bf16⟩
  | .hbm, ⟨97, _⟩ => ⟨S4224x2048, .bf16⟩
  | .hbm, ⟨98, _⟩ => ⟨S4224x1280, .bf16⟩
  | .hbm, ⟨99, _⟩ => ⟨S4224x3840, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel3.lean ====
abbrev S4224x1024 : Shape := ⟨2, ![4224, 1024]⟩
abbrev S2816x1024 : Shape := ⟨2, ![2816, 1024]⟩
abbrev S4224x2816 : Shape := ⟨2, ![4224, 2816]⟩
abbrev S1056x1024 : Shape := ⟨2, ![1056, 1024]⟩
abbrev S1408x1024 : Shape := ⟨2, ![1408, 1024]⟩
abbrev S1056x1408 : Shape := ⟨2, ![1056, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .hbm, ⟨5, _⟩ => ⟨S4224x2816, .bf16⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1408, .bf16⟩
  | .local _ .vmem, ⟨5, _⟩ => ⟨S1056x1408, .bf16⟩
  | .local _ .vmem, ⟨6, _⟩ => ⟨S1056x1408, .bf16⟩
  | .local _ .vmem, ⟨7, _⟩ => ⟨S1056x1408, .bf16⟩
  | .local _ .vmem, ⟨8, _⟩ => ⟨S1056x1408, .bf16⟩
  | .local _ .vmem, ⟨9, _⟩ => ⟨S1056x1408, .bf16⟩
  | .local _ .vmem, ⟨10, _⟩ => ⟨S1056x1408, .bf16⟩
  | .local _ .vmem, ⟨11, _⟩ => ⟨S1056x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x1024, .f32⟩
  | .hbm, ⟨5, _⟩ => ⟨S2816x1024, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S_, .f32⟩
  | .hbm, ⟨14, _⟩ => ⟨S4224x2816, .f32⟩
  | .hbm, ⟨15, _⟩ => ⟨S4224x2816, .f32⟩
  | .hbm, ⟨16, _⟩ => ⟨S_, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x2816, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .f32⟩
  | .hbm, ⟨30, _⟩ => ⟨S4224x2816, .bf16⟩
  | .hbm, ⟨31, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4224x2816 : Shape := ⟨2, ![4224, 2816]⟩
abbrev S4224x1024 : Shape := ⟨2, ![4224, 1024]⟩
abbrev S2816x1024 : Shape := ⟨2, ![2816, 1024]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .f32⟩
  | .local _ .vmem, ⟨5, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x2816, .f32⟩
  | .hbm, ⟨3, _⟩ => ⟨S4224x1024, .f32⟩
  | .hbm, ⟨4, _⟩ => ⟨S_, .f32⟩
  | .hbm, ⟨5, _⟩ => ⟨S2816x1024, .f32⟩
  | .hbm, ⟨6, _⟩ => ⟨S4224x1024, .f32⟩
  | .hbm, ⟨7, _⟩ => ⟨S1024x2816, .f32⟩
  | .hbm, ⟨8, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4224x2816 : Shape := ⟨2, ![4224, 2816]⟩
abbrev S2816x1024 : Shape := ⟨2, ![2816, 1024]⟩
abbrev S4224x1024 : Shape := ⟨2, ![4224, 1024]⟩
abbrev S1056x2816 : Shape := ⟨2, ![1056, 2816]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S1056x1024, .f32⟩
  | .local _ .vmem, ⟨4, _⟩ => ⟨S1056x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x2816 : Shape := ⟨2, ![4224, 2816]⟩
abbrev S2816x1024 : Shape := ⟨2, ![2816, 1024]⟩
abbrev S_ : Shape := ⟨0, ![]⟩
abbrev S4224x1024 : Shape := ⟨2, ![4224, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x2816, .f32⟩
  | .hbm, ⟨3, _⟩ => ⟨S2816x1024, .f32⟩
  | .hbm, ⟨4, _⟩ => ⟨S_, .f32⟩
  | .hbm, ⟨5, _⟩ => ⟨S4224x1024, .f32⟩
  | .hbm, ⟨6, _⟩ => ⟨S1024x2816, .f32⟩
  | .hbm, ⟨7, _⟩ => ⟨S4224x2816, .f32⟩
  | .hbm, ⟨8, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4224x1024 : Shape := ⟨2, ![4224, 1024]⟩
abbrev S2816x1024 : Shape := ⟨2, ![2816, 1024]⟩
abbrev S4224x2816 : Shape := ⟨2, ![4224, 2816]⟩
abbrev S1056x1024 : Shape := ⟨2, ![1056, 1024]⟩
abbrev S1408x1024 : Shape := ⟨2, ![1408, 1024]⟩
abbrev S1056x1408 : Shape := ⟨2, ![1056, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S2816x1024, .bf16⟩
  | .hbm, ⟨3, _⟩ => ⟨S4224x2816, .bf16⟩
  | .hbm, ⟨4, _⟩ => ⟨S4224x2816, .bf16⟩
  | .hbm, ⟨5, _⟩ => ⟨S4224x2816, .bf16⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1056x1408, .bf16⟩
  | .local _ .vmem, ⟨7, _⟩ => ⟨S1056x1408, .bf16⟩
  | .local _ .vmem, ⟨8, _⟩ => ⟨S1056x1408, .bf16⟩
  | .local _ .vmem, ⟨9, _⟩ => ⟨S1056x1408, .bf16⟩
  | .local _ .vmem, ⟨10, _⟩ => ⟨S1056x1408, .bf16⟩
  | .local _ .vmem, ⟨11, _⟩ => ⟨S1056x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4224x1024 : Shape := ⟨2, ![4224, 1024]⟩
abbrev S2816x1024 : Shape := ⟨2, ![2816, 1024]⟩
abbrev S1024x2816 : Shape := ⟨2, ![1024, 2816]⟩
abbrev S4224x2816 : Shape := ⟨2, ![4224, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S2816x1024, .bf16⟩
  | .hbm, ⟨3, _⟩ => ⟨S4224x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S4224x2816, .f32⟩
  | .hbm, ⟨8, _⟩ => ⟨S1024x2816, .f32⟩
  | .hbm, ⟨9, _⟩ => ⟨S4224x2816, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S_, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .bf16⟩
  | .hbm, ⟨21, _⟩ => ⟨S4224x2816, .bf16⟩
  | .hbm, ⟨22, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S4224x3840 : Shape := ⟨2, ![4224, 3840]⟩
abbrev S4224x1024 : Shape := ⟨2, ![4224, 1024]⟩
abbrev S3840x1024 : Shape := ⟨2, ![3840, 1024]⟩
abbrev S2112x1280 : Shape := ⟨2, ![2112, 1280]⟩
abbrev S2112x1024 : Shape := ⟨2, ![2112, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .bf16⟩
  | .hbm, ⟨1, _⟩ => ⟨S4224x1024, .bf16⟩
  | .hbm, ⟨2, _⟩ => ⟨S3840x1024, .f32⟩
  | .local _ .vmem, ⟨0, _⟩ => ⟨S2112x1280, .bf16⟩
  | .local _ .vmem, ⟨1, _⟩ => ⟨S2112x1280, .bf16⟩
  | .local _ .vmem, ⟨2, _⟩ => ⟨S2112x1024, .bf16⟩
  | .local _ .vmem, ⟨3, _⟩ => ⟨S2112x1024, .bf16⟩
  | .local _ .vmem, ⟨4, _⟩ => ⟨S1280x1024, .f32⟩
  | .local _ .vmem, ⟨5, _⟩ => ⟨S1280x1024, .f32⟩
  | _, _ => ⟨S4224x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x3840 : Shape := ⟨2, ![4224, 3840]⟩
abbrev S4224x1024 : Shape := ⟨2, ![4224, 1024]⟩
abbrev S_ : Shape := ⟨0, ![]⟩
abbrev S3840x1024 : Shape := ⟨2, ![3840, 1024]⟩
abbrev S1024x3840 : Shape := ⟨2, ![1024, 3840]⟩

abbrev nBuf : Space → Nat
  | .hbm => 11
  | .vmem => 0
  | .smem => 0
  | _ => 0

abbrev bufTy : (tb : Table) → Fin (tcTables nBuf tb) → BufTy
  | .hbm, ⟨0, _⟩ => ⟨S4224x3840, .bf16⟩
  | .hbm, ⟨1, _⟩ => ⟨S4224x1024, .bf16⟩
  | .hbm, ⟨2, _⟩ => ⟨S4224x3840, .f32⟩
  | .hbm, ⟨3, _⟩ => ⟨S4224x1024, .f32⟩
  | .hbm, ⟨4, _⟩ => ⟨S_, .f32⟩
  | .hbm, ⟨5, _⟩ => ⟨S3840x1024, .f32⟩
  | .hbm, ⟨6, _⟩ => ⟨S1024x3840, .f32⟩
  | .hbm, ⟨7, _⟩ => ⟨S4224x3840, .f32⟩
  | .hbm, ⟨8, _⟩ => ⟨S3840x1024, .f32⟩
  | .hbm, ⟨9, _⟩ => ⟨S1024x3840, .f32⟩
  | .hbm, ⟨10, _⟩ => ⟨S3840x1024, .f32⟩
  | _, _ => ⟨S4224x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4224x3840 : Shape := ⟨2, ![4224, 3840]⟩
abbrev S3840x1024 : Shape := ⟨2, ![3840, 1024]⟩
abbrev S4224x1024 : Shape := ⟨2, ![4224, 1024]⟩
abbrev S1056x3840 : Shape := ⟨2, ![1056, 3840]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x3840, .bf16⟩
  | .hbm, ⟨1, _⟩ => ⟨S3840x1024, .bf16⟩
  | .hbm, ⟨2, _⟩ => ⟨S4224x1024, .f32⟩
  | .local _ .vmem, ⟨0, _⟩ => ⟨S1056x3840, .bf16⟩
  | .local _ .vmem, ⟨1, _⟩ => ⟨S1056x3840, .bf16⟩
  | .local _ .vmem, ⟨2, _⟩ => ⟨S3840x1024, .bf16⟩
  | .local _ .vmem, ⟨3, _⟩ => ⟨S1056x1024, .f32⟩
  | .local _ .vmem, ⟨4, _⟩ => ⟨S1056x1024, .f32⟩
  | _, _ => ⟨S4224x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x3840 : Shape := ⟨2, ![4224, 3840]⟩
abbrev S3840x1024 : Shape := ⟨2, ![3840, 1024]⟩
abbrev S_ : Shape := ⟨0, ![]⟩
abbrev S4224x1024 : Shape := ⟨2, ![4224, 1024]⟩
abbrev S1024x3840 : Shape := ⟨2, ![1024, 3840]⟩

abbrev nBuf : Space → Nat
  | .hbm => 9
  | .vmem => 0
  | .smem => 0
  | _ => 0

abbrev bufTy : (tb : Table) → Fin (tcTables nBuf tb) → BufTy
  | .hbm, ⟨0, _⟩ => ⟨S4224x3840, .bf16⟩
  | .hbm, ⟨1, _⟩ => ⟨S3840x1024, .bf16⟩
  | .hbm, ⟨2, _⟩ => ⟨S4224x3840, .f32⟩
  | .hbm, ⟨3, _⟩ => ⟨S3840x1024, .f32⟩
  | .hbm, ⟨4, _⟩ => ⟨S_, .f32⟩
  | .hbm, ⟨5, _⟩ => ⟨S4224x1024, .f32⟩
  | .hbm, ⟨6, _⟩ => ⟨S1024x3840, .f32⟩
  | .hbm, ⟨7, _⟩ => ⟨S4224x3840, .f32⟩
  | .hbm, ⟨8, _⟩ => ⟨S4224x1024, .f32⟩
  | _, _ => ⟨S4224x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S2112x1024, .bf16⟩
  | .local _ .vmem, ⟨1, _⟩ => ⟨S2112x1024, .bf16⟩
  | .local _ .vmem, ⟨2, _⟩ => ⟨S1024x1024, .bf16⟩
  | .local _ .vmem, ⟨3, _⟩ => ⟨S2112x1024, .f32⟩
  | .local _ .vmem, ⟨4, _⟩ => ⟨S2112x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S_, .f32⟩
  | .hbm, ⟨5, _⟩ => ⟨S4224x1024, .f32⟩
  | .hbm, ⟨6, _⟩ => ⟨S4224x1024, .f32⟩
  | .hbm, ⟨7, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4224x1024 : Shape := ⟨2, ![4224, 1024]⟩
abbrev S3840x1024 : Shape := ⟨2, ![3840, 1024]⟩
abbrev S4224x3840 : Shape := ⟨2, ![4224, 3840]⟩
abbrev S2112x1024 : Shape := ⟨2, ![2112, 1024]⟩
abbrev S1280x1024 : Shape := ⟨2, ![1280, 1024]⟩
abbrev S2112x1280 : Shape := ⟨2, ![2112, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S3840x1024, .bf16⟩
  | .hbm, ⟨2, _⟩ => ⟨S4224x3840, .f32⟩
  | .local _ .vmem, ⟨0, _⟩ => ⟨S2112x1024, .bf16⟩
  | .local _ .vmem, ⟨1, _⟩ => ⟨S2112x1024, .bf16⟩
  | .local _ .vmem, ⟨2, _⟩ => ⟨S1280x1024, .bf16⟩
  | .local _ .vmem, ⟨3, _⟩ => ⟨S1280x1024, .bf16⟩
  | .local _ .vmem, ⟨4, _⟩ => ⟨S2112x1280, .f32⟩
  | .local _ .vmem, ⟨5, _⟩ => ⟨S2112x1280, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2112x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S3840x1024 : Shape := ⟨2, ![3840, 1024]⟩
abbrev S1024x3840 : Shape := ⟨2, ![1024, 3840]⟩
abbrev S4224x3840 : Shape := ⟨2, ![4224, 3840]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S3840x1024, .bf16⟩
  | .hbm, ⟨2, _⟩ => ⟨S4224x1024, .f32⟩
  | .hbm, ⟨3, _⟩ => ⟨S3840x1024, .f32⟩
  | .hbm, ⟨4, _⟩ => ⟨S1024x3840, .f32⟩
  | .hbm, ⟨5, _⟩ => ⟨S4224x3840, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4224x1024 : Shape := ⟨2, ![4224, 1024]⟩
abbrev S1024x1024 : Shape := ⟨2, ![1024, 1024]⟩
abbrev S1x1024 : Shape := ⟨2, ![1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 8
  | .vmem => 13
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S1x1024, .f32⟩
  | .hbm, ⟨5, _⟩ => ⟨S4224x1024, .f32⟩
  | .hbm, ⟨6, _⟩ => ⟨S4224x1024, .f32⟩
  | .hbm, ⟨7, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1x1024, .f32⟩
  | .local _ .vmem, ⟨6, _⟩ => ⟨S1x1024, .f32⟩
  | .local _ .vmem, ⟨7, _⟩ => ⟨S1056x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .bf16⟩
  | .local _ .vmem, ⟨12, _⟩ => ⟨S1056x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1056x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1056x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4224x1024 : Shape := ⟨2, ![4224, 1024]⟩
abbrev S1024x1024 : Shape := ⟨2, ![1024, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 40
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S1x1024, .f32⟩
  | .hbm, ⟨5, _⟩ => ⟨S4224x1024, .f32⟩
  | .hbm, ⟨6, _⟩ => ⟨S1024x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S4224x1, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel13.lean ====
abbrev S898x1024 : Shape := ⟨2, ![898, 1024]⟩

abbrev nBuf : Space → Nat
  | .hbm => 7
  | .vmem => 7
  | .smem => 0
  | _ => 0

abbrev bufTy : (tb : Table) → Fin (tcTables nBuf tb) → BufTy
  | .hbm, ⟨0, _⟩ => ⟨S898x1024, .f32⟩
  | .hbm, ⟨1, _⟩ => ⟨S898x1024, .f32⟩
  | .hbm, ⟨2, _⟩ => ⟨S898x1024, .f32⟩
  | .hbm, ⟨3, _⟩ => ⟨S898x1024, .f32⟩
  | .hbm, ⟨4, _⟩ => ⟨S898x1024, .f32⟩
  | .hbm, ⟨5, _⟩ => ⟨S898x1024, .f32⟩
  | .hbm, ⟨6, _⟩ => ⟨S898x1024, .f32⟩
  | .local _ .vmem, ⟨0, _⟩ => ⟨S898x1024, .f32⟩
  | .local _ .vmem, ⟨1, _⟩ => ⟨S898x1024, .f32⟩
  | .local _ .vmem, ⟨2, _⟩ => ⟨S898x1024, .f32⟩
  | .local _ .vmem, ⟨3, _⟩ => ⟨S898x1024, .f32⟩
  | .local _ .vmem, ⟨4, _⟩ => ⟨S898x1024, .f32⟩
  | .local _ .vmem, ⟨5, _⟩ => ⟨S898x1024, .f32⟩
  | .local _ .vmem, ⟨6, _⟩ => ⟨S898x1024, .f32⟩
  | _, _ => ⟨S898x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S898x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S898x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S898x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S898x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S898x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S898x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S898x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S898x1024 : Shape := ⟨2, ![898, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S898x1024, .f32⟩
  | .hbm, ⟨1, _⟩ => ⟨S898x1024, .f32⟩
  | .hbm, ⟨2, _⟩ => ⟨S898x1024, .f32⟩
  | .hbm, ⟨3, _⟩ => ⟨S898x1024, .f32⟩
  | .hbm, ⟨4, _⟩ => ⟨S_, .f32⟩
  | .hbm, ⟨5, _⟩ => ⟨S898x1024, .f32⟩
  | .hbm, ⟨6, _⟩ => ⟨S898x1024, .f32⟩
  | .hbm, ⟨7, _⟩ => ⟨S_, .f32⟩
  | .hbm, ⟨8, _⟩ => ⟨S898x1024, .f32⟩
  | .hbm, ⟨9, _⟩ => ⟨S898x1024, .f32⟩
  | .hbm, ⟨10, _⟩ => ⟨S898x1024, .f32⟩
  | .hbm, ⟨11, _⟩ => ⟨S_, .f32⟩
  | .hbm, ⟨12, _⟩ => ⟨S898x1024, .f32⟩
  | .hbm, ⟨13, _⟩ => ⟨S898x1024, .f32⟩
  | .hbm, ⟨14, _⟩ => ⟨S898x1024, .f32⟩
  | .hbm, ⟨15, _⟩ => ⟨S_, .f32⟩
  | .hbm, ⟨16, _⟩ => ⟨S898x1024, .f32⟩
  | .hbm, ⟨17, _⟩ => ⟨S898x1024, .f32⟩
  | .hbm, ⟨18, _⟩ => ⟨S898x1024, .f32⟩
  | .hbm, ⟨19, _⟩ => ⟨S_, .f32⟩
  | .hbm, ⟨20, _⟩ => ⟨S898x1024, .f32⟩
  | .hbm, ⟨21, _⟩ => ⟨S898x1024, .f32⟩
  | .hbm, ⟨22, _⟩ => ⟨S_, .f32⟩
  | .hbm, ⟨23, _⟩ => ⟨S898x1024, .f32⟩
  | .hbm, ⟨24, _⟩ => ⟨S898x1024, .f32⟩
  | .hbm, ⟨25, _⟩ => ⟨S898x1024, .f32⟩
  | .hbm, ⟨26, _⟩ => ⟨S_, .f32⟩
  | .hbm, ⟨27, _⟩ => ⟨S898x1024, .f32⟩
  | .hbm, ⟨28, _⟩ => ⟨S898x1024, .f32⟩
  | .hbm, ⟨29, _⟩ => ⟨S898x1024, .f32⟩
  | .hbm, ⟨30, _⟩ => ⟨S_, .f32⟩
  | .hbm, ⟨31, _⟩ => ⟨S898x1024, .f32⟩
  | .hbm, ⟨32, _⟩ => ⟨S898x1024, .f32⟩
  | .hbm, ⟨33, _⟩ => ⟨S898x1024, .f32⟩
  | .hbm, ⟨34, _⟩ => ⟨S_, .f32⟩
  | .hbm, ⟨35, _⟩ => ⟨S898x1024, .f32⟩
  | .hbm, ⟨36, _⟩ => ⟨S898x1024, .f32⟩
  | _, _ => ⟨S898x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GdnRun.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a trip of the loop writes depends on no contents of the four result buffers (their loads before a
   store are not used), only on the inputs and the carried gradient of the state. -/
theorem trip_indep (𝒱 : Variants) (c : Dev nD) (bd : Option 𝒱.V) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (v3 : IVec S64x64 32) (v4 : IVec S64x64 32) (v7 : IVec S1x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 k f8 f9 f10 f11 f12 = tripL_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 k arg8.view.junk arg9.view.junk arg10.view.junk arg11.view.junk f12 := by
  unfold tripL_k0_t1 trip_k0_t1
  rfl

/-- So the pieces of the trips before `n` are those found over any contents of the result buffers. -/
theorem pb_indep (𝒱 : Variants) (c : Dev nD) (bd : Option 𝒱.V) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (v3 : IVec S64x64 32) (v4 : IVec S64x64 32) (v7 : IVec S1x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : ℕ) (hn : n ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 f8 f9 f10 f11 f12 n = pb_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 arg8.view.junk arg9.view.junk arg10.view.junk arg11.view.junk f12 n := by
  induction n with
  | zero => rfl
  | succ n ih =>
    have ih : pb_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 f8 f9 f10 f11 f12 (⟨n, hn⟩ : Fin k0_t1_loop.trips).val = pb_k0_t1 (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 arg8.view.junk arg9.view.junk arg10.view.junk arg11.view.junk f12 (⟨n, hn⟩ : Fin k0_t1_loop.trips).val := ih (Nat.le_of_succ_le hn)
    have h1 := pb_k0_t1_succ (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 f8 f9 f10 f11 f12 ⟨n, hn⟩
    have h2 := pb_k0_t1_succ (F := F) 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 arg8.view.junk arg9.view.junk arg10.view.junk arg11.view.junk f12 ⟨n, hn⟩
    refine h1.trans (Eq.trans ?_ h2.symm)
    rw [ih]
    rw [trip_indep 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 ⟨n, hn⟩ (arg8.view.writes (Elt F) f8 _) (arg9.view.writes (Elt F) f9 _) (arg10.view.writes (Elt F) f10 _) (arg11.view.writes (Elt F) f11 _)]
    rw [trip_indep 𝒱 c bd i arg1 harg1 arg2 harg2 arg3 harg3 arg4 harg4 arg5 harg5 arg6 harg6 arg7 harg7 arg8 harg8 arg9 harg9 arg10 harg10 arg11 harg11 arg12 harg12 v3 v4 v7 X_arg1 X_arg2 X_arg3 X_arg4 X_arg5 X_arg6 X_arg7 ⟨n, hn⟩ (arg8.view.writes (Elt F) arg8.view.junk _) (arg9.view.writes (Elt F) arg9.view.junk _) (arg10.view.writes (Elt F) arg10.view.junk _) (arg11.view.writes (Elt F) arg11.view.junk _)]

/-- The pieces of all trips of the loop at one grid point, from the blocks `x·` and the carried scratch `G`. -/
abbrev pbAll (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (G : BufTy.Contents (Elt F) arg12.view.ty) :=
  pb_k0_t1 (F := F) Variants.none c none i arg1 harg1 arg2 harg2 arg3 harg3 arg4 harg4 arg5 harg5 arg6 harg6 arg7 harg7 arg8 harg8 arg9 harg9 arg10 harg10 arg11 harg11 arg12 harg12 (iota .tc S64x64 32 [0] iota_S64x64_d0_w32) (iota .tc S64x64 32 [1] iota_S64x64_d1_w32) (iota .tc S1x128 32 [1] iota_S1x128_d1_w32) (harg1.unread x0) (harg2.unread x1) (harg3.unread x2) (harg4.unread x3) (harg5.unread x4) (harg6.unread x5) (harg7.unread x6) arg8.view.junk arg9.view.junk arg10.view.junk arg11.view.junk G (Scf.trips k0_t1_loop.lb k0_t1_loop.ub k0_t1_loop.st)

/-- The piece that resets the carried scratch at the first point. -/
abbrev resetPc : List (View.Piece (Elt F) S2x4x128x128 .f32) := [⟨Rect.unit (s := S2x4x128x128) ![0, 0, 0, 0] S2x4x128x128.size inb_S2x4x128x128_S2x4x128x128_0_0_0_0, k0_pay1 (F := F)⟩]

/-- The run of the body at the first point: it ends with the pieces `pbAll` written into the result
   buffers and into the carried scratch. -/
theorem run_A (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).1)) ∗ (∃ f, arg9.view.loc (c : Thread nD τ) ↦[arg9.view.set]{fullShare} arg9.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.1)) ∗ (∃ f, arg10.view.loc (c : Thread nD τ) ↦[arg10.view.set]{fullShare} arg10.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.1)) ∗ (∃ f, arg11.view.loc (c : Thread nD τ) ↦[arg11.view.set]{fullShare} arg11.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.2.1)) ∗ (∃ f, arg12.view.loc (c : Thread nD τ) ↦[arg12.view.set]{fullShare} arg12.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.2.2 ++ resetPc))) -∗ K ⟨⟩))
          ⊢ wp frame (wpE (defs₀ (F := F)) Variants.none c none) E (cc0_gdn_bwd i arg1 harg1 arg2 harg2 arg3 harg3 arg4 harg4 arg5 harg5 arg6 harg6 arg7 harg7 arg8 harg8 arg9 harg9 arg10 harg10 arg11 harg11 arg12 harg12) K := by
  intro E K
  simp only [cc0_gdn_bwd_eq_skeleton]; unfold cc0_gdn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  rw [pb_indep _ _ _ _ _ _ _ _ _ _ _ _ _ _ _ _ _ _ _ _ _ _ _ _ _ _ _ _ _ _ _ _ _ _ _ _ _ _ f7 f8 f9 f10 _ _ (le_refl _)]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]; · iexists _; iexact H7
  isplitl [H8]; · iexists _; iexact H8
  isplitl [H9]; · iexists _; iexact H9
  isplitl [H10]; · iexists _; iexact H10
  iexists _; iexact HS0

/-- The run's pieces with their run. -/
noncomputable def kernelRun0_A (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) :
    Σ' (L7 : List (View.Piece (Elt F) S2x192x512 .f32)), Σ' (L8 : List (View.Piece (Elt F) S2x192x512 .f32)), Σ' (L9 : List (View.Piece (Elt F) S2x192x512 .f32)), Σ' (L10 : List (View.Piece (Elt F) S2x192x128 .f32)), { LS0 : List (View.Piece (Elt F) S2x4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_gdn_bwd i arg1 harg1 arg2 harg2 arg3 harg3 arg4 harg4 arg5 harg5 arg6 harg6 arg7 harg7 arg8 harg8 arg9 harg9 arg10 harg10 arg11 harg11 arg12 harg12) K } :=
  ⟨(pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (arg12.view.writes (Elt F) arg12.view.junk resetPc)).2.2.2.2 ++ resetPc, run_A c i arg1 harg1 arg2 harg2 arg3 harg3 arg4 harg4 arg5 harg5 arg6 harg6 arg7 harg7 arg8 harg8 arg9 harg9 arg10 harg10 arg11 harg11 arg12 harg12 hc0 x0 x1 x2 x3 x4 x5 x6⟩

/-- The run of the body at a later point: it ends with the pieces `pbAll` written into the result
   buffers and into the carried scratch. -/
theorem run_B (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).1)) ∗ (∃ f, arg9.view.loc (c : Thread nD τ) ↦[arg9.view.set]{fullShare} arg9.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.1)) ∗ (∃ f, arg10.view.loc (c : Thread nD τ) ↦[arg10.view.set]{fullShare} arg10.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.1)) ∗ (∃ f, arg11.view.loc (c : Thread nD τ) ↦[arg11.view.set]{fullShare} arg11.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.2.1)) ∗ (∃ f, arg12.view.loc (c : Thread nD τ) ↦[arg12.view.set]{fullShare} arg12.view.writes (Elt F) f ((pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.2.2))) -∗ K ⟨⟩))
          ⊢ wp frame (wpE (defs₀ (F := F)) Variants.none c none) E (cc0_gdn_bwd i arg1 harg1 arg2 harg2 arg3 harg3 arg4 harg4 arg5 harg5 arg6 harg6 arg7 harg7 arg8 harg8 arg9 harg9 arg10 harg10 arg11 harg11 arg12 harg12) K := by
  intro E K
  simp only [cc0_gdn_bwd_eq_skeleton]; unfold cc0_gdn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0
  sl_exec (disch := first | sl_exact hc0)
  sl_step
  rw [pb_indep _ _ _ _ _ _ _ _ _ _ _ _ _ _ _ _ _ _ _ _ _ _ _ _ _ _ _ _ _ _ _ _ _ _ _ _ _ _ f7 f8 f9 f10 _ _ (le_refl _)]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]; · iexists _; iexact H7
  isplitl [H8]; · iexists _; iexact H8
  isplitl [H9]; · iexists _; iexact H9
  isplitl [H10]; · iexists _; iexact H10
  iexists _; iexact HS0

/-- The run's pieces with their run. -/
noncomputable def kernelRun0_B (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) :
    Σ' (L7 : List (View.Piece (Elt F) S2x192x512 .f32)), Σ' (L8 : List (View.Piece (Elt F) S2x192x512 .f32)), Σ' (L9 : List (View.Piece (Elt F) S2x192x512 .f32)), Σ' (L10 : List (View.Piece (Elt F) S2x192x128 .f32)), { LS0 : List (View.Piece (Elt F) S2x4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_gdn_bwd i arg1 harg1 arg2 harg2 arg3 harg3 arg4 harg4 arg5 harg5 arg6 harg6 arg7 harg7 arg8 harg8 arg9 harg9 arg10 harg10 arg11 harg11 arg12 harg12) K } :=
  ⟨(pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.2.1, (pbAll c i arg1 harg1 arg2 harg2 arg3 harg3 arg4 harg4 arg5 harg5 arg6 harg6 arg7 harg7 arg8 harg8 arg9 harg9 arg10 harg10 arg11 harg11 arg12 harg12 x0 x1 x2 x3 x4 x5 x6 (harg12.unread xs0)).2.2.2.2, run_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0⟩

end Cert.KernelIdeal.Gen
-- ==== Proof.GdnFrame.lean ====
module

public import proofs.«01_k».proof.Proof.GdnRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (24 stores of `S1x64x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (y : S2x192x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S1x64x128.size (by sl_kernel_rfl) y

/-- What case A leaves in output 7's staging buffer: its pieces read back over junk. -/
def out0_A_7 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) : Vec F S2x192x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (24 stores of `S1x64x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (y : S2x192x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S1x64x128.size (by sl_kernel_rfl) y

/-- What case A leaves in output 8's staging buffer: its pieces read back over junk. -/
def out0_A_8 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) : Vec F S2x192x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for output 9 tile its block (24 stores of `S1x64x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (y : S2x192x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S1x64x128.size (by sl_kernel_rfl) y

/-- What case A leaves in output 9's staging buffer: its pieces read back over junk. -/
def out0_A_9 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) : Vec F S2x192x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for output 10 tile its block (6 stores of `S1x64x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (y : S2x192x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S1x64x128.size (by sl_kernel_rfl) y

/-- What case A leaves in output 10's staging buffer: its pieces read back over junk. -/
def out0_A_10 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) : Vec F S2x192x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: one of them a store of the WHOLE buffer (Lib/Ring.lean `sl_whole_mem`). -/
theorem scover0_A_0 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (y : S2x4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 (by sl_whole_mem) y

/-- What case A leaves in scratch `arg12`: its pieces read back over junk. -/
def sout0_A_0 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) : Vec F S2x4x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (24 stores of `S1x64x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) (y : S2x192x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1 S1x64x128.size (by sl_kernel_rfl) y

/-- What case B leaves in output 7's staging buffer: its pieces read back over junk. -/
def out0_B_7 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) : Vec F S2x192x512 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1)

/-- Case B's pieces for output 8 tile its block (24 stores of `S1x64x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) (y : S2x192x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1 S1x64x128.size (by sl_kernel_rfl) y

/-- What case B leaves in output 8's staging buffer: its pieces read back over junk. -/
def out0_B_8 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) : Vec F S2x192x512 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1)

/-- Case B's pieces for output 9 tile its block (24 stores of `S1x64x128`, checked by the kernel's evaluation: Lib/Ring.lean `Piece.tiledL`, linear in the pieces, through a loop's `@[irreducible]` trip theorem too), so they cover it. -/
theorem cover0_B_9 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) (y : S2x192x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1 S1x64x128.size (by sl_kernel_rfl) y

/-- What case B leaves in output 9's staging buffer: its pieces read back over junk. -/
def out0_B_9 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) : Vec F S2x192x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1)

/-- Case B's pieces for output 10 tile its block (6 stores of `S1x64x128`, checked by the kernel's evaluation: Lib/Ring.lean `Piece.tiledL`, linear in the pieces, through a loop's `@[irreducible]` trip theorem too), so they cover it. -/
theorem cover0_B_10 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) (y : S2x192x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 S1x64x128.size (by sl_kernel_rfl) y

/-- What case B leaves in output 10's staging buffer: its pieces read back over junk. -/
def out0_B_10 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) : Vec F S2x192x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1)

/-- Case B's pieces for scratch `arg12`, which the kernel carries between points, cover it: 24 pieces of `S1x1x128x128` tiling it (Lib/Ring.lean `Piece.tiledL`). -/
theorem scover0_B_0 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) (y : S2x4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1 S1x1x128x128.size (by sl_kernel_rfl) y

/-- What case B leaves in scratch `arg12`: its pieces read back over junk. -/
def sout0_B_0 (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (hc0 : ¬cond0_0 i)
    (x0 : Vec F S2x192x512 .f32) (x1 : Vec F S2x192x512 .f32) (x2 : Vec F S2x192x512 .f32) (x3 : Vec F S2x192x512 .f32) (x4 : Vec F S2x192x128 .f32) (x5 : Vec F S2x4x3x128x128 .f32) (x6 : Vec F S2x4x3x64x64 .f32) (xs0 : Vec F S2x4x128x128 .f32) : Vec F S2x4x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x192x512 .f32 × Vec F S2x192x512 .f32 × Vec F S2x192x512 .f32 × Vec F S2x192x128 .f32 × Vec F S2x4x128x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 11 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2)

/-- `outsAt0` at a point of case A: that case's contents. -/
theorem outsAt0_A (c : Dev nD) (t : Fin cfg0.N) (h0 : t.val % 11 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 11 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 11 := lt_of_lt_of_eq t.isLt (show cfg0.N = 11 from N_0)
  by_cases h0 : t.val % 11 = 0
  · by_cases hz : t.val = 0
    · rw [PhiS_castSucc m c t, PhiS_zero m c _ _ hz, PhiA0_eq]
      rw [outsAt0_A m c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · exfalso; have hN : t.val < 11 := lt_of_lt_of_eq t.isLt (show cfg0.N = 11 from N_0); omega
  · by_cases hz : t.val = 0
    · exfalso; have hN : t.val < 11 := lt_of_lt_of_eq t.isLt (show cfg0.N = 11 from N_0); omega
    · rw [PhiS_castSucc m c t, PhiS_pos m c _ _ hz]
      rw [outsAt0_B m c t h0]
      unfold out0_B_7 out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 11 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.GdnOut.lean ====
module

public import proofs.«01_k».proof.Proof.GdnFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 11 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 11 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed7, outsAt0_B m c t h0]

/-- The index map sends distinct grid points to distinct block indices (decided over the 11 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x2112x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 11 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 11 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed8, outsAt0_B m c t h0]

/-- The index map sends distinct grid points to distinct block indices (decided over the 11 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x2112x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 11 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 11 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed9, outsAt0_B m c t h0]

/-- The index map sends distinct grid points to distinct block indices (decided over the 11 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2x2112x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 11 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 11 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed10, outsAt0_B m c t h0]

/-- The index map sends distinct grid points to distinct block indices (decided over the 11 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2x2112x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_3) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 7 cfg0.N
      ∧ r.2.mem ((c : Thread nD τ).loc main_v5_1) = (dats m 0 c).arrAt 8 cfg0.N
      ∧ r.2.mem ((c : Thread nD τ).loc main_v5_2) = (dats m 0 c).arrAt 9 cfg0.N
      ∧ r.2.mem ((c : Thread nD τ).loc main_v5_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2x4x128x128 .f32) : Vec F S2x4x128x128 .f32 :=
  if h0 : n % 11 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- WHAT CARRIED SCRATCH 0 HOLDS after point `t`: the fold of its run up to `t`, from the reset at the run's first point
    `11·(t / 11)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (11 * (t.val / 11)) (t.val % 11)
      (by have h1 := t.isLt; have h2 := Nat.div_add_mod t.val 11; omega) :=
  Pipeline.eq_accAt_of_mod (fun n h => (outsAt0 m c n h).2.2.2.2) 11 (fun n h => scAt0_0 m c n h (VS0_0.read (Elt F) VS0_0.junk)) (scAt0_0 m c)
    (fun n h hn => by
      have hN := lt_of_lt_of_eq h (show cfg0.N = 11 from N_0)
      by_cases h0 : n % 11 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 11 from N_0)
      by_cases h0 : (n + 1) % 11 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 11 from N_0)
  have hd : n / 11 = 0 := Nat.div_eq_of_lt hN
  have hm : n % 11 = n := Nat.mod_eq_of_lt hN
  simpa only [hd, hm, Nat.mul_zero] using e

end Cert.KernelIdeal.Value

end
-- ==== Proof.GdnKernel.lean ====
module

public import proofs.«01_k».proof.Defs
public import proofs.«01_k».proof.Proof.GdnFrame
public import proofs.«01_k».proof.Proof.Gen.Kernel
@[expose] public section
set_option maxRecDepth 65536
noncomputable section
namespace Cert.Proof
open Idealize.ShloMosaic Idealize.SL.Sem Cert.Kernel
/-- The kernel as printed and its exact reading are the same text: here at the device's float values. -/
theorem cc_eq : Cert.Kernel.cc0_gdn_bwd (F := Bits) = Cert.KernelIdeal.cc0_gdn_bwd := rfl
theorem d0_eq : Cert.Kernel.defs₀ (F := Bits) = Cert.KernelIdeal.defs₀ := by
  unfold Cert.Kernel.defs₀ Cert.KernelIdeal.defs₀
  refine congrArg _ ?_
  funext l a
  match l, a with
  | 0, (t, s) =>
    dsimp only
    rw [cc_eq]
    rfl
  | ⟨_ + 1, h⟩, _ => exact absurd h (Nat.not_lt.2 (Nat.le_add_left _ _))
theorem defs_eq : Cert.Kernel.defs (F := Bits) = Cert.KernelIdeal.defs := by
  unfold Cert.Kernel.defs Cert.KernelIdeal.defs
  rw [d0_eq]
  rfl
/-- The frame of the kernel as printed: that of the exact reading's text, which holds over any float values. -/
theorem frame_kernel : Cert.quiescent_Kernel := by
  intro m ρ _
  rw [defs_eq]
  exact Cert.KernelIdeal.Gen.frame (F := Bits) m ρ
end Cert.Proof
end
-- ==== Proof.GdnChain.lean ====
module

public import proofs.«01_k».proof.Proof.Gen.KernelIdeal.Frame.Runs

@[expose] public section

set_option maxRecDepth 16384

noncomputable section

namespace Cert.KernelIdeal.Gdn

open Idealize.ShloMosaic Idealize.ShloMosaic.TcCoe
open Cert.KernelIdeal Cert.KernelIdeal.Gen Facts

variable {F : FTy → Type} [FloatOps F]

/-! The operations that the kernel runs on one chain: the (batch, head) pair's chunk of 64 rows. -/

/-- What a chain loads: the chunk's rows of q, k, v and of the cotangent of o, the chunk's beta and g as columns, the
    state in front of the chunk, the saved inverse, and the cotangent of the state behind the chunk. -/
structure Chain (F : FTy → Type) [FloatOps F] where
  q : FVec F S64x128 .f32
  k : FVec F S64x128 .f32
  v : FVec F S64x128 .f32
  o : FVec F S64x128 .f32
  b : FVec F S64x1 .f32
  g : FVec F S64x1 .f32
  S : FVec F S128x128 .f32
  D : FVec F S128x128 .f32
  T : FVec F S64x64 .f32

abbrev ii : IVec S64x64 32 := iota .tc S64x64 32 [0] iota_S64x64_d0_w32
abbrev jj : IVec S64x64 32 := iota .tc S64x64 32 [1] iota_S64x64_d1_w32

def nnRows (x : FVec F S64x64 .f32) (y : FVec F S64x128 .f32) : FVec F S64x128 .f32 :=
  matmul dot_S64x64_S64x128_S64x128_1_0_0_1_n_n none (truncf .bf16 x bitsLt_bf16_f32) (truncf .bf16 y bitsLt_bf16_f32) (constant S64x128 .f32 0x00000000#32)

def tnRows (x : FVec F S64x64 .f32) (y : FVec F S64x128 .f32) : FVec F S64x128 .f32 :=
  matmul dot_S64x64_S64x128_S64x128_0_0_1_1_n_n none (truncf .bf16 x bitsLt_bf16_f32) (truncf .bf16 y bitsLt_bf16_f32) (constant S64x128 .f32 0x00000000#32)

def nnState (x : FVec F S64x128 .f32) (y : FVec F S128x128 .f32) : FVec F S64x128 .f32 :=
  matmul dot_S64x128_S128x128_S64x128_1_0_0_1_n_n none (truncf .bf16 x bitsLt_bf16_f32) (truncf .bf16 y bitsLt_bf16_f32) (constant S64x128 .f32 0x00000000#32)

def ntState (x : FVec F S64x128 .f32) (y : FVec F S128x128 .f32) : FVec F S64x128 .f32 :=
  matmul dot_S64x128_S128x128_S64x128_1_1_0_0_n_n none (truncf .bf16 x bitsLt_bf16_f32) (truncf .bf16 y bitsLt_bf16_f32) (constant S64x128 .f32 0x00000000#32)

def ntPair (x : FVec F S64x128 .f32) (y : FVec F S64x128 .f32) : FVec F S64x64 .f32 :=
  matmul dot_S64x128_S64x128_S64x64_1_1_0_0_n_n none (truncf .bf16 x bitsLt_bf16_f32) (truncf .bf16 y bitsLt_bf16_f32) (constant S64x64 .f32 0x00000000#32)

def tnState (x : FVec F S64x128 .f32) (y : FVec F S64x128 .f32) : FVec F S128x128 .f32 :=
  matmul dot_S64x128_S64x128_S128x128_0_0_1_1_n_n none (truncf .bf16 x bitsLt_bf16_f32) (truncf .bf16 y bitsLt_bf16_f32) (constant S128x128 .f32 0x00000000#32)

def tnPair (x : FVec F S64x64 .f32) (y : FVec F S64x64 .f32) : FVec F S64x64 .f32 :=
  matmul dot_S64x64_S64x64_S64x64_0_0_1_1_n_n none (truncf .bf16 x bitsLt_bf16_f32) (truncf .bf16 y bitsLt_bf16_f32) (constant S64x64 .f32 0x00000000#32)

def ntSquare (x : FVec F S64x64 .f32) (y : FVec F S64x64 .f32) : FVec F S64x64 .f32 :=
  matmul dot_S64x64_S64x64_S64x64_1_1_0_0_n_n none (truncf .bf16 x bitsLt_bf16_f32) (truncf .bf16 y bitsLt_bf16_f32) (constant S64x64 .f32 0x00000000#32)

def zero64 : FVec F S64x64 .f32 := broadcast S64x64 (Scalar.ofBits .f32 0x00000000#32)
def col64 (x : FVec F S64x1 .f32) : FVec F S64x64 .f32 := broadcastTo S64x64 x broadcasts_S64x1_S64x64
def col128 (x : FVec F S64x1 .f32) : FVec F S64x128 .f32 := broadcastTo S64x128 x broadcasts_S64x1_S64x128
/-- The sums of the rows, as a column. -/
def rowsum64 (x : FVec F S64x64 .f32) : FVec F S64x1 .f32 :=
  shapeCast S64x1 (multiReduction .add [1] S64 x 0x00000000#32 reduces_S64x64_S64_2 (.inl rfl) rfl) shapeCasts_S64_S64x1
def rowsum128 (x : FVec F S64x128 .f32) : FVec F S64x1 .f32 :=
  shapeCast S64x1 (multiReduction .add [1] S64 x 0x00000000#32 reduces_S64x128_S64 (.inl rfl) rfl) shapeCasts_S64_S64x1
/-- The sums of the columns, as a row. -/
def colsum (x : FVec F S64x64 .f32) : FVec F S1x64 .f32 :=
  shapeCast S1x64 (multiReduction .add [0] S64 x 0x00000000#32 reduces_S64x64_S64 (.inl rfl) rfl) shapeCasts_S64_S1x64
/-- A column's entries as a row: the column on the diagonal, summed over its rows. -/
def asRow (x : FVec F S64x1 .f32) : FVec F S1x64 .f32 :=
  colsum (select (cmpi .eq ii jj) (broadcastTo S64x64 (shapeCast S64x1 x shapeCasts_S64x1_S64x1) broadcasts_S64x1_S64x64) zero64)
def rowWhere (c : IVec S64x64 1) (x : FVec F S1x64 .f32) : FVec F S64x64 .f32 :=
  select c (broadcastTo S64x64 (shapeCast S1x64 x shapeCasts_S1x64_S1x64) broadcasts_S1x64_S64x64) zero64
def total64 (x : FVec F S64x128 .f32) : FVec F S1x1 .f32 :=
  shapeCast S1x1 (multiReduction .add [0] S1 (rowsum128 x) 0x00000000#32 reduces_S64x1_S1 (.inl rfl) rfl) shapeCasts_S1_S1x1
def total128 (x : FVec F S128x128 .f32) : FVec F S1x1 .f32 :=
  shapeCast S1x1 (multiReduction .add [0] S1 (shapeCast S128x1 (multiReduction .add [1] S128 x 0x00000000#32 reduces_S128x128_S128 (.inl rfl) rfl) shapeCasts_S128_S128x1) 0x00000000#32 reduces_S128x1_S1 (.inl rfl) rfl) shapeCasts_S1_S1x1

namespace Chain

def gRow (C : Chain F) : FVec F S1x64 .f32 := asRow C.g
def gcCol (C : Chain F) : FVec F S64x1 .f32 := rowsum64 (rowWhere (cmpi .sge ii jj) C.gRow)
def gcRow (C : Chain F) : FVec F S1x64 .f32 := colsum (select (cmpi .sle ii jj) (broadcastTo S64x64 (shapeCast S64x1 C.g shapeCasts_S64x1_S64x1) broadcasts_S64x1_S64x64) zero64)
def gTotal (C : Chain F) : FVec F S1x1 .f32 := shapeCast S1x1 (multiReduction .add [1] S1 C.gRow 0x00000000#32 reduces_S1x64_S1 (.inl rfl) rfl) shapeCasts_S1_S1x1
def decay (C : Chain F) : FVec F S64x64 .f32 := select (cmpi .sge ii jj) (exp (select (cmpi .sge ii jj) (subf (col64 C.gcCol) (broadcastTo S64x64 C.gcRow broadcasts_S1x64_S64x64)) zero64)) zero64
def kb (C : Chain F) : FVec F S64x128 .f32 := mulf C.k (col128 C.b)
def vb (C : Chain F) : FVec F S64x128 .f32 := mulf C.v (col128 C.b)
def eg (C : Chain F) : FVec F S64x1 .f32 := exp C.gcCol
def kbg (C : Chain F) : FVec F S64x128 .f32 := mulf C.kb (col128 C.eg)
def a (C : Chain F) : FVec F S64x64 .f32 := select (cmpi .sgt ii jj) (mulf (ntPair C.kb C.k) C.decay) zero64
def qk (C : Chain F) : FVec F S64x64 .f32 := select (cmpi .sge ii jj) (mulf (ntPair C.q C.k) C.decay) zero64
def w (C : Chain F) : FVec F S64x128 .f32 := nnRows C.T C.kbg
def u (C : Chain F) : FVec F S64x128 .f32 := nnRows C.T C.vb
def qDec (C : Chain F) : FVec F S64x128 .f32 := mulf C.q (col128 C.eg)
def ek (C : Chain F) : FVec F S64x1 .f32 := exp (subf (broadcastTo S64x1 C.gTotal broadcasts_S1x1_S64x1) C.gcCol)
def kDec (C : Chain F) : FVec F S64x128 .f32 := mulf C.k (col128 C.ek)
def gLast (C : Chain F) : FVec F S1x1 .f32 := exp C.gTotal
def vNew (C : Chain F) : FVec F S64x128 .f32 := subf C.u (nnState C.w C.S)
def dvNew (C : Chain F) : FVec F S64x128 .f32 := addf (tnRows C.qk C.o) (nnState C.kDec C.D)
def dqk (C : Chain F) : FVec F S64x64 .f32 := select (cmpi .sge ii jj) (ntPair C.o C.vNew) zero64
def dqDec (C : Chain F) : FVec F S64x128 .f32 := ntState C.o C.S
def dkDec (C : Chain F) : FVec F S64x128 .f32 := ntState C.vNew C.D
def dgLast (C : Chain F) : FVec F S1x1 .f32 := total128 (mulf C.S C.D)
def newD (C : Chain F) : FVec F S128x128 .f32 := subf (addf (tnState C.qDec C.o) (mulf (broadcastTo S128x128 C.gLast broadcasts_S1x1_S128x128) C.D)) (tnState C.w C.dvNew)
def dw (C : Chain F) : FVec F S64x128 .f32 := subf (broadcast S64x128 (Scalar.ofBits .f32 0x00000000#32)) (ntState C.dvNew C.S)
def dt (C : Chain F) : FVec F S64x64 .f32 := addf (ntPair C.dvNew C.vb) (ntPair C.dw C.kbg)
def dvb (C : Chain F) : FVec F S64x128 .f32 := tnRows C.T C.dvNew
def dkbg (C : Chain F) : FVec F S64x128 .f32 := tnRows C.T C.dw
def tDt (C : Chain F) : FVec F S64x64 .f32 := tnPair C.T C.dt
def da (C : Chain F) : FVec F S64x64 .f32 := subf zero64 (select (cmpi .sgt ii jj) (ntSquare C.tDt C.T) zero64)
def dmA (C : Chain F) : FVec F S64x64 .f32 := mulf C.da C.decay
def dmQk (C : Chain F) : FVec F S64x64 .f32 := mulf C.dqk C.decay
def e (C : Chain F) : FVec F S64x64 .f32 := addf (mulf C.da C.a) (mulf C.dqk C.qk)
def dkb (C : Chain F) : FVec F S64x128 .f32 := addf (nnRows C.dmA C.k) (mulf C.dkbg (col128 C.eg))
def dk (C : Chain F) : FVec F S64x128 .f32 := addf (addf (addf (tnRows C.dmA C.kb) (tnRows C.dmQk C.q)) (mulf C.dkDec (col128 C.ek))) (mulf C.dkb (col128 C.b))
def dq (C : Chain F) : FVec F S64x128 .f32 := addf (nnRows C.dmQk C.k) (mulf C.dqDec (col128 C.eg))
def dv (C : Chain F) : FVec F S64x128 .f32 := mulf C.dvb (col128 C.b)
def dbeta (C : Chain F) : FVec F S64x1 .f32 := rowsum128 (addf (mulf C.dkb C.k) (mulf C.dvb C.v))
def dgc (C : Chain F) : FVec F S64x1 .f32 := addf (subf (rowsum64 C.e) (rowsum64 (rowWhere (cmpi .eq ii jj) (colsum C.e)))) (rowsum128 (addf (subf (mulf C.dqDec C.qDec) (mulf C.dkDec C.kDec)) (mulf C.dkbg C.kbg)))
def dTotal (C : Chain F) : FVec F S1x1 .f32 := addf (total64 (mulf C.dkDec C.kDec)) (mulf C.dgLast C.gLast)
def dg (C : Chain F) : FVec F S64x1 .f32 := addf (rowsum64 (rowWhere (cmpi .sge jj ii) (asRow C.dgc))) (broadcastTo S64x1 C.dTotal broadcasts_S1x1_S64x1)

end Chain

/-- A column into one lane of the 128, zero elsewhere. -/
def lane (n : BitVec 32) (x : FVec F S64x1 .f32) : FVec F S64x128 .f32 :=
  select (broadcastTo S64x128 (shapeCast S1x128 (cmpi .eq (iota .tc S1x128 32 [1] iota_S1x128_d1_w32) (broadcast S1x128 n)) shapeCasts_S1x128_S1x128) broadcasts_S1x128_S64x128)
    (broadcastTo S64x128 (shapeCast S64x1 x shapeCasts_S64x1_S64x1) broadcasts_S64x1_S64x128) (broadcast S64x128 (Scalar.ofBits .f32 0x00000000#32))

/-- The four heads' gradients of beta and g, in their lanes. -/
def dbg (C0 C1 C2 C3 : Chain F) : FVec F S64x128 .f32 :=
  addf (addf (addf (addf (addf (addf (addf (addf (broadcast S64x128 (Scalar.ofBits .f32 0x00000000#32))
    (lane 0#32 C0.dbeta)) (lane 4#32 C0.dg)) (lane 1#32 C1.dbeta)) (lane 5#32 C1.dg)) (lane 2#32 C2.dbeta)) (lane 6#32 C2.dg))
    (lane 3#32 C3.dbeta)) (lane 7#32 C3.dg)

/-- A chain from the loads: the blocks' rows as the kernel loads them. -/
def mk (bg q k v o : Vec F S1x64x128 .f32) (S : Vec F S1x1x1x128x128 .f32) (T : Vec F S1x1x1x64x64 .f32) (D : Vec F S1x1x128x128 .f32)
    (ob og : Fin 2 → ℕ) (hb : S64x128.Slices ob S64x1) (hg : S64x128.Slices og S64x1) : Chain F where
  q := shapeCast S64x128 q shapeCasts_S1x64x128_S64x128
  k := shapeCast S64x128 k shapeCasts_S1x64x128_S64x128
  v := shapeCast S64x128 v shapeCasts_S1x64x128_S64x128
  o := shapeCast S64x128 o shapeCasts_S1x64x128_S64x128
  b := extractStridedSlice S64x1 ob (shapeCast S64x128 bg shapeCasts_S1x64x128_S64x128) hb
  g := extractStridedSlice S64x1 og (shapeCast S64x128 bg shapeCasts_S1x64x128_S64x128) hg
  S := shapeCast S128x128 S shapeCasts_S1x1x1x128x128_S128x128
  D := shapeCast S128x128 D shapeCasts_S1x1x128x128_S128x128
  T := shapeCast S64x64 T shapeCasts_S1x1x1x64x64_S64x64

end Cert.KernelIdeal.Gdn

end
-- ==== Proof.GdnMath.lean ====
module

public import Mathlib.Analysis.SpecialFunctions.Exp
public import Mathlib.Algebra.BigOperators.Ring.Finset

@[expose] public section

noncomputable section

namespace Cert.GdnMath

open Finset

/-! The gradient of one chunk of the gated delta rule over the real numbers. -/

/-- One chunk of one chain over the reals: 64 rows of q, k, v and of the cotangent o of the output, the rows' gates g and
    betas b, the state S in front of the chunk, the cotangent D of the state behind it, and the inverse T. -/
structure Chunk where
  q : Fin 64 → Fin 128 → ℝ
  k : Fin 64 → Fin 128 → ℝ
  v : Fin 64 → Fin 128 → ℝ
  o : Fin 64 → Fin 128 → ℝ
  b : Fin 64 → ℝ
  g : Fin 64 → ℝ
  S : Fin 128 → Fin 128 → ℝ
  D : Fin 128 → Fin 128 → ℝ
  T : Fin 64 → Fin 64 → ℝ

namespace Chunk

variable (M : Chunk)

def gc (i : Fin 64) : ℝ := ∑ j, if j ≤ i then M.g j else 0
def tot : ℝ := ∑ j, M.g j
def decay (i j : Fin 64) : ℝ := if j ≤ i then Real.exp (M.gc i - M.gc j) else 0
def kb (i : Fin 64) (d : Fin 128) : ℝ := M.k i d * M.b i
def vb (i : Fin 64) (d : Fin 128) : ℝ := M.v i d * M.b i
def eg (i : Fin 64) : ℝ := Real.exp (M.gc i)
def kbg (i : Fin 64) (d : Fin 128) : ℝ := M.kb i d * M.eg i
def a (i j : Fin 64) : ℝ := if j < i then (∑ d, M.kb i d * M.k j d) * M.decay i j else 0
def qk (i j : Fin 64) : ℝ := if j ≤ i then (∑ d, M.q i d * M.k j d) * M.decay i j else 0
def w (i : Fin 64) (d : Fin 128) : ℝ := ∑ j, M.T i j * M.kbg j d
def u (i : Fin 64) (d : Fin 128) : ℝ := ∑ j, M.T i j * M.vb j d
def qDec (i : Fin 64) (d : Fin 128) : ℝ := M.q i d * M.eg i
def ek (i : Fin 64) : ℝ := Real.exp (M.tot - M.gc i)
def kDec (i : Fin 64) (d : Fin 128) : ℝ := M.k i d * M.ek i
def gLast : ℝ := Real.exp M.tot
def vNew (i : Fin 64) (e : Fin 128) : ℝ := M.u i e - ∑ d, M.w i d * M.S d e
def dvNew (i : Fin 64) (e : Fin 128) : ℝ := (∑ j, M.qk j i * M.o j e) + ∑ d, M.kDec i d * M.D d e
def dqk (i j : Fin 64) : ℝ := if j ≤ i then ∑ d, M.o i d * M.vNew j d else 0
def dqDec (i : Fin 64) (d : Fin 128) : ℝ := ∑ e, M.o i e * M.S d e
def dkDec (i : Fin 64) (d : Fin 128) : ℝ := ∑ e, M.vNew i e * M.D d e
def dgLast : ℝ := ∑ d, ∑ e, M.S d e * M.D d e
/-- The cotangent of the state in front of the chunk. -/
def newD (d e : Fin 128) : ℝ := (∑ i, M.qDec i d * M.o i e) + M.gLast * M.D d e - ∑ i, M.w i d * M.dvNew i e
def dw (i : Fin 64) (d : Fin 128) : ℝ := 0 - ∑ e, M.dvNew i e * M.S d e
def dt (i j : Fin 64) : ℝ := (∑ d, M.dvNew i d * M.vb j d) + ∑ d, M.dw i d * M.kbg j d
def dvb (i : Fin 64) (d : Fin 128) : ℝ := ∑ j, M.T j i * M.dvNew j d
def dkbg (i : Fin 64) (d : Fin 128) : ℝ := ∑ j, M.T j i * M.dw j d
def tDt (i j : Fin 64) : ℝ := ∑ l, M.T l i * M.dt l j
def da (i j : Fin 64) : ℝ := 0 - if j < i then ∑ l, M.tDt i l * M.T j l else 0
def dmA (i j : Fin 64) : ℝ := M.da i j * M.decay i j
def dmQk (i j : Fin 64) : ℝ := M.dqk i j * M.decay i j
def e (i j : Fin 64) : ℝ := M.da i j * M.a i j + M.dqk i j * M.qk i j
def dkb (i : Fin 64) (d : Fin 128) : ℝ := (∑ j, M.dmA i j * M.k j d) + M.dkbg i d * M.eg i
def dk (i : Fin 64) (d : Fin 128) : ℝ :=
  (∑ j, M.dmA j i * M.kb j d) + (∑ j, M.dmQk j i * M.q j d) + M.dkDec i d * M.ek i + M.dkb i d * M.b i
def dq (i : Fin 64) (d : Fin 128) : ℝ := (∑ j, M.dmQk i j * M.k j d) + M.dqDec i d * M.eg i
def dv (i : Fin 64) (d : Fin 128) : ℝ := M.dvb i d * M.b i
def dbeta (i : Fin 64) : ℝ := ∑ d, (M.dkb i d * M.k i d + M.dvb i d * M.v i d)
/-- The gradient of the running sum of the gates. -/
def dgc (i : Fin 64) : ℝ :=
  (∑ j, M.e i j) - (∑ j, M.e j i) + ∑ d, (M.dqDec i d * M.qDec i d - M.dkDec i d * M.kDec i d + M.dkbg i d * M.kbg i d)
def dTotal : ℝ := (∑ i, ∑ d, M.dkDec i d * M.kDec i d) + M.dgLast * M.gLast
def dg (i : Fin 64) : ℝ := (∑ j, if i ≤ j then M.dgc j else 0) + M.dTotal

end Chunk

end Cert.GdnMath

end
-- ==== Proof.GdnReal.lean ====
module

public import proofs.«01_k».proof.Proof.GdnChain
public import proofs.«01_k».proof.Proof.GdnMath
public import Idealize.ShloMosaic.Lib.Pointwise

@[expose] public section

set_option maxRecDepth 16384

noncomputable section

namespace Cert.KernelIdeal.Gdn

open Idealize.ShloMosaic Idealize.ShloMosaic.TcCoe Idealize.ShloMosaic.Pointwise
open Cert.KernelIdeal Cert.KernelIdeal.Gen Cert.GdnMath Facts

/-! Over the extended reals a chain whose loads are finite computes the real numbers of `GdnMath`. -/

/-- The array holds these real numbers. -/
def Is {m n : ℕ} (x : FVec Ideal ⟨2, ![m, n]⟩ .f32) (X : Fin m → Fin n → ℝ) : Prop :=
  ∀ i j, x (ix2 i j) = ((X i j : ℝ) : EReal)

theorem coe_sum {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem coe_ite (p : Prop) [Decidable p] (x : ℝ) : ((if p then x else 0 : ℝ) : EReal) = if p then (x : EReal) else 0 := by
  split <;> simp

theorem exp_coe (r : ℝ) : Ideal.exp (r : EReal) = ((Real.exp r : ℝ) : EReal) := rfl

theorem exp_sub_coe (r s : ℝ) : Ideal.exp ((r : EReal) - (s : EReal)) = ((Real.exp (r - s) : ℝ) : EReal) := by
  rw [← EReal.coe_sub, exp_coe]

theorem select_ite {α : Type} (p : Prop) [Decidable p] (x y : α) :
    Scalar.select (if p then 1#1 else 0#1) x y = if p then x else y := by
  split <;> rfl

theorem sge_ofNat (i j : Fin 64) : IntOp.cmpi .sge (BitVec.ofNat 32 i) (BitVec.ofNat 32 j) = if j ≤ i then 1#1 else 0#1 := by
  revert i j; decide +kernel
theorem sgt_ofNat (i j : Fin 64) : IntOp.cmpi .sgt (BitVec.ofNat 32 i) (BitVec.ofNat 32 j) = if j < i then 1#1 else 0#1 := by
  revert i j; decide +kernel
theorem sle_ofNat (i j : Fin 64) : IntOp.cmpi .sle (BitVec.ofNat 32 i) (BitVec.ofNat 32 j) = if i ≤ j then 1#1 else 0#1 := by
  revert i j; decide +kernel
theorem eq_ofNat (i j : Fin 64) : IntOp.cmpi .eq (BitVec.ofNat 32 i) (BitVec.ofNat 32 j) = if i = j then 1#1 else 0#1 := by
  revert i j; decide +kernel

/-- What the chain loads are the real numbers of the chunk. -/
structure Loads (C : Chain Ideal) (M : Chunk) : Prop where
  q : Is C.q M.q
  k : Is C.k M.k
  v : Is C.v M.v
  o : Is C.o M.o
  b : Is C.b fun i _ => M.b i
  g : Is C.g fun i _ => M.g i
  S : Is C.S M.S
  D : Is C.D M.D
  T : Is C.T M.T

namespace Loads

variable {C : Chain Ideal} {M : Chunk}

theorem gRow (h : Loads C M) : Is C.gRow (fun _ j => M.g j) := by
  intro i j
  obtain rfl : i = 0 := Subsingleton.elim _ _
  pointwise [Chain.gRow, asRow, colsum, zero64, ii, jj]
  simp only [h.g _ _, sge_ofNat, sgt_ofNat, sle_ofNat, eq_ofNat, select_ite, Finset.sum_ite_eq, Finset.sum_ite_eq', Finset.mem_univ, if_true, exp_coe, exp_sub_coe, coe_sum, coe_ite, EReal.coe_add, EReal.coe_sub, EReal.coe_mul, EReal.coe_zero]

theorem gcCol (h : Loads C M) : Is C.gcCol (fun i _ => M.gc i) := by
  intro i j
  obtain rfl : j = 0 := Subsingleton.elim _ _
  pointwise [Chain.gcCol, rowsum64, rowWhere, ii, jj, zero64]
  simp only [h.gRow _ _, sge_ofNat, sgt_ofNat, sle_ofNat, eq_ofNat, select_ite, Finset.sum_ite_eq, Finset.sum_ite_eq', Finset.mem_univ, if_true, exp_coe, exp_sub_coe, Chunk.gc, coe_sum, coe_ite, EReal.coe_add, EReal.coe_sub, EReal.coe_mul, EReal.coe_zero]

theorem gcRow (h : Loads C M) : Is C.gcRow (fun _ j => M.gc j) := by
  intro i j
  obtain rfl : i = 0 := Subsingleton.elim _ _
  pointwise [Chain.gcRow, zero64, colsum, ii, jj]
  simp only [h.g _ _, sge_ofNat, sgt_ofNat, sle_ofNat, eq_ofNat, select_ite, Finset.sum_ite_eq, Finset.sum_ite_eq', Finset.mem_univ, if_true, exp_coe, exp_sub_coe, Chunk.gc, coe_sum, coe_ite, EReal.coe_add, EReal.coe_sub, EReal.coe_mul, EReal.coe_zero]

theorem gTotal (h : Loads C M) : Is C.gTotal (fun _ _ => M.tot) := by
  intro i j
  obtain rfl : i = 0 := Subsingleton.elim _ _
  obtain rfl : j = 0 := Subsingleton.elim _ _
  pointwise [Chain.gTotal]
  simp only [h.gRow _ _, sge_ofNat, sgt_ofNat, sle_ofNat, eq_ofNat, select_ite, Finset.sum_ite_eq, Finset.sum_ite_eq', Finset.mem_univ, if_true, exp_coe, exp_sub_coe, Chunk.tot, coe_sum, coe_ite, EReal.coe_add, EReal.coe_sub, EReal.coe_mul, EReal.coe_zero]

theorem decay (h : Loads C M) : Is C.decay (M.decay) := by
  intro i j
  pointwise [Chain.decay, zero64, col64, ii, jj]
  simp only [h.gcCol _ _, h.gcRow _ _, sge_ofNat, sgt_ofNat, sle_ofNat, eq_ofNat, select_ite, Finset.sum_ite_eq, Finset.sum_ite_eq', Finset.mem_univ, if_true, exp_coe, exp_sub_coe, Chunk.decay, coe_sum, coe_ite, EReal.coe_add, EReal.coe_sub, EReal.coe_mul, EReal.coe_zero]
  by_cases hij : j ≤ i <;> simp [hij, exp_sub_coe]

theorem kb (h : Loads C M) : Is C.kb (M.kb) := by
  intro i j
  pointwise [Chain.kb, col128]
  simp only [h.k _ _, h.b _ _, sge_ofNat, sgt_ofNat, sle_ofNat, eq_ofNat, select_ite, Finset.sum_ite_eq, Finset.sum_ite_eq', Finset.mem_univ, if_true, exp_coe, exp_sub_coe, Chunk.kb, coe_sum, coe_ite, EReal.coe_add, EReal.coe_sub, EReal.coe_mul, EReal.coe_zero]

theorem vb (h : Loads C M) : Is C.vb (M.vb) := by
  intro i j
  pointwise [Chain.vb, col128]
  simp only [h.v _ _, h.b _ _, sge_ofNat, sgt_ofNat, sle_ofNat, eq_ofNat, select_ite, Finset.sum_ite_eq, Finset.sum_ite_eq', Finset.mem_univ, if_true, exp_coe, exp_sub_coe, Chunk.vb, coe_sum, coe_ite, EReal.coe_add, EReal.coe_sub, EReal.coe_mul, EReal.coe_zero]

theorem eg (h : Loads C M) : Is C.eg (fun i _ => M.eg i) := by
  intro i j
  obtain rfl : j = 0 := Subsingleton.elim _ _
  pointwise [Chain.eg]
  simp only [h.gcCol _ _, sge_ofNat, sgt_ofNat, sle_ofNat, eq_ofNat, select_ite, Finset.sum_ite_eq, Finset.sum_ite_eq', Finset.mem_univ, if_true, exp_coe, exp_sub_coe, Chunk.eg, coe_sum, coe_ite, EReal.coe_add, EReal.coe_sub, EReal.coe_mul, EReal.coe_zero]

theorem kbg (h : Loads C M) : Is C.kbg (M.kbg) := by
  intro i j
  pointwise [Chain.kbg, col128]
  simp only [h.kb _ _, h.eg _ _, sge_ofNat, sgt_ofNat, sle_ofNat, eq_ofNat, select_ite, Finset.sum_ite_eq, Finset.sum_ite_eq', Finset.mem_univ, if_true, exp_coe, exp_sub_coe, Chunk.kbg, coe_sum, coe_ite, EReal.coe_add, EReal.coe_sub, EReal.coe_mul, EReal.coe_zero]

theorem a (h : Loads C M) : Is C.a (M.a) := by
  intro i j
  pointwise [Chain.a, ntPair, zero64, ii, jj]
  simp only [h.kb _ _, h.k _ _, h.decay _ _, sge_ofNat, sgt_ofNat, sle_ofNat, eq_ofNat, select_ite, Finset.sum_ite_eq, Finset.sum_ite_eq', Finset.mem_univ, if_true, exp_coe, exp_sub_coe, Chunk.a, coe_sum, coe_ite, EReal.coe_add, EReal.coe_sub, EReal.coe_mul, EReal.coe_zero]

theorem qk (h : Loads C M) : Is C.qk (M.qk) := by
  intro i j
  pointwise [Chain.qk, ntPair, zero64, ii, jj]
  simp only [h.q _ _, h.k _ _, h.decay _ _, sge_ofNat, sgt_ofNat, sle_ofNat, eq_ofNat, select_ite, Finset.sum_ite_eq, Finset.sum_ite_eq', Finset.mem_univ, if_true, exp_coe, exp_sub_coe, Chunk.qk, coe_sum, coe_ite, EReal.coe_add, EReal.coe_sub, EReal.coe_mul, EReal.coe_zero]

theorem w (h : Loads C M) : Is C.w (M.w) := by
  intro i j
  pointwise [Chain.w, nnRows]
  simp only [h.T _ _, h.kbg _ _, sge_ofNat, sgt_ofNat, sle_ofNat, eq_ofNat, select_ite, Finset.sum_ite_eq, Finset.sum_ite_eq', Finset.mem_univ, if_true, exp_coe, exp_sub_coe, Chunk.w, coe_sum, coe_ite, EReal.coe_add, EReal.coe_sub, EReal.coe_mul, EReal.coe_zero]

theorem u (h : Loads C M) : Is C.u (M.u) := by
  intro i j
  pointwise [Chain.u, nnRows]
  simp only [h.T _ _, h.vb _ _, sge_ofNat, sgt_ofNat, sle_ofNat, eq_ofNat, select_ite, Finset.sum_ite_eq, Finset.sum_ite_eq', Finset.mem_univ, if_true, exp_coe, exp_sub_coe, Chunk.u, coe_sum, coe_ite, EReal.coe_add, EReal.coe_sub, EReal.coe_mul, EReal.coe_zero]

theorem qDec (h : Loads C M) : Is C.qDec (M.qDec) := by
  intro i j
  pointwise [Chain.qDec, col128]
  simp only [h.q _ _, h.eg _ _, sge_ofNat, sgt_ofNat, sle_ofNat, eq_ofNat, select_ite, Finset.sum_ite_eq, Finset.sum_ite_eq', Finset.mem_univ, if_true, exp_coe, exp_sub_coe, Chunk.qDec, coe_sum, coe_ite, EReal.coe_add, EReal.coe_sub, EReal.coe_mul, EReal.coe_zero]

theorem ek (h : Loads C M) : Is C.ek (fun i _ => M.ek i) := by
  intro i j
  obtain rfl : j = 0 := Subsingleton.elim _ _
  pointwise [Chain.ek]
  simp only [h.gTotal _ _, h.gcCol _ _, sge_ofNat, sgt_ofNat, sle_ofNat, eq_ofNat, select_ite, Finset.sum_ite_eq, Finset.sum_ite_eq', Finset.mem_univ, if_true, exp_coe, exp_sub_coe, Chunk.ek, coe_sum, coe_ite, EReal.coe_add, EReal.coe_sub, EReal.coe_mul, EReal.coe_zero]

theorem kDec (h : Loads C M) : Is C.kDec (M.kDec) := by
  intro i j
  pointwise [Chain.kDec, col128]
  simp only [h.k _ _, h.ek _ _, sge_ofNat, sgt_ofNat, sle_ofNat, eq_ofNat, select_ite, Finset.sum_ite_eq, Finset.sum_ite_eq', Finset.mem_univ, if_true, exp_coe, exp_sub_coe, Chunk.kDec, coe_sum, coe_ite, EReal.coe_add, EReal.coe_sub, EReal.coe_mul, EReal.coe_zero]

theorem gLast (h : Loads C M) : Is C.gLast (fun _ _ => M.gLast) := by
  intro i j
  obtain rfl : i = 0 := Subsingleton.elim _ _
  obtain rfl : j = 0 := Subsingleton.elim _ _
  pointwise [Chain.gLast]
  simp only [h.gTotal _ _, sge_ofNat, sgt_ofNat, sle_ofNat, eq_ofNat, select_ite, Finset.sum_ite_eq, Finset.sum_ite_eq', Finset.mem_univ, if_true, exp_coe, exp_sub_coe, Chunk.gLast, coe_sum, coe_ite, EReal.coe_add, EReal.coe_sub, EReal.coe_mul, EReal.coe_zero]

theorem vNew (h : Loads C M) : Is C.vNew (M.vNew) := by
  intro i j
  pointwise [Chain.vNew, nnState]
  simp only [h.u _ _, h.w _ _, h.S _ _, sge_ofNat, sgt_ofNat, sle_ofNat, eq_ofNat, select_ite, Finset.sum_ite_eq, Finset.sum_ite_eq', Finset.mem_univ, if_true, exp_coe, exp_sub_coe, Chunk.vNew, coe_sum, coe_ite, EReal.coe_add, EReal.coe_sub, EReal.coe_mul, EReal.coe_zero]

theorem dvNew (h : Loads C M) : Is C.dvNew (M.dvNew) := by
  intro i j
  pointwise [Chain.dvNew, tnRows, nnState]
  simp only [h.qk _ _, h.o _ _, h.kDec _ _, h.D _ _, sge_ofNat, sgt_ofNat, sle_ofNat, eq_ofNat, select_ite, Finset.sum_ite_eq, Finset.sum_ite_eq', Finset.mem_univ, if_true, exp_coe, exp_sub_coe, Chunk.dvNew, coe_sum, coe_ite, EReal.coe_add, EReal.coe_sub, EReal.coe_mul, EReal.coe_zero]

theorem dqk (h : Loads C M) : Is C.dqk (M.dqk) := by
  intro i j
  pointwise [Chain.dqk, ntPair, zero64, ii, jj]
  simp only [h.o _ _, h.vNew _ _, sge_ofNat, sgt_ofNat, sle_ofNat, eq_ofNat, select_ite, Finset.sum_ite_eq, Finset.sum_ite_eq', Finset.mem_univ, if_true, exp_coe, exp_sub_coe, Chunk.dqk, coe_sum, coe_ite, EReal.coe_add, EReal.coe_sub, EReal.coe_mul, EReal.coe_zero]

theorem dqDec (h : Loads C M) : Is C.dqDec (M.dqDec) := by
  intro i j
  pointwise [Chain.dqDec, ntState]
  simp only [h.o _ _, h.S _ _, sge_ofNat, sgt_ofNat, sle_ofNat, eq_ofNat, select_ite, Finset.sum_ite_eq, Finset.sum_ite_eq', Finset.mem_univ, if_true, exp_coe, exp_sub_coe, Chunk.dqDec, coe_sum, coe_ite, EReal.coe_add, EReal.coe_sub, EReal.coe_mul, EReal.coe_zero]

theorem dkDec (h : Loads C M) : Is C.dkDec (M.dkDec) := by
  intro i j
  pointwise [Chain.dkDec, ntState]
  simp only [h.vNew _ _, h.D _ _, sge_ofNat, sgt_ofNat, sle_ofNat, eq_ofNat, select_ite, Finset.sum_ite_eq, Finset.sum_ite_eq', Finset.mem_univ, if_true, exp_coe, exp_sub_coe, Chunk.dkDec, coe_sum, coe_ite, EReal.coe_add, EReal.coe_sub, EReal.coe_mul, EReal.coe_zero]

theorem dgLast (h : Loads C M) : Is C.dgLast (fun _ _ => M.dgLast) := by
  intro i j
  obtain rfl : i = 0 := Subsingleton.elim _ _
  obtain rfl : j = 0 := Subsingleton.elim _ _
  pointwise [Chain.dgLast, total128]
  simp only [h.S _ _, h.D _ _, sge_ofNat, sgt_ofNat, sle_ofNat, eq_ofNat, select_ite, Finset.sum_ite_eq, Finset.sum_ite_eq', Finset.mem_univ, if_true, exp_coe, exp_sub_coe, Chunk.dgLast, coe_sum, coe_ite, EReal.coe_add, EReal.coe_sub, EReal.coe_mul, EReal.coe_zero]

theorem newD (h : Loads C M) : Is C.newD (M.newD) := by
  intro i j
  pointwise [Chain.newD, tnState]
  simp only [h.qDec _ _, h.o _ _, h.gLast _ _, h.D _ _, h.w _ _, h.dvNew _ _, sge_ofNat, sgt_ofNat, sle_ofNat, eq_ofNat, select_ite, Finset.sum_ite_eq, Finset.sum_ite_eq', Finset.mem_univ, if_true, exp_coe, exp_sub_coe, Chunk.newD, coe_sum, coe_ite, EReal.coe_add, EReal.coe_sub, EReal.coe_mul, EReal.coe_zero]

theorem dw (h : Loads C M) : Is C.dw (M.dw) := by
  intro i j
  pointwise [Chain.dw, ntState]
  simp only [h.dvNew _ _, h.S _ _, sge_ofNat, sgt_ofNat, sle_ofNat, eq_ofNat, select_ite, Finset.sum_ite_eq, Finset.sum_ite_eq', Finset.mem_univ, if_true, exp_coe, exp_sub_coe, Chunk.dw, coe_sum, coe_ite, EReal.coe_add, EReal.coe_sub, EReal.coe_mul, EReal.coe_zero]

theorem dt (h : Loads C M) : Is C.dt (M.dt) := by
  intro i j
  pointwise [Chain.dt, ntPair]
  simp only [h.dvNew _ _, h.vb _ _, h.dw _ _, h.kbg _ _, sge_ofNat, sgt_ofNat, sle_ofNat, eq_ofNat, select_ite, Finset.sum_ite_eq, Finset.sum_ite_eq', Finset.mem_univ, if_true, exp_coe, exp_sub_coe, Chunk.dt, coe_sum, coe_ite, EReal.coe_add, EReal.coe_sub, EReal.coe_mul, EReal.coe_zero]

theorem dvb (h : Loads C M) : Is C.dvb (M.dvb) := by
  intro i j
  pointwise [Chain.dvb, tnRows]
  simp only [h.T _ _, h.dvNew _ _, sge_ofNat, sgt_ofNat, sle_ofNat, eq_ofNat, select_ite, Finset.sum_ite_eq, Finset.sum_ite_eq', Finset.mem_univ, if_true, exp_coe, exp_sub_coe, Chunk.dvb, coe_sum, coe_ite, EReal.coe_add, EReal.coe_sub, EReal.coe_mul, EReal.coe_zero]

theorem dkbg (h : Loads C M) : Is C.dkbg (M.dkbg) := by
  intro i j
  pointwise [Chain.dkbg, tnRows]
  simp only [h.T _ _, h.dw _ _, sge_ofNat, sgt_ofNat, sle_ofNat, eq_ofNat, select_ite, Finset.sum_ite_eq, Finset.sum_ite_eq', Finset.mem_univ, if_true, exp_coe, exp_sub_coe, Chunk.dkbg, coe_sum, coe_ite, EReal.coe_add, EReal.coe_sub, EReal.coe_mul, EReal.coe_zero]

theorem tDt (h : Loads C M) : Is C.tDt (M.tDt) := by
  intro i j
  pointwise [Chain.tDt, tnPair]
  simp only [h.T _ _, h.dt _ _, sge_ofNat, sgt_ofNat, sle_ofNat, eq_ofNat, select_ite, Finset.sum_ite_eq, Finset.sum_ite_eq', Finset.mem_univ, if_true, exp_coe, exp_sub_coe, Chunk.tDt, coe_sum, coe_ite, EReal.coe_add, EReal.coe_sub, EReal.coe_mul, EReal.coe_zero]

theorem da (h : Loads C M) : Is C.da (M.da) := by
  intro i j
  pointwise [Chain.da, ntSquare, zero64, ii, jj]
  simp only [h.tDt _ _, h.T _ _, sge_ofNat, sgt_ofNat, sle_ofNat, eq_ofNat, select_ite, Finset.sum_ite_eq, Finset.sum_ite_eq', Finset.mem_univ, if_true, exp_coe, exp_sub_coe, Chunk.da, coe_sum, coe_ite, EReal.coe_add, EReal.coe_sub, EReal.coe_mul, EReal.coe_zero]

theorem dmA (h : Loads C M) : Is C.dmA (M.dmA) := by
  intro i j
  pointwise [Chain.dmA]
  simp only [h.da _ _, h.decay _ _, sge_ofNat, sgt_ofNat, sle_ofNat, eq_ofNat, select_ite, Finset.sum_ite_eq, Finset.sum_ite_eq', Finset.mem_univ, if_true, exp_coe, exp_sub_coe, Chunk.dmA, coe_sum, coe_ite, EReal.coe_add, EReal.coe_sub, EReal.coe_mul, EReal.coe_zero]

theorem dmQk (h : Loads C M) : Is C.dmQk (M.dmQk) := by
  intro i j
  pointwise [Chain.dmQk]
  simp only [h.dqk _ _, h.decay _ _, sge_ofNat, sgt_ofNat, sle_ofNat, eq_ofNat, select_ite, Finset.sum_ite_eq, Finset.sum_ite_eq', Finset.mem_univ, if_true, exp_coe, exp_sub_coe, Chunk.dmQk, coe_sum, coe_ite, EReal.coe_add, EReal.coe_sub, EReal.coe_mul, EReal.coe_zero]

theorem e (h : Loads C M) : Is C.e (M.e) := by
  intro i j
  pointwise [Chain.e]
  simp only [h.da _ _, h.a _ _, h.dqk _ _, h.qk _ _, sge_ofNat, sgt_ofNat, sle_ofNat, eq_ofNat, select_ite, Finset.sum_ite_eq, Finset.sum_ite_eq', Finset.mem_univ, if_true, exp_coe, exp_sub_coe, Chunk.e, coe_sum, coe_ite, EReal.coe_add, EReal.coe_sub, EReal.coe_mul, EReal.coe_zero]

theorem dkb (h : Loads C M) : Is C.dkb (M.dkb) := by
  intro i j
  pointwise [Chain.dkb, nnRows, col128]
  simp only [h.dmA _ _, h.k _ _, h.dkbg _ _, h.eg _ _, sge_ofNat, sgt_ofNat, sle_ofNat, eq_ofNat, select_ite, Finset.sum_ite_eq, Finset.sum_ite_eq', Finset.mem_univ, if_true, exp_coe, exp_sub_coe, Chunk.dkb, coe_sum, coe_ite, EReal.coe_add, EReal.coe_sub, EReal.coe_mul, EReal.coe_zero]

theorem dk (h : Loads C M) : Is C.dk (M.dk) := by
  intro i j
  pointwise [Chain.dk, tnRows, col128]
  simp only [h.dmA _ _, h.kb _ _, h.dmQk _ _, h.q _ _, h.dkDec _ _, h.ek _ _, h.dkb _ _, h.b _ _, sge_ofNat, sgt_ofNat, sle_ofNat, eq_ofNat, select_ite, Finset.sum_ite_eq, Finset.sum_ite_eq', Finset.mem_univ, if_true, exp_coe, exp_sub_coe, Chunk.dk, coe_sum, coe_ite, EReal.coe_add, EReal.coe_sub, EReal.coe_mul, EReal.coe_zero]

theorem dq (h : Loads C M) : Is C.dq (M.dq) := by
  intro i j
  pointwise [Chain.dq, nnRows, col128]
  simp only [h.dmQk _ _, h.k _ _, h.dqDec _ _, h.eg _ _, sge_ofNat, sgt_ofNat, sle_ofNat, eq_ofNat, select_ite, Finset.sum_ite_eq, Finset.sum_ite_eq', Finset.mem_univ, if_true, exp_coe, exp_sub_coe, Chunk.dq, coe_sum, coe_ite, EReal.coe_add, EReal.coe_sub, EReal.coe_mul, EReal.coe_zero]

theorem dv (h : Loads C M) : Is C.dv (M.dv) := by
  intro i j
  pointwise [Chain.dv, col128]
  simp only [h.dvb _ _, h.b _ _, sge_ofNat, sgt_ofNat, sle_ofNat, eq_ofNat, select_ite, Finset.sum_ite_eq, Finset.sum_ite_eq', Finset.mem_univ, if_true, exp_coe, exp_sub_coe, Chunk.dv, coe_sum, coe_ite, EReal.coe_add, EReal.coe_sub, EReal.coe_mul, EReal.coe_zero]

theorem dbeta (h : Loads C M) : Is C.dbeta (fun i _ => M.dbeta i) := by
  intro i j
  obtain rfl : j = 0 := Subsingleton.elim _ _
  pointwise [Chain.dbeta, rowsum128]
  simp only [h.dkb _ _, h.k _ _, h.dvb _ _, h.v _ _, sge_ofNat, sgt_ofNat, sle_ofNat, eq_ofNat, select_ite, Finset.sum_ite_eq, Finset.sum_ite_eq', Finset.mem_univ, if_true, exp_coe, exp_sub_coe, Chunk.dbeta, coe_sum, coe_ite, EReal.coe_add, EReal.coe_sub, EReal.coe_mul, EReal.coe_zero]

theorem dgc (h : Loads C M) : Is C.dgc (fun i _ => M.dgc i) := by
  intro i j
  obtain rfl : j = 0 := Subsingleton.elim _ _
  pointwise [Chain.dgc, rowsum64, rowsum128, colsum, rowWhere, ii, jj, zero64]
  simp only [h.e _ _, h.dqDec _ _, h.qDec _ _, h.dkDec _ _, h.kDec _ _, h.dkbg _ _, h.kbg _ _, sge_ofNat, sgt_ofNat, sle_ofNat, eq_ofNat, select_ite, Finset.sum_ite_eq, Finset.sum_ite_eq', Finset.mem_univ, if_true, exp_coe, exp_sub_coe, Chunk.dgc, coe_sum, coe_ite, EReal.coe_add, EReal.coe_sub, EReal.coe_mul, EReal.coe_zero]

theorem dTotal (h : Loads C M) : Is C.dTotal (fun _ _ => M.dTotal) := by
  intro i j
  obtain rfl : i = 0 := Subsingleton.elim _ _
  obtain rfl : j = 0 := Subsingleton.elim _ _
  pointwise [Chain.dTotal, total64, rowsum128]
  simp only [h.dkDec _ _, h.kDec _ _, h.dgLast _ _, h.gLast _ _, sge_ofNat, sgt_ofNat, sle_ofNat, eq_ofNat, select_ite, Finset.sum_ite_eq, Finset.sum_ite_eq', Finset.mem_univ, if_true, exp_coe, exp_sub_coe, Chunk.dTotal, coe_sum, coe_ite, EReal.coe_add, EReal.coe_sub, EReal.coe_mul, EReal.coe_zero]

theorem dg (h : Loads C M) : Is C.dg (fun i _ => M.dg i) := by
  intro i j
  obtain rfl : j = 0 := Subsingleton.elim _ _
  pointwise [Chain.dg, rowsum64, asRow, rowWhere, ii, jj, colsum, zero64]
  simp only [h.dgc _ _, h.dTotal _ _, sge_ofNat, sgt_ofNat, sle_ofNat, eq_ofNat, select_ite, Finset.sum_ite_eq, Finset.sum_ite_eq', Finset.mem_univ, if_true, exp_coe, exp_sub_coe, Chunk.dg, coe_sum, coe_ite, EReal.coe_add, EReal.coe_sub, EReal.coe_mul, EReal.coe_zero]

end Loads

end Cert.KernelIdeal.Gdn

end
-- ==== Proof.GdnWindow.lean ====
module

public import proofs.«01_k».proof.Proof.Gen.ReferenceIdeal.Run
public import proofs.«01_k».proof.Proof.GdnReal

@[expose] public section

set_option maxRecDepth 16384

noncomputable section

namespace Cert.ReferenceIdeal.Gdn

open Idealize.ShloMosaic Idealize.ShloMosaic.Pointwise

/-! A float window sum over the last axis, read at an index: the prefix sums and the suffix sums. -/

theorem foldl_add {n : ℕ} (f : Fin n → EReal) (v : EReal) :
    (List.finRange n).foldl (fun r k => r + f k) v = v + ∑ k, f k := by
  rw [Fin.sum_univ_def]
  generalize List.finRange n = l
  induction l generalizing v with
  | nil => simp
  | cons a l ih => simp [ih, add_assoc]

/-- One window's positions are the last coordinate's. -/
theorem sum_window (f : (⟨3, ![1, 1, 64]⟩ : Shape).Idx → EReal) :
    ∑ n, f ((⟨3, ![1, 1, 64]⟩ : Shape).rowMajor.symm n) = ∑ k : Fin 64, f (ix3 0 0 k) := by
  rw [Equiv.sum_comp]
  symm
  refine Fintype.sum_bijective (fun k : Fin 64 => (ix3 0 0 k : (⟨3, ![1, 1, 64]⟩ : Shape).Idx)) ⟨?_, ?_⟩ _ _ (fun _ => rfl)
  · intro a b h
    exact congrFun h 2
  · intro y
    refine ⟨y 2, ?_⟩
    funext a
    match a with
    | 0 => exact Subsingleton.elim (α := Fin 1) _ _
    | 1 => exact Subsingleton.elim (α := Fin 1) _ _
    | 2 => rfl

theorem sum_prefix (X : Fin 64 → EReal) (i : Fin 64) :
    (∑ k : Fin 64, if h : 63 ≤ i.val + k.val then X ⟨i.val + k.val - 63, by omega⟩ else 0) = ∑ j, if j ≤ i then X j else 0 := by
  have e : ∀ k : Fin 64, (if h : 63 ≤ i.val + k.val then X ⟨i.val + k.val - 63, by omega⟩ else 0)
      = if 63 ≤ i.val + k.val then X ⟨i.val + k.val - 63, by omega⟩ else 0 := fun k => by split <;> rfl
  simp only [e]
  rw [← Finset.sum_filter, ← Finset.sum_filter]
  refine Finset.sum_bij' (fun k _ => ⟨i.val + k.val - 63, by omega⟩) (fun j _ => ⟨(j.val + 63 - i.val) % 64, Nat.mod_lt _ (by omega)⟩) ?_ ?_ ?_ ?_ ?_
  · intro k hk
    simp only [Finset.mem_filter, Finset.mem_univ, true_and, Fin.le_def] at hk ⊢
    omega
  · intro j hj
    simp only [Finset.mem_filter, Finset.mem_univ, true_and, Fin.le_def] at hj ⊢
    omega
  · intro k hk
    simp only [Finset.mem_filter, Finset.mem_univ, true_and] at hk
    ext; simp only; omega
  · intro j hj
    simp only [Finset.mem_filter, Finset.mem_univ, true_and, Fin.le_def] at hj
    ext; simp only; omega
  · intro k hk
    rfl

theorem sum_suffix (X : Fin 64 → EReal) (i : Fin 64) :
    (∑ k : Fin 64, if h : i.val + k.val < 64 then X ⟨i.val + k.val, h⟩ else 0) = ∑ j, if i ≤ j then X j else 0 := by
  have e : ∀ k : Fin 64, (if h : i.val + k.val < 64 then X ⟨i.val + k.val, h⟩ else 0)
      = if i.val + k.val < 64 then X ⟨(i.val + k.val) % 64, Nat.mod_lt _ (by omega)⟩ else 0 := fun k => by
    split
    · exact congrArg X (Fin.ext (Nat.mod_eq_of_lt (by assumption)).symm)
    · rfl
  simp only [e]
  rw [← Finset.sum_filter, ← Finset.sum_filter]
  refine Finset.sum_bij' (fun k _ => ⟨(i.val + k.val) % 64, Nat.mod_lt _ (by omega)⟩) (fun j _ => ⟨j.val - i.val, by omega⟩) ?_ ?_ ?_ ?_ ?_
  · intro k hk
    simp only [Finset.mem_filter, Finset.mem_univ, true_and, Fin.le_def] at hk ⊢
    omega
  · intro j hj
    simp only [Finset.mem_filter, Finset.mem_univ, true_and, Fin.le_def] at hj ⊢
    omega
  · intro k hk
    simp only [Finset.mem_filter, Finset.mem_univ, true_and] at hk
    ext; simp only; omega
  · intro j hj
    simp only [Finset.mem_filter, Finset.mem_univ, true_and, Fin.le_def] at hj
    ext; simp only; omega
  · intro k hk
    rfl

/-- One position of a window: an element of the operand, or zero where it lies in the padding. -/
theorem window_point (lo : ℕ) (x : (⟨3, ![2, 4, 64]⟩ : Shape).Idx → EReal) (b : Fin 2) (d : Fin 4) (i : Fin 64)
    (y : (⟨3, ![1, 1, 64]⟩ : Shape).Idx) :
    (if hin : ∀ a : Fin 3, (![0, 0, lo] : Fin 3 → ℕ) a ≤ ((ix3 b d i : (⟨3, ![2, 4, 64]⟩ : Shape).Idx) a).val * (![1, 1, 1] : Fin 3 → ℕ) a + (y a).val
      ∧ ((ix3 b d i : (⟨3, ![2, 4, 64]⟩ : Shape).Idx) a).val * (![1, 1, 1] : Fin 3 → ℕ) a + (y a).val - (![0, 0, lo] : Fin 3 → ℕ) a < (⟨3, ![2, 4, 64]⟩ : Shape).size a then
        x (fun a => ⟨_, (hin a).2⟩) else 0)
      = if hk : lo ≤ i.val + (y 2).val ∧ i.val + (y 2).val - lo < 64 then x (ix3 b d ⟨i.val + (y 2).val - lo, hk.2⟩) else 0 := by
  have y0 : (y 0).val = 0 := Nat.lt_one_iff.mp (y 0).isLt
  have y1 : (y 1).val = 0 := Nat.lt_one_iff.mp (y 1).isLt
  by_cases hk : lo ≤ i.val + (y 2).val ∧ i.val + (y 2).val - lo < 64
  · rw [dif_pos hk, dif_pos]
    · refine congrArg x ?_
      funext a
      match a with
      | 0 => exact Fin.ext (show b.val * 1 + (y 0).val - 0 = b.val by omega)
      | 1 => exact Fin.ext (show d.val * 1 + (y 1).val - 0 = d.val by omega)
      | 2 => exact Fin.ext (show i.val * 1 + (y 2).val - lo = i.val + (y 2).val - lo by omega)
    · intro a
      match a with
      | 0 => exact show 0 ≤ b.val * 1 + (y 0).val ∧ b.val * 1 + (y 0).val - 0 < 2 by omega
      | 1 => exact show 0 ≤ d.val * 1 + (y 1).val ∧ d.val * 1 + (y 1).val - 0 < 4 by omega
      | 2 => exact show lo ≤ i.val * 1 + (y 2).val ∧ i.val * 1 + (y 2).val - lo < 64 by omega
  · rw [dif_neg hk, dif_neg]
    intro hin
    have e : lo ≤ i.val * 1 + (y 2).val ∧ i.val * 1 + (y 2).val - lo < 64 := hin 2
    exact hk (by omega)

/-- A window sum of 64 positions over the last axis, from zero. -/
theorem window_apply (lo hi : ℕ) {u : Shape} (x : FVec Ideal ⟨3, ![2, 4, 64]⟩ .f32) (z : u.Idx → Ideal .f32)
    (h : (⟨3, ![2, 4, 64]⟩ : Shape).ReduceWindows ![1, 1, 64] ![1, 1, 1] ![0, 0, lo] ![0, 0, hi] ⟨3, ![2, 4, 64]⟩)
    (hu : 0 < u.numel) (hz : z (Shape.Idx.first hu) = 0) (b : Fin 2) (d : Fin 4) (i : Fin 64) :
    Host.reduceWindowAdd ![1, 1, 64] ![1, 1, 1] ![0, 0, lo] ![0, 0, hi] x z h hu (ix3 b d i)
      = ∑ k : Fin 64, if hk : lo ≤ i.val + k.val ∧ i.val + k.val - lo < 64 then x (ix3 b d ⟨i.val + k.val - lo, hk.2⟩) else 0 := by
  show Ideal.hostReduceWindowAdd _ _ _ _ h x (z _) _ = _
  rw [hz]
  unfold Ideal.hostReduceWindowAdd Host.reduceWindow
  rw [foldl_add, zero_add]
  refine (Finset.sum_congr rfl fun n _ => ?_).trans (sum_window fun y => if hk : lo ≤ i.val + (y 2).val ∧ i.val + (y 2).val - lo < 64
    then x (ix3 b d ⟨i.val + (y 2).val - lo, hk.2⟩) else 0)
  exact (dite_congr rfl (fun _ => rfl) (fun _ => rfl)).trans (window_point lo x b d i ((⟨3, ![1, 1, 64]⟩ : Shape).rowMajor.symm n))

theorem prefix_apply {u : Shape} (x : FVec Ideal ⟨3, ![2, 4, 64]⟩ .f32) (z : u.Idx → Ideal .f32)
    (h : (⟨3, ![2, 4, 64]⟩ : Shape).ReduceWindows ![1, 1, 64] ![1, 1, 1] ![0, 0, 63] ![0, 0, 0] ⟨3, ![2, 4, 64]⟩)
    (hu : 0 < u.numel) (hz : z (Shape.Idx.first hu) = 0) (b : Fin 2) (d : Fin 4) (i : Fin 64) :
    Host.reduceWindowAdd ![1, 1, 64] ![1, 1, 1] ![0, 0, 63] ![0, 0, 0] x z h hu (ix3 b d i)
      = ∑ j, if j ≤ i then x (ix3 b d j) else 0 := by
  rw [window_apply 63 0 x z h hu hz b d i, ← sum_prefix fun j => x (ix3 b d j)]
  refine Finset.sum_congr rfl fun k _ => ?_
  by_cases hk : 63 ≤ i.val + k.val
  · rw [dif_pos hk, dif_pos ⟨hk, by omega⟩]
  · rw [dif_neg hk, dif_neg fun e => hk e.1]

theorem suffix_apply {u : Shape} (x : FVec Ideal ⟨3, ![2, 4, 64]⟩ .f32) (z : u.Idx → Ideal .f32)
    (h : (⟨3, ![2, 4, 64]⟩ : Shape).ReduceWindows ![1, 1, 64] ![1, 1, 1] ![0, 0, 0] ![0, 0, 63] ⟨3, ![2, 4, 64]⟩)
    (hu : 0 < u.numel) (hz : z (Shape.Idx.first hu) = 0) (b : Fin 2) (d : Fin 4) (i : Fin 64) :
    Host.reduceWindowAdd ![1, 1, 64] ![1, 1, 1] ![0, 0, 0] ![0, 0, 63] x z h hu (ix3 b d i)
      = ∑ j, if i ≤ j then x (ix3 b d j) else 0 := by
  rw [window_apply 0 63 x z h hu hz b d i, ← sum_suffix fun j => x (ix3 b d j)]
  refine Finset.sum_congr rfl fun k _ => ?_
  by_cases hk : i.val + k.val < 64
  · rw [dif_pos hk, dif_pos ⟨Nat.zero_le _, by omega⟩]
    rfl
  · rw [dif_neg hk, dif_neg fun e => hk (by simpa using e.2)]

end Cert.ReferenceIdeal.Gdn
-- ==== Proof.GdnRefReal.lean ====
module

public import proofs.«01_k».proof.Proof.GdnWindow

@[expose] public section

set_option maxRecDepth 16384

noncomputable section

namespace Cert.ReferenceIdeal.Gdn

open Idealize.ShloMosaic Idealize.ShloMosaic.TcCoe Idealize.ShloMosaic.Pointwise
open Cert.ReferenceIdeal Cert.ReferenceIdeal.Gen Cert.ReferenceIdeal.Value Cert.GdnMath
open Cert.KernelIdeal.Gdn (coe_sum coe_ite exp_coe exp_sub_coe select_ite sge_ofNat sgt_ofNat)

/-! One trip of the reference over the extended reals, on finite operands, computes the real numbers of `GdnMath`. -/

/-- The array holds these real numbers, one matrix per batch entry and head. -/
def Is4 {m n : ℕ} (x : FVec Ideal ⟨4, ![2, 4, m, n]⟩ .f32) (X : Fin 2 → Fin 4 → Fin m → Fin n → ℝ) : Prop :=
  ∀ b d i j, x (ix4 b d i j) = ((X b d i j : ℝ) : EReal)

/-- The array holds these real numbers, one vector per batch entry and head. -/
def Is3 {m : ℕ} (x : FVec Ideal ⟨3, ![2, 4, m]⟩ .f32) (X : Fin 2 → Fin 4 → Fin m → ℝ) : Prop :=
  ∀ b d i, x (ix3 b d i) = ((X b d i : ℝ) : EReal)

/-- The array holds these real numbers, one per batch entry and head. -/
def Is2 (x : FVec Ideal ⟨2, ![2, 4]⟩ .f32) (X : Fin 2 → Fin 4 → ℝ) : Prop :=
  ∀ b d, x (ix2 b d) = ((X b d : ℝ) : EReal)

theorem const_zero : (constant S_ .f32 0x00000000#32 : FVec Ideal S_ .f32) ix0 = 0 := by pointwise

/-- The running sum's last entry is the sum. -/
theorem gc_last (M : Chunk) : M.gc 63 = M.tot := by
  unfold Chunk.gc Chunk.tot
  exact Finset.sum_congr rfl fun j _ => if_pos (Fin.le_last j)

theorem da_eq (M : Chunk) (i j : Fin 64) :
    (if j < i then -∑ l, (∑ n, ((∑ e, M.dw n e * M.kbg l e) + ∑ e, M.dvNew n e * M.vb l e) * M.T n i) * M.T j l else 0) = M.da i j := by
  unfold Chunk.da Chunk.tDt Chunk.dt
  by_cases hij : j < i
  · simp only [hij, if_true, zero_sub]
    refine congrArg _ (Finset.sum_congr rfl fun l _ => congrArg (· * _) (Finset.sum_congr rfl fun n _ => ?_))
    rw [mul_comm, add_comm]
  · simp only [hij, if_false, sub_zero]

theorem e_eq (M : Chunk) (i j : Fin 64) :
    (if j ≤ i then (if j ≤ i then (∑ e, M.q i e * M.k j e) * M.dqk i j + (∑ e, M.kb i e * M.k j e) * M.da i j else 0)
      * Real.exp (if j ≤ i then M.gc i - M.gc j else 0) else 0) = M.e i j := by
  unfold Chunk.e Chunk.a Chunk.qk Chunk.decay
  by_cases hij : j ≤ i
  · by_cases h2 : j < i
    · simp only [hij, h2, if_true]
      ring
    · have e0 : M.da i j = 0 := by simp only [Chunk.da, h2, if_false, sub_zero]
      simp only [hij, h2, if_true, if_false, e0]
      ring
  · have h2 : ¬ j < i := fun h => hij h.le
    simp only [hij, h2, if_false, mul_zero, add_zero]

variable {V0 : Valuation τ sig (Elt Ideal)} {M : Fin 2 → Fin 4 → Chunk}

/-- What one trip reads are the real numbers of the chunks. -/
structure RLoads (V0 : Valuation τ sig (Elt Ideal)) (M : Fin 2 → Fin 4 → Chunk) : Prop where
  v41 : Is4 (res_main_while0b_v41 V0) fun b d => (M b d).o
  v42 : Is4 (res_main_while0b_v42 V0) fun b d => (M b d).q
  v43 : Is4 (res_main_while0b_v43 V0) fun b d => (M b d).k
  v44 : Is4 (res_main_while0b_v44 V0) fun b d => (M b d).v
  v46 : Is3 (res_main_while0b_v46 V0) fun b d => (M b d).b
  v47 : Is4 (res_main_while0b_v47 V0) fun b d => (M b d).S
  v48 : Is4 (res_main_while0b_v48 V0) fun b d => (M b d).T
  v49 : Is3 (res_main_while0b_v49 V0) fun b d => (M b d).gc
  D : Is4 (m := 128) (n := 128) (V0 (Proc.devRef .tc main_v24_9)) fun b d => (M b d).D

namespace RLoads

theorem v66_1 (h : RLoads V0 M) (b : Fin 2) (d : Fin 4) (i j : Fin 64) :
    res_main_while0b_v66_1 V0 (ix4 b d i j) = if j ≤ i then 1#1 else 0#1 := by
  pointwise [res_main_while0b_v66_1, res_main_while0b_v55, res_main_while0b_v50]
  exact sge_ofNat i j
theorem v68_1 (h : RLoads V0 M) (b : Fin 2) (d : Fin 4) (i j : Fin 64) :
    res_main_while0b_v68_1 V0 (ix4 b d i j) = if j ≤ i then 1#1 else 0#1 := by
  pointwise [res_main_while0b_v68_1, res_main_while0b_v55, res_main_while0b_v50]
  exact sge_ofNat i j
theorem v86_1 (h : RLoads V0 M) (b : Fin 2) (d : Fin 4) (i j : Fin 64) :
    res_main_while0b_v86_1 V0 (ix4 b d i j) = if j ≤ i then 1#1 else 0#1 := by
  pointwise [res_main_while0b_v86_1, res_main_while0b_v55, res_main_while0b_v50]
  exact sge_ofNat i j
theorem v74_1 (h : RLoads V0 M) (b : Fin 2) (d : Fin 4) (i j : Fin 64) :
    res_main_while0b_v74_1 V0 (ix4 b d i j) = if j < i then 1#1 else 0#1 := by
  pointwise [res_main_while0b_v74_1, res_main_while0b_v50]
  exact sgt_ofNat i j

theorem v67 (h : RLoads V0 M) : Is4 (res_main_while0b_v67 V0) fun b d => fun i j => Real.exp (if j ≤ i then (M b d).gc i - (M b d).gc j else 0) := by
  intro b d i j
  pointwise [res_main_while0b_v67]
  simp only [h.v66_1 _ _ _ _, h.v49 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  by_cases hij : j ≤ i <;> simp only [hij, if_true, if_false, ← exp_coe, EReal.coe_zero, EReal.coe_sub]

theorem v68_0 (h : RLoads V0 M) : Is4 (res_main_while0b_v68_0 V0) fun b d => (M b d).decay := by
  intro b d i j
  pointwise [res_main_while0b_v68_0]
  simp only [h.v68_1 _ _ _ _, h.v67 _ _ _ _, Chunk.decay, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  by_cases hij : j ≤ i <;> simp only [hij, if_true, if_false, EReal.coe_zero]

theorem v69 (h : RLoads V0 M) : Is4 (res_main_while0b_v69 V0) fun b d => fun i (_ : Fin 1) => (M b d).b i := by
  intro b d i j
  pointwise [res_main_while0b_v69]
  simp only [h.v46 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v71 (h : RLoads V0 M) : Is4 (res_main_while0b_v71 V0) fun b d => (M b d).kb := by
  intro b d i j
  pointwise [res_main_while0b_v71]
  simp only [h.v43 _ _ _ _, h.v69 _ _ _ _, Chunk.kb, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v72 (h : RLoads V0 M) : Is4 (res_main_while0b_v72 V0) fun b d => fun i j => ∑ e, (M b d).kb i e * (M b d).k j e := by
  intro b d i j
  pointwise [res_main_while0b_v72]
  simp only [h.v43 _ _ _ _, h.v71 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v75 (h : RLoads V0 M) : Is4 (res_main_while0b_v75 V0) fun b d => fun i (_ : Fin 1) => (M b d).b i := by
  intro b d i j
  pointwise [res_main_while0b_v75]
  simp only [h.v46 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v77 (h : RLoads V0 M) : Is4 (res_main_while0b_v77 V0) fun b d => (M b d).vb := by
  intro b d i j
  pointwise [res_main_while0b_v77]
  simp only [h.v44 _ _ _ _, h.v75 _ _ _ _, Chunk.vb, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v79 (h : RLoads V0 M) : Is3 (res_main_while0b_v79 V0) fun b d => (M b d).eg := by
  intro b d i
  pointwise [res_main_while0b_v79]
  simp only [h.v49 _ _ _, Chunk.eg, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v80 (h : RLoads V0 M) : Is4 (res_main_while0b_v80 V0) fun b d => fun i (_ : Fin 1) => (M b d).eg i := by
  intro b d i j
  pointwise [res_main_while0b_v80]
  simp only [h.v79 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v82 (h : RLoads V0 M) : Is4 (res_main_while0b_v82 V0) fun b d => (M b d).kbg := by
  intro b d i j
  pointwise [res_main_while0b_v82]
  simp only [h.v71 _ _ _ _, h.v80 _ _ _ _, Chunk.kbg, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v83 (h : RLoads V0 M) : Is4 (res_main_while0b_v83 V0) fun b d => (M b d).w := by
  intro b d i j
  pointwise [res_main_while0b_v83]
  simp only [h.v48 _ _ _ _, h.v82 _ _ _ _, Chunk.w, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v84 (h : RLoads V0 M) : Is4 (res_main_while0b_v84 V0) fun b d => fun i j => ∑ e, (M b d).q i e * (M b d).k j e := by
  intro b d i j
  pointwise [res_main_while0b_v84]
  simp only [h.v42 _ _ _ _, h.v43 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v86_0 (h : RLoads V0 M) : Is4 (res_main_while0b_v86_0 V0) fun b d => (M b d).qk := by
  intro b d i j
  pointwise [res_main_while0b_v86_0]
  simp only [h.v86_1 _ _ _ _, h.v84 _ _ _ _, h.v68_0 _ _ _ _, Chunk.qk, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v87 (h : RLoads V0 M) : Is3 (res_main_while0b_v87 V0) fun b d => (M b d).eg := by
  intro b d i
  pointwise [res_main_while0b_v87]
  simp only [h.v49 _ _ _, Chunk.eg, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v88 (h : RLoads V0 M) : Is4 (res_main_while0b_v88 V0) fun b d => fun i (_ : Fin 1) => (M b d).eg i := by
  intro b d i j
  pointwise [res_main_while0b_v88]
  simp only [h.v87 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v90 (h : RLoads V0 M) : Is4 (res_main_while0b_v90 V0) fun b d => (M b d).qDec := by
  intro b d i j
  pointwise [res_main_while0b_v90]
  simp only [h.v42 _ _ _ _, h.v88 _ _ _ _, Chunk.qDec, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v94 (h : RLoads V0 M) : Is3 (res_main_while0b_v94 V0) fun b d => (M b d).ek := by
  intro b d i
  refine Eq.trans (b := ((Real.exp ((M b d).gc 63 - (M b d).gc i) : ℝ) : EReal)) ?_ (congrArg _ ?_)
  · pointwise [res_main_while0b_v94]
    simp only [h.v49 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · rw [gc_last]
    rfl

theorem v95 (h : RLoads V0 M) : Is4 (res_main_while0b_v95 V0) fun b d => fun i (_ : Fin 1) => (M b d).ek i := by
  intro b d i j
  pointwise [res_main_while0b_v95]
  simp only [h.v94 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v97 (h : RLoads V0 M) : Is4 (res_main_while0b_v97 V0) fun b d => (M b d).kDec := by
  intro b d i j
  pointwise [res_main_while0b_v97]
  simp only [h.v43 _ _ _ _, h.v95 _ _ _ _, Chunk.kDec, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v100 (h : RLoads V0 M) : Is2 (res_main_while0b_v100 V0) fun b d => (M b d).gLast := by
  intro b d
  refine Eq.trans (b := ((Real.exp ((M b d).gc 63) : ℝ) : EReal)) ?_ (congrArg _ ?_)
  · pointwise [res_main_while0b_v100]
    simp only [h.v49 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · rw [gc_last]
    rfl

theorem v102 (h : RLoads V0 M) : Is4 (res_main_while0b_v102 V0) fun b d => (M b d).vNew := by
  intro b d i j
  pointwise [res_main_while0b_v102]
  simp only [h.v48 _ _ _ _, h.v77 _ _ _ _, h.v83 _ _ _ _, h.v47 _ _ _ _, Chunk.vNew, Chunk.u, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v106 (h : RLoads V0 M) : Is4 (res_main_while0b_v106 V0) fun b d => fun (_ _ : Fin 1) => (M b d).gLast := by
  intro b d i j
  pointwise [res_main_while0b_v106]
  simp only [h.v100 _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v114 (h : RLoads V0 M) : Is4 (res_main_while0b_v114 V0) fun b d => (M b d).dkDec := by
  intro b d i j
  refine Eq.trans (b := ((∑ e, (M b d).D j e * (M b d).vNew i e : ℝ) : EReal)) ?_ (congrArg _ ?_)
  · pointwise [res_main_while0b_v114]
    simp only [h.D _ _ _ _, h.v102 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · exact Finset.sum_congr rfl fun e _ => mul_comm _ _

theorem v123 (h : RLoads V0 M) : Is4 (res_main_while0b_v123 V0) fun b d => (M b d).dvNew := by
  intro b d i j
  refine Eq.trans (b := (((∑ e, (M b d).D e j * (M b d).kDec i e) + ∑ l, (M b d).o l j * (M b d).qk l i : ℝ) : EReal)) ?_ (congrArg _ ?_)
  · pointwise [res_main_while0b_v123]
    simp only [h.D _ _ _ _, h.v97 _ _ _ _, h.v41 _ _ _ _, h.v86_0 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · refine (add_comm _ _).trans ?_
    exact congrArg₂ (· + ·) (Finset.sum_congr rfl fun e _ => mul_comm _ _) (Finset.sum_congr rfl fun e _ => mul_comm _ _)

theorem v128 (h : RLoads V0 M) : Is4 (res_main_while0b_v128 V0) fun b d => (M b d).dqDec := by
  intro b d i j
  pointwise [res_main_while0b_v128]
  simp only [h.v41 _ _ _ _, h.v47 _ _ _ _, Chunk.dqDec, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v129 (h : RLoads V0 M) : Is4 (res_main_while0b_v129 V0) fun b d => fun i j => -(M b d).dvNew i j := by
  intro b d i j
  pointwise [res_main_while0b_v129]
  simp only [h.v123 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v133 (h : RLoads V0 M) : Is4 (res_main_while0b_v133 V0) fun b d => (M b d).dw := by
  intro b d i j
  refine Eq.trans (b := ((∑ e, -(M b d).dvNew i e * (M b d).S j e : ℝ) : EReal)) ?_ (congrArg _ ?_)
  · pointwise [res_main_while0b_v133]
    simp only [h.v129 _ _ _ _, h.v47 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · simp only [Chunk.dw, neg_mul, Finset.sum_neg_distrib, zero_sub]

theorem v143 (h : RLoads V0 M) : Is3 (res_main_while0b_v143 V0) fun b d => fun i => ∑ e, (M b d).dkDec i e * (M b d).kDec i e := by
  intro b d i
  refine Eq.trans (b := (((∑ e, (M b d).k i e * (M b d).dkDec i e) * (M b d).ek i : ℝ) : EReal)) ?_ (congrArg _ ?_)
  · pointwise [res_main_while0b_v143]
    simp only [h.v43 _ _ _ _, h.v114 _ _ _ _, h.v94 _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · rw [Finset.sum_mul]
    exact Finset.sum_congr rfl fun e _ => by rw [Chunk.kDec]; ring

theorem v158 (h : RLoads V0 M) : Is4 (res_main_while0b_v158 V0) fun b d => (M b d).dqk := by
  intro b d i j
  pointwise [res_main_while0b_v158]
  simp only [h.v86_1 _ _ _ _, h.v41 _ _ _ _, h.v102 _ _ _ _, Chunk.dqk, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v160 (h : RLoads V0 M) : Is4 (res_main_while0b_v160 V0) fun b d => (M b d).dmQk := by
  intro b d i j
  pointwise [res_main_while0b_v160]
  simp only [h.v158 _ _ _ _, h.v68_0 _ _ _ _, Chunk.dmQk, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v166 (h : RLoads V0 M) : Is4 (res_main_while0b_v166 V0) fun b d => (M b d).dkbg := by
  intro b d i j
  refine Eq.trans (b := ((∑ l, (M b d).dw l j * (M b d).T l i : ℝ) : EReal)) ?_ (congrArg _ ?_)
  · pointwise [res_main_while0b_v166]
    simp only [h.v133 _ _ _ _, h.v48 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · exact Finset.sum_congr rfl fun l _ => mul_comm _ _

theorem v177 (h : RLoads V0 M) : Is4 (res_main_while0b_v177 V0) fun b d => (M b d).dvb := by
  intro b d i j
  refine Eq.trans (b := ((∑ l, (M b d).dvNew l j * (M b d).T l i : ℝ) : EReal)) ?_ (congrArg _ ?_)
  · pointwise [res_main_while0b_v177]
    simp only [h.v123 _ _ _ _, h.v48 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · exact Finset.sum_congr rfl fun l _ => mul_comm _ _

theorem v189 (h : RLoads V0 M) : Is4 (res_main_while0b_v189 V0) fun b d => (M b d).da := by
  intro b d i j
  refine Eq.trans (b := ((if j < i then -∑ l, (∑ n, ((∑ e, (M b d).dw n e * (M b d).kbg l e) + ∑ e, (M b d).dvNew n e * (M b d).vb l e) * (M b d).T n i) * (M b d).T j l else 0 : ℝ) : EReal)) ?_ (congrArg _ ?_)
  · pointwise [res_main_while0b_v189]
    simp only [h.v74_1 _ _ _ _, h.v133 _ _ _ _, h.v82 _ _ _ _, h.v123 _ _ _ _, h.v77 _ _ _ _, h.v48 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · exact da_eq (M b d) i j

theorem v192 (h : RLoads V0 M) : Is4 (res_main_while0b_v192 V0) fun b d => (M b d).dmA := by
  intro b d i j
  pointwise [res_main_while0b_v192]
  simp only [h.v189 _ _ _ _, h.v68_0 _ _ _ _, Chunk.dmA, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]

theorem v196 (h : RLoads V0 M) : Is4 (res_main_while0b_v196 V0) fun b d => (M b d).dkb := by
  intro b d i j
  refine Eq.trans (b := (((M b d).dkbg i j * (M b d).eg i + ∑ l, (M b d).dmA i l * (M b d).k l j : ℝ) : EReal)) ?_ (congrArg _ ?_)
  · pointwise [res_main_while0b_v196]
    simp only [h.v166 _ _ _ _, h.v80 _ _ _ _, h.v192 _ _ _ _, h.v43 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
  · exact add_comm _ _

theorem v207 (h : RLoads V0 M) : Is4 (res_main_while0b_v207 V0) fun b d => (M b d).e := by
  intro b d i j
  refine Eq.trans (b := ((if j ≤ i then (if j ≤ i then (∑ e, (M b d).q i e * (M b d).k j e) * (M b d).dqk i j + (∑ e, (M b d).kb i e * (M b d).k j e) * (M b d).da i j else 0) * Real.exp (if j ≤ i then (M b d).gc i - (M b d).gc j else 0) else 0 : ℝ) : EReal)) ?_ (congrArg _ ?_)
  · pointwise [res_main_while0b_v207]
    simp only [h.v66_1 _ _ _ _, h.v68_1 _ _ _ _, h.v84 _ _ _ _, h.v158 _ _ _ _, h.v72 _ _ _ _, h.v189 _ _ _ _, h.v67 _ _ _ _, const_zero, Finset.univ_unique, Finset.sum_singleton, sge_ofNat, sgt_ofNat, select_ite, zero_add, id, exp_coe, exp_sub_coe, coe_sum, coe_ite, EReal.coe_add, EReal.coe_sub, EReal.coe_mul, EReal.coe_neg, EReal.coe_zero]
    by_cases hij : j ≤ i <;> simp only [hij, if_true, if_false]
  · exact e_eq (M b d) i j

end RLoads

end Cert.ReferenceIdeal.Gdn
-- ==== Proof.GdnTrip.lean ====
module

public import proofs.«01_k».proof.Proof.GdnChain

@[expose] public section

set_option maxRecDepth 65536
set_option maxHeartbeats 4000000

noncomputable section

namespace Cert.KernelIdeal.Gdn

open Cert.KernelIdeal Cert.KernelIdeal.Gen Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one trip of the kernel's loop loads and stores: the trip handles one chunk of the eight chains. -/

/-- The eight chains of the chunk of trip `k`, each with what the trip loads for it. -/
def loaded (arg1 arg2 arg3 arg4 : Memref sig .tc .vmem S2x192x512 .f32) (arg5 : Memref sig .tc .vmem S2x192x128 .f32) (arg6 : Memref sig .tc .vmem S2x4x3x128x128 .f32) (arg7 : Memref sig .tc .vmem S2x4x3x64x64 .f32) (arg12 : Memref sig .tc .vmem S2x4x128x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f12 : BufTy.Contents (Elt F) arg12.view.ty) (k : Fin k0_t1_loop.trips) : Fin 2 → Fin 4 → Chain F
  | 0, 0 => mk (View.readAt (Elt F) arg5.view (Rect.unit (s := S2x192x128) (k0_off1 k) S1x64x128.size (k0_off1_inb k)).toLoadRect X5) (View.readAt (Elt F) arg2.view (Rect.unit (s := S2x192x512) (k0_off3 k) S1x64x128.size (k0_off3_inb k)).toLoadRect X2) (View.readAt (Elt F) arg3.view (Rect.unit (s := S2x192x512) (k0_off3 k) S1x64x128.size (k0_off3_inb k)).toLoadRect X3) (View.readAt (Elt F) arg4.view (Rect.unit (s := S2x192x512) (k0_off3 k) S1x64x128.size (k0_off3_inb k)).toLoadRect X4) (View.readAt (Elt F) arg1.view (Rect.unit (s := S2x192x512) (k0_off3 k) S1x64x128.size (k0_off3_inb k)).toLoadRect X1)
      (View.readAt (Elt F) arg6.view (Rect.unit (s := S2x4x3x128x128) (k0_off11 k) S1x1x1x128x128.size (k0_off11_inb k)).toLoadRect X6) (View.readAt (Elt F) arg7.view (Rect.unit (s := S2x4x3x64x64) (k0_off19 k) S1x1x1x64x64.size (k0_off19_inb k)).toLoadRect X7)
      (View.readAt (Elt F) arg12.view (Rect.unit (s := S2x4x128x128) ![0, 0, 0, 0] S1x1x128x128.size inb_S2x4x128x128_S1x1x128x128_0_0_0_0).toLoadRect f12)
      ![0, 0] ![0, 4] slices_S64x128_o0_0_S64x1 slices_S64x128_o0_4_S64x1
  | 0, 1 => mk (View.readAt (Elt F) arg5.view (Rect.unit (s := S2x192x128) (k0_off1 k) S1x64x128.size (k0_off1_inb k)).toLoadRect X5) (View.readAt (Elt F) arg2.view (Rect.unit (s := S2x192x512) (k0_off4 k) S1x64x128.size (k0_off4_inb k)).toLoadRect X2) (View.readAt (Elt F) arg3.view (Rect.unit (s := S2x192x512) (k0_off4 k) S1x64x128.size (k0_off4_inb k)).toLoadRect X3) (View.readAt (Elt F) arg4.view (Rect.unit (s := S2x192x512) (k0_off4 k) S1x64x128.size (k0_off4_inb k)).toLoadRect X4) (View.readAt (Elt F) arg1.view (Rect.unit (s := S2x192x512) (k0_off4 k) S1x64x128.size (k0_off4_inb k)).toLoadRect X1)
      (View.readAt (Elt F) arg6.view (Rect.unit (s := S2x4x3x128x128) (k0_off12 k) S1x1x1x128x128.size (k0_off12_inb k)).toLoadRect X6) (View.readAt (Elt F) arg7.view (Rect.unit (s := S2x4x3x64x64) (k0_off20 k) S1x1x1x64x64.size (k0_off20_inb k)).toLoadRect X7)
      (View.readAt (Elt F) arg12.view (Rect.unit (s := S2x4x128x128) ![0, 1, 0, 0] S1x1x128x128.size inb_S2x4x128x128_S1x1x128x128_0_1_0_0).toLoadRect f12)
      ![0, 1] ![0, 5] slices_S64x128_o0_1_S64x1 slices_S64x128_o0_5_S64x1
  | 0, 2 => mk (View.readAt (Elt F) arg5.view (Rect.unit (s := S2x192x128) (k0_off1 k) S1x64x128.size (k0_off1_inb k)).toLoadRect X5) (View.readAt (Elt F) arg2.view (Rect.unit (s := S2x192x512) (k0_off5 k) S1x64x128.size (k0_off5_inb k)).toLoadRect X2) (View.readAt (Elt F) arg3.view (Rect.unit (s := S2x192x512) (k0_off5 k) S1x64x128.size (k0_off5_inb k)).toLoadRect X3) (View.readAt (Elt F) arg4.view (Rect.unit (s := S2x192x512) (k0_off5 k) S1x64x128.size (k0_off5_inb k)).toLoadRect X4) (View.readAt (Elt F) arg1.view (Rect.unit (s := S2x192x512) (k0_off5 k) S1x64x128.size (k0_off5_inb k)).toLoadRect X1)
      (View.readAt (Elt F) arg6.view (Rect.unit (s := S2x4x3x128x128) (k0_off13 k) S1x1x1x128x128.size (k0_off13_inb k)).toLoadRect X6) (View.readAt (Elt F) arg7.view (Rect.unit (s := S2x4x3x64x64) (k0_off21 k) S1x1x1x64x64.size (k0_off21_inb k)).toLoadRect X7)
      (View.readAt (Elt F) arg12.view (Rect.unit (s := S2x4x128x128) ![0, 2, 0, 0] S1x1x128x128.size inb_S2x4x128x128_S1x1x128x128_0_2_0_0).toLoadRect f12)
      ![0, 2] ![0, 6] slices_S64x128_o0_2_S64x1 slices_S64x128_o0_6_S64x1
  | 0, 3 => mk (View.readAt (Elt F) arg5.view (Rect.unit (s := S2x192x128) (k0_off1 k) S1x64x128.size (k0_off1_inb k)).toLoadRect X5) (View.readAt (Elt F) arg2.view (Rect.unit (s := S2x192x512) (k0_off6 k) S1x64x128.size (k0_off6_inb k)).toLoadRect X2) (View.readAt (Elt F) arg3.view (Rect.unit (s := S2x192x512) (k0_off6 k) S1x64x128.size (k0_off6_inb k)).toLoadRect X3) (View.readAt (Elt F) arg4.view (Rect.unit (s := S2x192x512) (k0_off6 k) S1x64x128.size (k0_off6_inb k)).toLoadRect X4) (View.readAt (Elt F) arg1.view (Rect.unit (s := S2x192x512) (k0_off6 k) S1x64x128.size (k0_off6_inb k)).toLoadRect X1)
      (View.readAt (Elt F) arg6.view (Rect.unit (s := S2x4x3x128x128) (k0_off14 k) S1x1x1x128x128.size (k0_off14_inb k)).toLoadRect X6) (View.readAt (Elt F) arg7.view (Rect.unit (s := S2x4x3x64x64) (k0_off22 k) S1x1x1x64x64.size (k0_off22_inb k)).toLoadRect X7)
      (View.readAt (Elt F) arg12.view (Rect.unit (s := S2x4x128x128) ![0, 3, 0, 0] S1x1x128x128.size inb_S2x4x128x128_S1x1x128x128_0_3_0_0).toLoadRect f12)
      ![0, 3] ![0, 7] slices_S64x128_o0_3_S64x1 slices_S64x128_o0_7_S64x1
  | 1, 0 => mk (View.readAt (Elt F) arg5.view (Rect.unit (s := S2x192x128) (k0_off2 k) S1x64x128.size (k0_off2_inb k)).toLoadRect X5) (View.readAt (Elt F) arg2.view (Rect.unit (s := S2x192x512) (k0_off7 k) S1x64x128.size (k0_off7_inb k)).toLoadRect X2) (View.readAt (Elt F) arg3.view (Rect.unit (s := S2x192x512) (k0_off7 k) S1x64x128.size (k0_off7_inb k)).toLoadRect X3) (View.readAt (Elt F) arg4.view (Rect.unit (s := S2x192x512) (k0_off7 k) S1x64x128.size (k0_off7_inb k)).toLoadRect X4) (View.readAt (Elt F) arg1.view (Rect.unit (s := S2x192x512) (k0_off7 k) S1x64x128.size (k0_off7_inb k)).toLoadRect X1)
      (View.readAt (Elt F) arg6.view (Rect.unit (s := S2x4x3x128x128) (k0_off15 k) S1x1x1x128x128.size (k0_off15_inb k)).toLoadRect X6) (View.readAt (Elt F) arg7.view (Rect.unit (s := S2x4x3x64x64) (k0_off23 k) S1x1x1x64x64.size (k0_off23_inb k)).toLoadRect X7)
      (View.readAt (Elt F) arg12.view (Rect.unit (s := S2x4x128x128) ![1, 0, 0, 0] S1x1x128x128.size inb_S2x4x128x128_S1x1x128x128_1_0_0_0).toLoadRect f12)
      ![0, 0] ![0, 4] slices_S64x128_o0_0_S64x1 slices_S64x128_o0_4_S64x1
  | 1, 1 => mk (View.readAt (Elt F) arg5.view (Rect.unit (s := S2x192x128) (k0_off2 k) S1x64x128.size (k0_off2_inb k)).toLoadRect X5) (View.readAt (Elt F) arg2.view (Rect.unit (s := S2x192x512) (k0_off8 k) S1x64x128.size (k0_off8_inb k)).toLoadRect X2) (View.readAt (Elt F) arg3.view (Rect.unit (s := S2x192x512) (k0_off8 k) S1x64x128.size (k0_off8_inb k)).toLoadRect X3) (View.readAt (Elt F) arg4.view (Rect.unit (s := S2x192x512) (k0_off8 k) S1x64x128.size (k0_off8_inb k)).toLoadRect X4) (View.readAt (Elt F) arg1.view (Rect.unit (s := S2x192x512) (k0_off8 k) S1x64x128.size (k0_off8_inb k)).toLoadRect X1)
      (View.readAt (Elt F) arg6.view (Rect.unit (s := S2x4x3x128x128) (k0_off16 k) S1x1x1x128x128.size (k0_off16_inb k)).toLoadRect X6) (View.readAt (Elt F) arg7.view (Rect.unit (s := S2x4x3x64x64) (k0_off24 k) S1x1x1x64x64.size (k0_off24_inb k)).toLoadRect X7)
      (View.readAt (Elt F) arg12.view (Rect.unit (s := S2x4x128x128) ![1, 1, 0, 0] S1x1x128x128.size inb_S2x4x128x128_S1x1x128x128_1_1_0_0).toLoadRect f12)
      ![0, 1] ![0, 5] slices_S64x128_o0_1_S64x1 slices_S64x128_o0_5_S64x1
  | 1, 2 => mk (View.readAt (Elt F) arg5.view (Rect.unit (s := S2x192x128) (k0_off2 k) S1x64x128.size (k0_off2_inb k)).toLoadRect X5) (View.readAt (Elt F) arg2.view (Rect.unit (s := S2x192x512) (k0_off9 k) S1x64x128.size (k0_off9_inb k)).toLoadRect X2) (View.readAt (Elt F) arg3.view (Rect.unit (s := S2x192x512) (k0_off9 k) S1x64x128.size (k0_off9_inb k)).toLoadRect X3) (View.readAt (Elt F) arg4.view (Rect.unit (s := S2x192x512) (k0_off9 k) S1x64x128.size (k0_off9_inb k)).toLoadRect X4) (View.readAt (Elt F) arg1.view (Rect.unit (s := S2x192x512) (k0_off9 k) S1x64x128.size (k0_off9_inb k)).toLoadRect X1)
      (View.readAt (Elt F) arg6.view (Rect.unit (s := S2x4x3x128x128) (k0_off17 k) S1x1x1x128x128.size (k0_off17_inb k)).toLoadRect X6) (View.readAt (Elt F) arg7.view (Rect.unit (s := S2x4x3x64x64) (k0_off25 k) S1x1x1x64x64.size (k0_off25_inb k)).toLoadRect X7)
      (View.readAt (Elt F) arg12.view (Rect.unit (s := S2x4x128x128) ![1, 2, 0, 0] S1x1x128x128.size inb_S2x4x128x128_S1x1x128x128_1_2_0_0).toLoadRect f12)
      ![0, 2] ![0, 6] slices_S64x128_o0_2_S64x1 slices_S64x128_o0_6_S64x1
  | 1, 3 => mk (View.readAt (Elt F) arg5.view (Rect.unit (s := S2x192x128) (k0_off2 k) S1x64x128.size (k0_off2_inb k)).toLoadRect X5) (View.readAt (Elt F) arg2.view (Rect.unit (s := S2x192x512) (k0_off10 k) S1x64x128.size (k0_off10_inb k)).toLoadRect X2) (View.readAt (Elt F) arg3.view (Rect.unit (s := S2x192x512) (k0_off10 k) S1x64x128.size (k0_off10_inb k)).toLoadRect X3) (View.readAt (Elt F) arg4.view (Rect.unit (s := S2x192x512) (k0_off10 k) S1x64x128.size (k0_off10_inb k)).toLoadRect X4) (View.readAt (Elt F) arg1.view (Rect.unit (s := S2x192x512) (k0_off10 k) S1x64x128.size (k0_off10_inb k)).toLoadRect X1)
      (View.readAt (Elt F) arg6.view (Rect.unit (s := S2x4x3x128x128) (k0_off18 k) S1x1x1x128x128.size (k0_off18_inb k)).toLoadRect X6) (View.readAt (Elt F) arg7.view (Rect.unit (s := S2x4x3x64x64) (k0_off26 k) S1x1x1x64x64.size (k0_off26_inb k)).toLoadRect X7)
      (View.readAt (Elt F) arg12.view (Rect.unit (s := S2x4x128x128) ![1, 3, 0, 0] S1x1x128x128.size inb_S2x4x128x128_S1x1x128x128_1_3_0_0).toLoadRect f12)
      ![0, 3] ![0, 7] slices_S64x128_o0_3_S64x1 slices_S64x128_o0_7_S64x1

/-- One trip stores the cotangents of the states in front of the chunk. -/
theorem trip_state (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) X1 X2 X3 X4 X5 X6 X7 k).2.2.2.2.1 f8 f9 f10 f11 f12 =
      (let C := loaded arg1 arg2 arg3 arg4 arg5 arg6 arg7 arg12 X1 X2 X3 X4 X5 X6 X7 f12 k
       [⟨Rect.unit ![1, 3, 0, 0] S1x1x128x128.size inb_S2x4x128x128_S1x1x128x128_1_3_0_0, shapeCast S1x1x128x128 (C 1 3).newD shapeCasts_S128x128_S1x1x128x128⟩,
        ⟨Rect.unit ![1, 2, 0, 0] S1x1x128x128.size inb_S2x4x128x128_S1x1x128x128_1_2_0_0, shapeCast S1x1x128x128 (C 1 2).newD shapeCasts_S128x128_S1x1x128x128⟩,
        ⟨Rect.unit ![1, 1, 0, 0] S1x1x128x128.size inb_S2x4x128x128_S1x1x128x128_1_1_0_0, shapeCast S1x1x128x128 (C 1 1).newD shapeCasts_S128x128_S1x1x128x128⟩,
        ⟨Rect.unit ![1, 0, 0, 0] S1x1x128x128.size inb_S2x4x128x128_S1x1x128x128_1_0_0_0, shapeCast S1x1x128x128 (C 1 0).newD shapeCasts_S128x128_S1x1x128x128⟩,
        ⟨Rect.unit ![0, 3, 0, 0] S1x1x128x128.size inb_S2x4x128x128_S1x1x128x128_0_3_0_0, shapeCast S1x1x128x128 (C 0 3).newD shapeCasts_S128x128_S1x1x128x128⟩,
        ⟨Rect.unit ![0, 2, 0, 0] S1x1x128x128.size inb_S2x4x128x128_S1x1x128x128_0_2_0_0, shapeCast S1x1x128x128 (C 0 2).newD shapeCasts_S128x128_S1x1x128x128⟩,
        ⟨Rect.unit ![0, 1, 0, 0] S1x1x128x128.size inb_S2x4x128x128_S1x1x128x128_0_1_0_0, shapeCast S1x1x128x128 (C 0 1).newD shapeCasts_S128x128_S1x1x128x128⟩,
        ⟨Rect.unit ![0, 0, 0, 0] S1x1x128x128.size inb_S2x4x128x128_S1x1x128x128_0_0_0_0, shapeCast S1x1x128x128 (C 0 0).newD shapeCasts_S128x128_S1x1x128x128⟩]) := by
  unfold trip_k0_t1
  rfl

/-- One trip stores the gradients of q. -/
theorem trip_dq (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) X1 X2 X3 X4 X5 X6 X7 k).1 f8 f9 f10 f11 f12 =
      (let C := loaded arg1 arg2 arg3 arg4 arg5 arg6 arg7 arg12 X1 X2 X3 X4 X5 X6 X7 f12 k
       [⟨Rect.unit (k0_off10 k) S1x64x128.size (k0_off10_inb k), shapeCast S1x64x128 (C 1 3).dq shapeCasts_S64x128_S1x64x128⟩,
        ⟨Rect.unit (k0_off9 k) S1x64x128.size (k0_off9_inb k), shapeCast S1x64x128 (C 1 2).dq shapeCasts_S64x128_S1x64x128⟩,
        ⟨Rect.unit (k0_off8 k) S1x64x128.size (k0_off8_inb k), shapeCast S1x64x128 (C 1 1).dq shapeCasts_S64x128_S1x64x128⟩,
        ⟨Rect.unit (k0_off7 k) S1x64x128.size (k0_off7_inb k), shapeCast S1x64x128 (C 1 0).dq shapeCasts_S64x128_S1x64x128⟩,
        ⟨Rect.unit (k0_off6 k) S1x64x128.size (k0_off6_inb k), shapeCast S1x64x128 (C 0 3).dq shapeCasts_S64x128_S1x64x128⟩,
        ⟨Rect.unit (k0_off5 k) S1x64x128.size (k0_off5_inb k), shapeCast S1x64x128 (C 0 2).dq shapeCasts_S64x128_S1x64x128⟩,
        ⟨Rect.unit (k0_off4 k) S1x64x128.size (k0_off4_inb k), shapeCast S1x64x128 (C 0 1).dq shapeCasts_S64x128_S1x64x128⟩,
        ⟨Rect.unit (k0_off3 k) S1x64x128.size (k0_off3_inb k), shapeCast S1x64x128 (C 0 0).dq shapeCasts_S64x128_S1x64x128⟩]) := by
  unfold trip_k0_t1
  rfl

/-- One trip stores the gradients of k. -/
theorem trip_dk (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) X1 X2 X3 X4 X5 X6 X7 k).2.1 f8 f9 f10 f11 f12 =
      (let C := loaded arg1 arg2 arg3 arg4 arg5 arg6 arg7 arg12 X1 X2 X3 X4 X5 X6 X7 f12 k
       [⟨Rect.unit (k0_off10 k) S1x64x128.size (k0_off10_inb k), shapeCast S1x64x128 (C 1 3).dk shapeCasts_S64x128_S1x64x128⟩,
        ⟨Rect.unit (k0_off9 k) S1x64x128.size (k0_off9_inb k), shapeCast S1x64x128 (C 1 2).dk shapeCasts_S64x128_S1x64x128⟩,
        ⟨Rect.unit (k0_off8 k) S1x64x128.size (k0_off8_inb k), shapeCast S1x64x128 (C 1 1).dk shapeCasts_S64x128_S1x64x128⟩,
        ⟨Rect.unit (k0_off7 k) S1x64x128.size (k0_off7_inb k), shapeCast S1x64x128 (C 1 0).dk shapeCasts_S64x128_S1x64x128⟩,
        ⟨Rect.unit (k0_off6 k) S1x64x128.size (k0_off6_inb k), shapeCast S1x64x128 (C 0 3).dk shapeCasts_S64x128_S1x64x128⟩,
        ⟨Rect.unit (k0_off5 k) S1x64x128.size (k0_off5_inb k), shapeCast S1x64x128 (C 0 2).dk shapeCasts_S64x128_S1x64x128⟩,
        ⟨Rect.unit (k0_off4 k) S1x64x128.size (k0_off4_inb k), shapeCast S1x64x128 (C 0 1).dk shapeCasts_S64x128_S1x64x128⟩,
        ⟨Rect.unit (k0_off3 k) S1x64x128.size (k0_off3_inb k), shapeCast S1x64x128 (C 0 0).dk shapeCasts_S64x128_S1x64x128⟩]) := by
  unfold trip_k0_t1
  rfl

/-- One trip stores the gradients of v. -/
theorem trip_dv (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) X1 X2 X3 X4 X5 X6 X7 k).2.2.1 f8 f9 f10 f11 f12 =
      (let C := loaded arg1 arg2 arg3 arg4 arg5 arg6 arg7 arg12 X1 X2 X3 X4 X5 X6 X7 f12 k
       [⟨Rect.unit (k0_off10 k) S1x64x128.size (k0_off10_inb k), shapeCast S1x64x128 (C 1 3).dv shapeCasts_S64x128_S1x64x128⟩,
        ⟨Rect.unit (k0_off9 k) S1x64x128.size (k0_off9_inb k), shapeCast S1x64x128 (C 1 2).dv shapeCasts_S64x128_S1x64x128⟩,
        ⟨Rect.unit (k0_off8 k) S1x64x128.size (k0_off8_inb k), shapeCast S1x64x128 (C 1 1).dv shapeCasts_S64x128_S1x64x128⟩,
        ⟨Rect.unit (k0_off7 k) S1x64x128.size (k0_off7_inb k), shapeCast S1x64x128 (C 1 0).dv shapeCasts_S64x128_S1x64x128⟩,
        ⟨Rect.unit (k0_off6 k) S1x64x128.size (k0_off6_inb k), shapeCast S1x64x128 (C 0 3).dv shapeCasts_S64x128_S1x64x128⟩,
        ⟨Rect.unit (k0_off5 k) S1x64x128.size (k0_off5_inb k), shapeCast S1x64x128 (C 0 2).dv shapeCasts_S64x128_S1x64x128⟩,
        ⟨Rect.unit (k0_off4 k) S1x64x128.size (k0_off4_inb k), shapeCast S1x64x128 (C 0 1).dv shapeCasts_S64x128_S1x64x128⟩,
        ⟨Rect.unit (k0_off3 k) S1x64x128.size (k0_off3_inb k), shapeCast S1x64x128 (C 0 0).dv shapeCasts_S64x128_S1x64x128⟩]) := by
  unfold trip_k0_t1
  rfl

/-- One trip stores the gradients of beta and g. -/
theorem trip_dbg (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) X1 X2 X3 X4 X5 X6 X7 k).2.2.2.1 f8 f9 f10 f11 f12 =
      (let C := loaded arg1 arg2 arg3 arg4 arg5 arg6 arg7 arg12 X1 X2 X3 X4 X5 X6 X7 f12 k
       [⟨Rect.unit (k0_off2 k) S1x64x128.size (k0_off2_inb k), shapeCast S1x64x128 (dbg (C 1 0) (C 1 1) (C 1 2) (C 1 3)) shapeCasts_S64x128_S1x64x128⟩,
        ⟨Rect.unit (k0_off1 k) S1x64x128.size (k0_off1_inb k), shapeCast S1x64x128 (dbg (C 0 0) (C 0 1) (C 0 2) (C 0 3)) shapeCasts_S64x128_S1x64x128⟩]) := by
  unfold trip_k0_t1
  rfl

end Cert.KernelIdeal.Gdn

end
-- ==== Proof.GdnData.lean ====
module

public import proofs.«01_k».proof.Proof.GdnReal
public import proofs.«01_k».proof.Proof.GdnTrip
public import Idealize.ShloMosaic.Lib.WritesUnit
public import Idealize.ShloMosaic.Lib.Pipeline.ValueKit.Tiles

@[expose] public section

set_option maxRecDepth 16384

noncomputable section

namespace Cert.GdnMath

/-- The whole arrays over the reals, by natural row and column numbers: q, k, v and the cotangent o of the output with a
    row per batch and position and 128 columns per head, bg with a head's beta in lane h and its gate in lane 4 + h, and
    the saved states and inverses per batch, head and chunk. -/
structure Data where
  o : ℕ → ℕ → ℝ
  q : ℕ → ℕ → ℝ
  k : ℕ → ℕ → ℝ
  v : ℕ → ℕ → ℝ
  bg : ℕ → ℕ → ℝ
  S : Fin 2 → Fin 4 → ℕ → Fin 128 → Fin 128 → ℝ
  T : Fin 2 → Fin 4 → ℕ → Fin 64 → Fin 64 → ℝ

/-- Chunk `n` of head `h` of batch `b`, with the cotangent `D` of the state behind it. -/
def Data.chunk (X : Data) (b : Fin 2) (h : Fin 4) (n : ℕ) (D : Fin 128 → Fin 128 → ℝ) : Chunk where
  q i d := X.q (2112 * b + 64 * n + i) (128 * h + d)
  k i d := X.k (2112 * b + 64 * n + i) (128 * h + d)
  v i d := X.v (2112 * b + 64 * n + i) (128 * h + d)
  o i d := X.o (2112 * b + 64 * n + i) (128 * h + d)
  b i := X.bg (2112 * b + 64 * n + i) h
  g i := X.bg (2112 * b + 64 * n + i) (4 + h)
  S := X.S b h n
  D := D
  T := X.T b h n

/-- The cotangent of the state after the last `t` of the 33 chunks have been handled, last chunk first. -/
def Data.cot (X : Data) : ℕ → Fin 2 → Fin 4 → Fin 128 → Fin 128 → ℝ
  | 0 => fun _ _ _ _ => 0
  | t + 1 => fun b h => (X.chunk b h (32 - t) (X.cot t b h)).newD

/-- The chunk that is handled after `t` others, with the cotangent that reaches it. -/
def Data.at (X : Data) (b : Fin 2) (h : Fin 4) (t : ℕ) : Chunk := X.chunk b h (32 - t) (X.cot t b h)

end Cert.GdnMath

namespace Cert.KernelIdeal.Gdn

open Idealize.ShloMosaic Idealize.ShloMosaic.TcCoe Idealize.ShloMosaic.Pointwise
open Cert.KernelIdeal Cert.KernelIdeal.Gen Cert.GdnMath Facts

/-- The blocks of one grid point hold the arrays' rows of the three chunks from `3 * P` on. -/
structure Blocks (X : Data) (P : ℕ) (x0 x1 x2 x3 : Vec Ideal S2x192x512 .f32) (x4 : Vec Ideal S2x192x128 .f32)
    (x5 : Vec Ideal S2x4x3x128x128 .f32) (x6 : Vec Ideal S2x4x3x64x64 .f32) : Prop where
  o : ∀ b r l, x0 (ix3 b r l) = ((X.o (2112 * b.val + 192 * P + r.val) l.val : ℝ) : EReal)
  q : ∀ b r l, x1 (ix3 b r l) = ((X.q (2112 * b.val + 192 * P + r.val) l.val : ℝ) : EReal)
  k : ∀ b r l, x2 (ix3 b r l) = ((X.k (2112 * b.val + 192 * P + r.val) l.val : ℝ) : EReal)
  v : ∀ b r l, x3 (ix3 b r l) = ((X.v (2112 * b.val + 192 * P + r.val) l.val : ℝ) : EReal)
  bg : ∀ b r l, x4 (ix3 b r l) = ((X.bg (2112 * b.val + 192 * P + r.val) l.val : ℝ) : EReal)
  S : ∀ b h s d e, x5 (ix5 b h s d e) = ((X.S b h (3 * P + s.val) d e : ℝ) : EReal)
  T : ∀ b h s i j, x6 (ix5 b h s i j) = ((X.T b h (3 * P + s.val) i j : ℝ) : EReal)

section Loads

variable {sig : RefSig} {κ : Kind} {sp : Space}

/-- A load of 64 rows and 128 columns, as a matrix, at an index. -/
theorem rows_apply {w : ℕ} (v : View sig κ sp ⟨3, ![2, 192, w]⟩ .f32) (f : v.ty.Contents (Elt Ideal)) (off : Fin 3 → ℕ)
    (hoff : ∀ a, off a + S1x64x128.size a ≤ (⟨3, ![2, 192, w]⟩ : Shape).size a) (b : Fin 2) (s : Fin 3) (o : ℕ)
    (ho : off = ![b.val, 64 * s.val, o]) (hw : o + 128 ≤ w) (i : Fin 64) (d : Fin 128) :
    shapeCast S64x128 (View.readAt (Elt Ideal) v (Rect.unit (s := ⟨3, ![2, 192, w]⟩) off S1x64x128.size hoff).toLoadRect f : Vec Ideal S1x64x128 .f32)
        shapeCasts_S1x64x128_S64x128 (ix2 i d)
      = v.read (Elt Ideal) f (ix3 b ⟨64 * s.val + i.val, by omega⟩ ⟨o + d.val, by omega⟩) := by
  have e : ∀ y : Vec Ideal S1x64x128 .f32, shapeCast S64x128 y shapeCasts_S1x64x128_S64x128 (ix2 i d) = y (ix3 0 i d) := by
    intro y; pointwise
  rw [e, View.readAt_eq_ld]
  refine View.ld_unit_apply_of _ _ _ _ _ _ fun a => ?_
  subst ho
  match a with
  | 0 => simp
  | 1 => simp
  | 2 => simp

/-- A load of one state, as a matrix, at an index. -/
theorem state_apply (v : View sig κ sp S2x4x3x128x128 .f32) (f : v.ty.Contents (Elt Ideal)) (off : Fin 5 → ℕ)
    (hoff : ∀ a, off a + S1x1x1x128x128.size a ≤ S2x4x3x128x128.size a) (b : Fin 2) (h : Fin 4) (s : Fin 3)
    (ho : off = ![b.val, h.val, s.val, 0, 0]) (i d : Fin 128) :
    shapeCast S128x128 (View.readAt (Elt Ideal) v (Rect.unit (s := S2x4x3x128x128) off S1x1x1x128x128.size hoff).toLoadRect f : Vec Ideal S1x1x1x128x128 .f32)
        shapeCasts_S1x1x1x128x128_S128x128 (ix2 i d)
      = v.read (Elt Ideal) f (ix5 b h s i d) := by
  have e : ∀ y : Vec Ideal S1x1x1x128x128 .f32, shapeCast S128x128 y shapeCasts_S1x1x1x128x128_S128x128 (ix2 i d) = y (ix5 0 0 0 i d) := by
    intro y; pointwise
  rw [e, View.readAt_eq_ld]
  refine View.ld_unit_apply_of _ _ _ _ _ _ fun a => ?_
  subst ho
  match a with
  | 0 => simp
  | 1 => simp
  | 2 => simp
  | 3 => simp
  | 4 => simp

/-- A load of one inverse, as a matrix, at an index. -/
theorem inverse_apply (v : View sig κ sp S2x4x3x64x64 .f32) (f : v.ty.Contents (Elt Ideal)) (off : Fin 5 → ℕ)
    (hoff : ∀ a, off a + S1x1x1x64x64.size a ≤ S2x4x3x64x64.size a) (b : Fin 2) (h : Fin 4) (s : Fin 3)
    (ho : off = ![b.val, h.val, s.val, 0, 0]) (i d : Fin 64) :
    shapeCast S64x64 (View.readAt (Elt Ideal) v (Rect.unit (s := S2x4x3x64x64) off S1x1x1x64x64.size hoff).toLoadRect f : Vec Ideal S1x1x1x64x64 .f32)
        shapeCasts_S1x1x1x64x64_S64x64 (ix2 i d)
      = v.read (Elt Ideal) f (ix5 b h s i d) := by
  have e : ∀ y : Vec Ideal S1x1x1x64x64 .f32, shapeCast S64x64 y shapeCasts_S1x1x1x64x64_S64x64 (ix2 i d) = y (ix5 0 0 0 i d) := by
    intro y; pointwise
  rw [e, View.readAt_eq_ld]
  refine View.ld_unit_apply_of _ _ _ _ _ _ fun a => ?_
  subst ho
  match a with
  | 0 => simp
  | 1 => simp
  | 2 => simp
  | 3 => simp
  | 4 => simp

/-- A load of one carried cotangent, as a matrix, at an index. -/
theorem cot_apply (v : View sig κ sp S2x4x128x128 .f32) (f : v.ty.Contents (Elt Ideal)) (off : Fin 4 → ℕ)
    (hoff : ∀ a, off a + S1x1x128x128.size a ≤ S2x4x128x128.size a) (b : Fin 2) (h : Fin 4)
    (ho : off = ![b.val, h.val, 0, 0]) (i d : Fin 128) :
    shapeCast S128x128 (View.readAt (Elt Ideal) v (Rect.unit (s := S2x4x128x128) off S1x1x128x128.size hoff).toLoadRect f : Vec Ideal S1x1x128x128 .f32)
        shapeCasts_S1x1x128x128_S128x128 (ix2 i d)
      = v.read (Elt Ideal) f (ix4 b h i d) := by
  have e : ∀ y : Vec Ideal S1x1x128x128 .f32, shapeCast S128x128 y shapeCasts_S1x1x128x128_S128x128 (ix2 i d) = y (ix4 0 0 i d) := by
    intro y; pointwise
  rw [e, View.readAt_eq_ld]
  refine View.ld_unit_apply_of _ _ _ _ _ _ fun a => ?_
  subst ho
  match a with
  | 0 => simp
  | 1 => simp
  | 2 => simp
  | 3 => simp

/-- A slice of one lane of a matrix of 64 rows. -/
theorem lane_apply (x : FVec Ideal S64x128 .f32) (off : Fin 2 → ℕ) (hs : S64x128.Slices off S64x1) (o : ℕ) (hlt : o < 128)
    (ho : off = ![0, o]) (i : Fin 64) (j : Fin 1) : extractStridedSlice S64x1 off x hs (ix2 i j) = x (ix2 i ⟨o, hlt⟩) := by
  subst ho
  unfold extractStridedSlice
  refine congrArg x (funext fun a => Fin.ext ?_)
  match a with
  | 0 => simp
  | 1 => simp

end Loads

section Chains

variable {sig : RefSig} {κ : Kind} {sp : Space} {X : Data} {P : ℕ} {x0 x1 x2 x3 : Vec Ideal S2x192x512 .f32} {x4 : Vec Ideal S2x192x128 .f32}
    {x5 : Vec Ideal S2x4x3x128x128 .f32} {x6 : Vec Ideal S2x4x3x64x64 .f32}
    (v1 v2 v3 v4 : View sig κ sp S2x192x512 .f32) (v5 : View sig κ sp S2x192x128 .f32) (v6 : View sig κ sp S2x4x3x128x128 .f32)
    (v7 : View sig κ sp S2x4x3x64x64 .f32) (v12 : View sig κ sp S2x4x128x128 .f32)

/-- A chain's loads from blocks that hold the arrays' rows are the chunk of the arrays. -/
theorem mk_loads (hX : Blocks X P x0 x1 x2 x3 x4 x5 x6) (D : Fin 128 → Fin 128 → ℝ) (b : Fin 2) (h : Fin 4) (s : Fin 3)
    {f1 f2 f3 f4 f5 f6 f7 f12} (h1 : v1.read (Elt Ideal) f1 = x0) (h2 : v2.read (Elt Ideal) f2 = x1) (h3 : v3.read (Elt Ideal) f3 = x2)
    (h4 : v4.read (Elt Ideal) f4 = x3) (h5 : v5.read (Elt Ideal) f5 = x4) (h6 : v6.read (Elt Ideal) f6 = x5) (h7 : v7.read (Elt Ideal) f7 = x6)
    (h12 : ∀ d e, v12.read (Elt Ideal) f12 (ix4 b h d e) = ((D d e : ℝ) : EReal))
    {oR oB : Fin 3 → ℕ} {oS oT : Fin 5 → ℕ} {oD : Fin 4 → ℕ} {ob og : Fin 2 → ℕ} {iR iB iS iT iD sb sg}
    (eR : oR = ![b.val, 64 * s.val, 128 * h.val]) (eB : oB = ![b.val, 64 * s.val, 0]) (eS : oS = ![b.val, h.val, s.val, 0, 0])
    (eT : oT = ![b.val, h.val, s.val, 0, 0]) (eD : oD = ![b.val, h.val, 0, 0]) (eb : ob = ![0, h.val]) (eg : og = ![0, 4 + h.val]) :
    Loads (mk (View.readAt (Elt Ideal) v5 (Rect.unit (s := S2x192x128) oB S1x64x128.size iB).toLoadRect f5)
      (View.readAt (Elt Ideal) v2 (Rect.unit (s := S2x192x512) oR S1x64x128.size iR).toLoadRect f2)
      (View.readAt (Elt Ideal) v3 (Rect.unit (s := S2x192x512) oR S1x64x128.size iR).toLoadRect f3)
      (View.readAt (Elt Ideal) v4 (Rect.unit (s := S2x192x512) oR S1x64x128.size iR).toLoadRect f4)
      (View.readAt (Elt Ideal) v1 (Rect.unit (s := S2x192x512) oR S1x64x128.size iR).toLoadRect f1)
      (View.readAt (Elt Ideal) v6 (Rect.unit (s := S2x4x3x128x128) oS S1x1x1x128x128.size iS).toLoadRect f6)
      (View.readAt (Elt Ideal) v7 (Rect.unit (s := S2x4x3x64x64) oT S1x1x1x64x64.size iT).toLoadRect f7)
      (View.readAt (Elt Ideal) v12 (Rect.unit (s := S2x4x128x128) oD S1x1x128x128.size iD).toLoadRect f12) ob og sb sg)
      (X.chunk b h (3 * P + s.val) D) := by
  have hb := b.isLt
  have hh := h.isLt
  have hs := s.isLt
  have row : ∀ i : ℕ, 2112 * b.val + 192 * P + (64 * s.val + i) = 2112 * b.val + 64 * (3 * P + s.val) + i := fun i => by omega
  constructor
  · intro i d
    refine (rows_apply v2 f2 oR iR b s _ eR (by omega) i d).trans ?_
    rw [h2, hX.q]; simp only [row]; rfl
  · intro i d
    refine (rows_apply v3 f3 oR iR b s _ eR (by omega) i d).trans ?_
    rw [h3, hX.k]; simp only [row]; rfl
  · intro i d
    refine (rows_apply v4 f4 oR iR b s _ eR (by omega) i d).trans ?_
    rw [h4, hX.v]; simp only [row]; rfl
  · intro i d
    refine (rows_apply v1 f1 oR iR b s _ eR (by omega) i d).trans ?_
    rw [h1, hX.o]; simp only [row]; rfl
  · intro i d
    refine (lane_apply (shapeCast S64x128 (View.readAt (Elt Ideal) v5 (Rect.unit (s := S2x192x128) oB S1x64x128.size iB).toLoadRect f5 : Vec Ideal S1x64x128 .f32) shapeCasts_S1x64x128_S64x128) ob sb h.val (by omega) eb i d).trans ?_
    refine (rows_apply v5 f5 oB iB b s 0 eB (by omega) i ⟨h.val, by omega⟩).trans ?_
    rw [h5, hX.bg]; simp only [row, Nat.zero_add]; rfl
  · intro i d
    refine (lane_apply (shapeCast S64x128 (View.readAt (Elt Ideal) v5 (Rect.unit (s := S2x192x128) oB S1x64x128.size iB).toLoadRect f5 : Vec Ideal S1x64x128 .f32) shapeCasts_S1x64x128_S64x128) og sg (4 + h.val) (by omega) eg i d).trans ?_
    refine (rows_apply v5 f5 oB iB b s 0 eB (by omega) i ⟨4 + h.val, by omega⟩).trans ?_
    rw [h5, hX.bg]; simp only [row, Nat.zero_add]; rfl
  · intro d e
    refine (state_apply v6 f6 oS iS b h s eS d e).trans ?_
    rw [h6, hX.S]; rfl
  · intro d e
    exact (cot_apply v12 f12 oD iD b h eD d e).trans (h12 d e)
  · intro i j
    refine (inverse_apply v7 f7 oT iT b h s eT i j).trans ?_
    rw [h7, hX.T]; rfl

end Chains

end Cert.KernelIdeal.Gdn

end
-- ==== Proof.GdnRefRows.lean ====
module

public import proofs.«01_k».proof.Proof.GdnRefReal
public import proofs.«01_k».proof.Proof.GdnData

@[expose] public section

set_option maxRecDepth 16384

noncomputable section

namespace Cert.ReferenceIdeal.Gdn

open Idealize.ShloMosaic Idealize.ShloMosaic.TcCoe Idealize.ShloMosaic.Pointwise
open Cert.ReferenceIdeal Cert.ReferenceIdeal.Gen Cert.ReferenceIdeal.Value Cert.GdnMath
open Cert.KernelIdeal.Gdn (coe_sum coe_ite exp_coe exp_sub_coe select_ite sge_ofNat sgt_ofNat)

/-! What one trip of the reference writes: the chunk's rows of the five gradients and the new cotangent of the state. -/

/-- The sum along the last axis, as the reference takes it. -/
def laneSum (x : FVec Ideal S2x4x64x128 .f32) : FVec Ideal S2x4x64 .f32 :=
  Host.reduceAdd (shapeCast S2x4x64x1 (Host.reduceAdd x (constant S_ .f32 0x00000000#32) reducesTo_S2x4x64x128_S2x4x64_d3 h_S_) shapeCasts_S2x4x64_S2x4x64x1) (constant S_ .f32 0x00000000#32) reducesTo_S2x4x64x1_S2x4x64_d3 h_S_

theorem laneSum_apply (x : FVec Ideal S2x4x64x128 .f32) (b : Fin 2) (d : Fin 4) (i : Fin 64) :
    laneSum x (ix3 b d i) = ∑ e : Fin 128, x (ix4 b d i e) := by
  pointwise [laneSum]
  simp only [const_zero, zero_add, Finset.univ_unique, Finset.sum_singleton]

/-- The sum along the last axis of the pairs, and along the axis in front of it, as the reference takes them. -/
def colSum (x : FVec Ideal S2x4x64x64 .f32) : FVec Ideal S2x4x64 .f32 :=
  Host.reduceAdd (shapeCast S2x4x64x1 (Host.reduceAdd x (constant S_ .f32 0x00000000#32) reducesTo_S2x4x64x64_S2x4x64_d3 h_S_) shapeCasts_S2x4x64_S2x4x64x1) (constant S_ .f32 0x00000000#32) reducesTo_S2x4x64x1_S2x4x64_d3 h_S_

theorem colSum_apply (x : FVec Ideal S2x4x64x64 .f32) (b : Fin 2) (d : Fin 4) (i : Fin 64) :
    colSum x (ix3 b d i) = ∑ e : Fin 64, x (ix4 b d i e) := by
  pointwise [colSum]
  simp only [const_zero, zero_add, Finset.univ_unique, Finset.sum_singleton]

@[inherit_doc colSum]
def rowSum (x : FVec Ideal S2x4x64x64 .f32) : FVec Ideal S2x4x64 .f32 :=
  Host.reduceAdd (shapeCast S2x4x1x64 (Host.reduceAdd x (constant S_ .f32 0x00000000#32) reducesTo_S2x4x64x64_S2x4x64_d2 h_S_) shapeCasts_S2x4x64_S2x4x1x64) (constant S_ .f32 0x00000000#32) reducesTo_S2x4x1x64_S2x4x64_d2 h_S_

theorem rowSum_apply (x : FVec Ideal S2x4x64x64 .f32) (b : Fin 2) (d : Fin 4) (i : Fin 64) :
    rowSum x (ix3 b d i) = ∑ e : Fin 64, x (ix4 b d e i) := by
  pointwise [rowSum]
  simp only [const_zero, zero_add, Finset.univ_unique, Finset.sum_singleton]

/-- The sum of a whole matrix, as the reference takes it. -/
def matSum (x : FVec Ideal S2x4x128x128 .f32) : FVec Ideal S2x4 .f32 :=
  Host.reduceAdd (shapeCast S2x4x1x1 (Host.reduceAdd x (constant S_ .f32 0x00000000#32) reducesTo_S2x4x128x128_S2x4_d2_3 h_S_) shapeCasts_S2x4_S2x4x1x1) (constant S_ .f32 0x00000000#32) reducesTo_S2x4x1x1_S2x4_d2_3 h_S_

theorem matSum_apply (x : FVec Ideal S2x4x128x128 .f32) (b : Fin 2) (d : Fin 4) :
    matSum x (ix2 b d) = ∑ i : Fin 128, ∑ e : Fin 128, x (ix4 b d i e) := by
  pointwise [matSum]
  simp only [const_zero, zero_add, Finset.univ_unique, Finset.sum_singleton]

/-- A number at the last of 64 positions, zeros in front of it. -/
def atLast (x : FVec Ideal S2x4x1 .f32) : FVec Ideal S2x4x64 .f32 :=
  pad S2x4x64 ![0, 0, 63] ![0, 0, 0] ![0, 0, 0] x (constant S_ .f32 0x00000000#32) pads_S2x4x1_S2x4x64_000_000_6300 h_S_

theorem atLast_apply (x : FVec Ideal S2x4x1 .f32) (b : Fin 2) (d : Fin 4) (i : Fin 64) :
    atLast x (ix3 b d i) = if i = 63 then x (ix3 b d 0) else 0 := by
  unfold atLast pad
  by_cases hi : i = 63
  · subst hi
    rw [if_pos rfl, dif_pos]
    · refine congrArg x ?_
      funext a
      match a with
      | 0 => exact Fin.ext (show (b.val - 0) / 1 = b.val by omega)
      | 1 => exact Fin.ext (show (d.val - 0) / 1 = d.val by omega)
      | 2 => exact Subsingleton.elim (α := Fin 1) _ _
    · intro a
      match a with
      | 0 => exact show 0 ≤ b.val ∧ (b.val - 0) % 1 = 0 ∧ (b.val - 0) / 1 < 2 by omega
      | 1 => exact show 0 ≤ d.val ∧ (d.val - 0) % 1 = 0 ∧ (d.val - 0) / 1 < 4 by omega
      | 2 => exact show 63 ≤ 63 ∧ (63 - 63) % 1 = 0 ∧ (63 - 63) / 1 < 1 by omega
  · rw [if_neg hi, dif_neg]
    · exact const_zero
    · intro hin
      have e : 63 ≤ i.val ∧ (i.val - 63) % 1 = 0 ∧ (i.val - 63) / 1 < 1 := hin 2
      exact hi (Fin.ext (show i.val = 63 by omega))

theorem Is3.add {m : ℕ} {x y : FVec Ideal ⟨3, ![2, 4, m]⟩ .f32} {X Y : Fin 2 → Fin 4 → Fin m → ℝ} (hx : Is3 x X) (hy : Is3 y Y) :
    Is3 (addf x y) fun b d i => X b d i + Y b d i := fun b d i => by
  show x _ + y _ = _
  rw [hx, hy, EReal.coe_add]

theorem Is3.mul {m : ℕ} {x y : FVec Ideal ⟨3, ![2, 4, m]⟩ .f32} {X Y : Fin 2 → Fin 4 → Fin m → ℝ} (hx : Is3 x X) (hy : Is3 y Y) :
    Is3 (mulf x y) fun b d i => X b d i * Y b d i := fun b d i => by
  show x _ * y _ = _
  rw [hx, hy, EReal.coe_mul]

theorem Is3.neg {m : ℕ} {x : FVec Ideal ⟨3, ![2, 4, m]⟩ .f32} {X : Fin 2 → Fin 4 → Fin m → ℝ} (hx : Is3 x X) :
    Is3 (Host.negf x) fun b d i => -X b d i := fun b d i => by
  show -(x _) = _
  rw [hx, EReal.coe_neg]

theorem Is4.neg {m n : ℕ} {x : FVec Ideal ⟨4, ![2, 4, m, n]⟩ .f32} {X : Fin 2 → Fin 4 → Fin m → Fin n → ℝ} (hx : Is4 x X) :
    Is4 (Host.negf x) fun b d i j => -X b d i j := fun b d i j => by
  show -(x _) = _
  rw [hx, EReal.coe_neg]

theorem Is2.mul {x y : FVec Ideal ⟨2, ![2, 4]⟩ .f32} {X Y : Fin 2 → Fin 4 → ℝ} (hx : Is2 x X) (hy : Is2 y Y) :
    Is2 (mulf x y) fun b d => X b d * Y b d := fun b d => by
  show x _ * y _ = _
  rw [hx, hy, EReal.coe_mul]

theorem laneSum_is {x y : FVec Ideal S2x4x64x128 .f32} {X Y : Fin 2 → Fin 4 → Fin 64 → Fin 128 → ℝ} (hx : Is4 x X) (hy : Is4 y Y) :
    Is3 (laneSum (mulf x y)) fun b d i => ∑ e, X b d i e * Y b d i e := fun b d i => by
  rw [laneSum_apply, coe_sum]
  refine Finset.sum_congr rfl fun e _ => ?_
  show x _ * y _ = _
  rw [hx, hy, EReal.coe_mul]

theorem rowSum_is {x : FVec Ideal S2x4x64x64 .f32} {X : Fin 2 → Fin 4 → Fin 64 → Fin 64 → ℝ} (hx : Is4 x X) :
    Is3 (rowSum x) fun b d i => ∑ l, X b d l i := fun b d i => by
  rw [rowSum_apply, coe_sum]
  exact Finset.sum_congr rfl fun e _ => hx _ _ _ _

theorem colSum_is {x : FVec Ideal S2x4x64x64 .f32} {X : Fin 2 → Fin 4 → Fin 64 → Fin 64 → ℝ} (hx : Is4 x X) :
    Is3 (colSum x) fun b d i => ∑ l, X b d i l := fun b d i => by
  rw [colSum_apply, coe_sum]
  exact Finset.sum_congr rfl fun e _ => hx _ _ _ _

theorem matSum_is {x y : FVec Ideal S2x4x128x128 .f32} {X Y : Fin 2 → Fin 4 → Fin 128 → Fin 128 → ℝ} (hx : Is4 x X) (hy : Is4 y Y) :
    Is2 (matSum (mulf x y)) fun b d => ∑ i, ∑ e, X b d i e * Y b d i e := fun b d => by
  rw [matSum_apply, coe_sum]
  refine Finset.sum_congr rfl fun i _ => ?_
  rw [coe_sum]
  refine Finset.sum_congr rfl fun e _ => ?_
  show x _ * y _ = _
  rw [hx, hy, EReal.coe_mul]

theorem atLast_is {x : FVec Ideal S2x4x1 .f32} {X : Fin 2 → Fin 4 → Fin 1 → ℝ} (hx : Is3 x X) :
    Is3 (atLast x) fun b d i => if i = 63 then X b d 0 else 0 := fun b d i => by
  rw [atLast_apply, hx, coe_ite]

theorem spread_is {x : FVec Ideal S2x4 .f32} {X : Fin 2 → Fin 4 → ℝ} (hx : Is2 x X) :
    Is3 (broadcastInDim S2x4x1 ![0, 1] bcast_S2x4_S2x4x1_0_1 x) fun b d (_ : Fin 1) => X b d := fun b d i => by
  obtain rfl : i = 0 := Subsingleton.elim _ _
  refine Eq.trans ?_ (hx b d)
  pointwise []

theorem total_is {x : FVec Ideal S2x4x64 .f32} {X : Fin 2 → Fin 4 → Fin 64 → ℝ} (hx : Is3 x X) :
    Is3 (shapeCast S2x4x1 (Host.reduceAdd x (constant S_ .f32 0x00000000#32) reducesTo_S2x4x64_S2x4_d2 h_S_) shapeCasts_S2x4_S2x4x1)
      fun b d (_ : Fin 1) => ∑ l, X b d l := fun b d i => by
  obtain rfl : i = 0 := Subsingleton.elim _ _
  rw [coe_sum]
  refine Eq.trans ?_ (Finset.sum_congr rfl fun l _ => hx b d l)
  pointwise []

/-- What a trip writes of the gradients of q, k, v and the betas. -/
def rowDq (V0 : Valuation τ sig (Elt Ideal)) : FVec Ideal S2x4x64x128 .f32 :=
  addf (mulf (res_main_while0b_v128 V0) (broadcastInDim S2x4x64x128 ![0, 1, 2, 3] bcast_S2x4x64x1_S2x4x64x128_0_1_2_3 (res_main_while0b_v88 V0))) (Host.dotGeneral (φ₁ := .f32) (φ₂ := .f32) dot_S2x4x64x64_S2x4x64x128_S2x4x64x128_3_2_2_3_01_01 none (res_main_while0b_v160 V0) (res_main_while0b_v43 V0))
@[inherit_doc rowDq]
def rowDk (V0 : Valuation τ sig (Elt Ideal)) : FVec Ideal S2x4x64x128 .f32 :=
  addf (addf (addf (mulf (res_main_while0b_v114 V0) (broadcastInDim S2x4x64x128 ![0, 1, 2, 3] bcast_S2x4x64x1_S2x4x64x128_0_1_2_3 (res_main_while0b_v95 V0))) (Host.dotGeneral (φ₁ := .f32) (φ₂ := .f32) dot_S2x4x64x64_S2x4x64x128_S2x4x64x128_2_2_3_3_01_01 none (res_main_while0b_v160 V0) (res_main_while0b_v42 V0))) (Host.dotGeneral (φ₁ := .f32) (φ₂ := .f32) dot_S2x4x64x64_S2x4x64x128_S2x4x64x128_2_2_3_3_01_01 none (res_main_while0b_v192 V0) (res_main_while0b_v71 V0))) (mulf (res_main_while0b_v196 V0) (broadcastInDim S2x4x64x128 ![0, 1, 2, 3] bcast_S2x4x64x1_S2x4x64x128_0_1_2_3 (res_main_while0b_v69 V0)))
@[inherit_doc rowDq]
def rowDv (V0 : Valuation τ sig (Elt Ideal)) : FVec Ideal S2x4x64x128 .f32 :=
  mulf (res_main_while0b_v177 V0) (broadcastInDim S2x4x64x128 ![0, 1, 2, 3] bcast_S2x4x64x1_S2x4x64x128_0_1_2_3 (res_main_while0b_v75 V0))
@[inherit_doc rowDq]
def rowDbeta (V0 : Valuation τ sig (Elt Ideal)) : FVec Ideal S2x4x64 .f32 :=
  addf (laneSum (mulf (res_main_while0b_v44 V0) (res_main_while0b_v177 V0))) (laneSum (mulf (res_main_while0b_v43 V0) (res_main_while0b_v196 V0)))
/-- The gradient of the running sum of the gates, with what reaches its last entry through the sum of all of them. -/
def sumDg (V0 : Valuation τ sig (Elt Ideal)) : FVec Ideal S2x4x64 .f32 :=
  addf (addf (addf (addf (addf (addf (atLast (broadcastInDim S2x4x1 ![0, 1] bcast_S2x4_S2x4x1_0_1 (mulf (matSum (mulf (res_main_while0b_v47 V0) (V0 (Proc.devRef .tc main_v24_9)))) (res_main_while0b_v100 V0)))) (Host.negf (res_main_while0b_v143 V0))) (atLast (shapeCast S2x4x1 (Host.reduceAdd (res_main_while0b_v143 V0) (constant S_ .f32 0x00000000#32) reducesTo_S2x4x64_S2x4_d2 h_S_) shapeCasts_S2x4_S2x4x1))) (mulf (laneSum (mulf (res_main_while0b_v42 V0) (res_main_while0b_v128 V0))) (res_main_while0b_v87 V0))) (mulf (laneSum (mulf (res_main_while0b_v71 V0) (res_main_while0b_v166 V0))) (res_main_while0b_v79 V0))) (rowSum (Host.negf (res_main_while0b_v207 V0)))) (colSum (res_main_while0b_v207 V0))
/-- What a trip writes of the gradient of the gates. -/
def rowDg (V0 : Valuation τ sig (Elt Ideal)) : FVec Ideal S2x4x64 .f32 :=
  Host.reduceWindowAdd ![1, 1, 64] ![1, 1, 1] ![0, 0, 0] ![0, 0, 63] (sumDg V0) (broadcastInDim S_ ![] bcast_S_S_ (constant S_ .f32 0x00000000#32)) reduceWindows_S2x4x64_S2x4x64_w1s1p0_0_w1s1p0_0_w64s1p0_63 h_S_

variable {V0 : Valuation τ sig (Elt Ideal)} {M : Fin 2 → Fin 4 → Chunk}

/-- The entries of `sumDg`. -/
def sumDgReal (M : Chunk) (i : Fin 64) : ℝ :=
  (if i = 63 then M.dgLast * M.gLast else 0) + -(∑ e, M.dkDec i e * M.kDec i e)
    + (if i = 63 then ∑ l, ∑ e, M.dkDec l e * M.kDec l e else 0) + (∑ e, M.q i e * M.dqDec i e) * M.eg i
    + (∑ e, M.kb i e * M.dkbg i e) * M.eg i + (∑ l, -M.e l i) + ∑ l, M.e i l

theorem dg_eq (M : Chunk) (i : Fin 64) : (∑ j, if i ≤ j then sumDgReal M j else 0) = M.dg i := by
  have e : ∀ j, sumDgReal M j = M.dgc j + if j = 63 then M.dTotal else 0 := fun j => by
    unfold sumDgReal Chunk.dgc Chunk.dTotal
    rw [Finset.sum_add_distrib, Finset.sum_sub_distrib, Finset.sum_neg_distrib, Finset.sum_mul, Finset.sum_mul]
    have e1 : (∑ e, M.dqDec j e * M.qDec j e) = ∑ e, M.q j e * M.dqDec j e * M.eg j :=
      Finset.sum_congr rfl fun e _ => by rw [Chunk.qDec]; ring
    have e2 : (∑ e, M.dkbg j e * M.kbg j e) = ∑ e, M.kb j e * M.dkbg j e * M.eg j :=
      Finset.sum_congr rfl fun e _ => by rw [Chunk.kbg]; ring
    rw [e1, e2]
    by_cases hj : j = 63
    · simp only [hj, if_true]; ring
    · simp only [hj, if_false]; ring
  have f : ∀ j, (if i ≤ j then sumDgReal M j else 0) = (if i ≤ j then M.dgc j else 0) + if j = 63 then M.dTotal else 0 := fun j => by
    rw [e j]
    by_cases hij : i ≤ j
    · simp only [hij, if_true]
    · have hj : ¬ j = 63 := fun h => hij (h ▸ Fin.le_last i)
      simp only [hij, hj, if_false, add_zero]
  rw [Finset.sum_congr rfl fun j _ => f j, Finset.sum_add_distrib, Finset.sum_ite_eq' Finset.univ (63 : Fin 64), if_pos (Finset.mem_univ _)]
  rfl

namespace RLoads

theorem dq (h : RLoads V0 M) : Is4 (rowDq V0) fun b d => (M b d).dq := by
  intro b d i j
  refine Eq.trans (b := (((M b d).dqDec i j * (M b d).eg i + ∑ l, (M b d).dmQk i l * (M b d).k l j : ℝ) : EReal)) ?_ (congrArg _ (add_comm _ _))
  pointwise [rowDq]
  simp only [h.v128 _ _ _ _, h.v88 _ _ _ _, h.v160 _ _ _ _, h.v43 _ _ _ _, coe_sum, EReal.coe_add, EReal.coe_mul]

theorem dk (h : RLoads V0 M) : Is4 (rowDk V0) fun b d => (M b d).dk := by
  intro b d i j
  refine Eq.trans (b := (((M b d).dkDec i j * (M b d).ek i + (∑ l, (M b d).dmQk l i * (M b d).q l j) + (∑ l, (M b d).dmA l i * (M b d).kb l j)
    + (M b d).dkb i j * (M b d).b i : ℝ) : EReal)) ?_ (congrArg _ ?_)
  · pointwise [rowDk]
    simp only [h.v114 _ _ _ _, h.v95 _ _ _ _, h.v160 _ _ _ _, h.v42 _ _ _ _, h.v192 _ _ _ _, h.v71 _ _ _ _, h.v196 _ _ _ _, h.v69 _ _ _ _, coe_sum, EReal.coe_add, EReal.coe_mul]
  · show _ = (M b d).dk i j
    unfold Chunk.dk
    ring

theorem dv (h : RLoads V0 M) : Is4 (rowDv V0) fun b d => (M b d).dv := by
  intro b d i j
  pointwise [rowDv]
  simp only [h.v177 _ _ _ _, h.v75 _ _ _ _, Chunk.dv, EReal.coe_mul]

theorem dbeta (h : RLoads V0 M) : Is3 (rowDbeta V0) fun b d => (M b d).dbeta := by
  intro b d i
  refine ((laneSum_is h.v44 h.v177).add (laneSum_is h.v43 h.v196) b d i).trans (congrArg _ ?_)
  show (∑ e, (M b d).v i e * (M b d).dvb i e) + (∑ e, (M b d).k i e * (M b d).dkb i e) = (M b d).dbeta i
  rw [Chunk.dbeta, ← Finset.sum_add_distrib]
  exact Finset.sum_congr rfl fun e _ => by ring

theorem sumDg (h : RLoads V0 M) : Is3 (sumDg V0) fun b d => sumDgReal (M b d) :=
  (((((((atLast_is (spread_is ((matSum_is h.v47 h.D).mul h.v100))).add h.v143.neg).add (atLast_is (total_is h.v143))).add
    ((laneSum_is h.v42 h.v128).mul h.v87)).add ((laneSum_is h.v71 h.v166).mul h.v79)).add (rowSum_is h.v207.neg)).add (colSum_is h.v207))

theorem dg (h : RLoads V0 M) : Is3 (rowDg V0) fun b d => (M b d).dg := by
  intro b d i
  refine Eq.trans (b := ((∑ j, if i ≤ j then sumDgReal (M b d) j else 0 : ℝ) : EReal)) ?_ (congrArg _ (dg_eq _ _))
  refine (suffix_apply (Gdn.sumDg V0) _ _ _ const_zero b d i).trans ?_
  simp only [h.sumDg _ _ _, coe_sum, coe_ite]

theorem newD (h : RLoads V0 M) : Is4 (m := 128) (n := 128) (step_main_v24_9 V0) fun b d => (M b d).newD := by
  intro b d i j
  refine Eq.trans (b := (((M b d).D i j * (M b d).gLast + (∑ l, (M b d).o l j * (M b d).qDec l i) + ∑ l, -(M b d).dvNew l j * (M b d).w l i : ℝ) : EReal)) ?_ (congrArg _ ?_)
  · simp only [step_main_v24_9, id_eq]
    pointwise []
    simp only [h.D _ _ _ _, h.v106 _ _ _ _, h.v41 _ _ _ _, h.v90 _ _ _ _, h.v129 _ _ _ _, h.v83 _ _ _ _, coe_sum, EReal.coe_add, EReal.coe_mul, EReal.coe_neg]
  · show _ = (M b d).newD i j
    unfold Chunk.newD
    have e1 : (∑ l, (M b d).o l j * (M b d).qDec l i) = ∑ l, (M b d).qDec l i * (M b d).o l j := Finset.sum_congr rfl fun l _ => mul_comm _ _
    have e2 : (∑ l, -(M b d).dvNew l j * (M b d).w l i) = -∑ l, (M b d).w l i * (M b d).dvNew l j := by
      rw [← Finset.sum_neg_distrib]
      exact Finset.sum_congr rfl fun l _ => by ring
    rw [e1, e2]
    ring

end RLoads

end Cert.ReferenceIdeal.Gdn
-- ==== Proof.GdnRefLoop.lean ====
module

public import proofs.«01_k».proof.Proof.GdnRefRows

@[expose] public section

set_option maxRecDepth 16384

noncomputable section

namespace Cert.ReferenceIdeal.Gdn

open Idealize.ShloMosaic Idealize.ShloMosaic.TcCoe Idealize.ShloMosaic.Pointwise
open Cert.ReferenceIdeal Cert.ReferenceIdeal.Gen Cert.ReferenceIdeal.Value Cert.GdnMath

/-! The reference's loop over the 33 chunks, last chunk first. -/

section Slices

variable {α : Type} {p m n : ℕ}

/-- The `r`-th of the blocks along the first axis. -/
theorem slice5 (x : (⟨5, ![33, 2, 4, m, n]⟩ : Shape).Idx → α) (start : Fin 5 → ℤ)
    (h : (⟨5, ![33, 2, 4, m, n]⟩ : Shape).Slices (fun _ => 0) ⟨5, ![1, 2, 4, m, n]⟩) (r : Fin 33)
    (h0 : start 0 = r.val) (h1 : start 1 = 0) (h2 : start 2 = 0) (h3 : start 3 = 0) (h4 : start 4 = 0)
    (b : Fin 2) (d : Fin 4) (i : Fin m) (j : Fin n) :
    Host.dynamicSlice ⟨5, ![1, 2, 4, m, n]⟩ x start h (ix5 0 b d i j) = x (ix5 r b d i j) := by
  have hr := r.isLt
  refine congrArg x ?_
  funext a
  match a with
  | 0 => exact Fin.ext (show (min (max (start 0) 0) ((33 - 1 : ℕ) : ℤ)).toNat + 0 = r.val by rw [h0]; omega)
  | 1 => exact Fin.ext (show (min (max (start 1) 0) ((2 - 2 : ℕ) : ℤ)).toNat + b.val = b.val by rw [h1]; omega)
  | 2 => exact Fin.ext (show (min (max (start 2) 0) ((4 - 4 : ℕ) : ℤ)).toNat + d.val = d.val by rw [h2]; omega)
  | 3 => exact Fin.ext (show (min (max (start 3) 0) ((m - m : ℕ) : ℤ)).toNat + i.val = i.val by rw [h3]; omega)
  | 4 => exact Fin.ext (show (min (max (start 4) 0) ((n - n : ℕ) : ℤ)).toNat + j.val = j.val by rw [h4]; omega)

@[inherit_doc slice5]
theorem slice4 (x : (⟨4, ![33, 2, 4, m]⟩ : Shape).Idx → α) (start : Fin 4 → ℤ)
    (h : (⟨4, ![33, 2, 4, m]⟩ : Shape).Slices (fun _ => 0) ⟨4, ![1, 2, 4, m]⟩) (r : Fin 33)
    (h0 : start 0 = r.val) (h1 : start 1 = 0) (h2 : start 2 = 0) (h3 : start 3 = 0)
    (b : Fin 2) (d : Fin 4) (i : Fin m) :
    Host.dynamicSlice ⟨4, ![1, 2, 4, m]⟩ x start h (ix4 0 b d i) = x (ix4 r b d i) := by
  have hr := r.isLt
  refine congrArg x ?_
  funext a
  match a with
  | 0 => exact Fin.ext (show (min (max (start 0) 0) ((33 - 1 : ℕ) : ℤ)).toNat + 0 = r.val by rw [h0]; omega)
  | 1 => exact Fin.ext (show (min (max (start 1) 0) ((2 - 2 : ℕ) : ℤ)).toNat + b.val = b.val by rw [h1]; omega)
  | 2 => exact Fin.ext (show (min (max (start 2) 0) ((4 - 4 : ℕ) : ℤ)).toNat + d.val = d.val by rw [h2]; omega)
  | 3 => exact Fin.ext (show (min (max (start 3) 0) ((m - m : ℕ) : ℤ)).toNat + i.val = i.val by rw [h3]; omega)

/-- The blocks along the first axis, the `r`-th replaced. -/
theorem update5 (x : (⟨5, ![33, 2, 4, m, n]⟩ : Shape).Idx → α) (y : (⟨5, ![1, 2, 4, m, n]⟩ : Shape).Idx → α) (start : Fin 5 → ℤ)
    (h : (⟨5, ![33, 2, 4, m, n]⟩ : Shape).Slices (fun _ => 0) ⟨5, ![1, 2, 4, m, n]⟩) (r : Fin 33)
    (h0 : start 0 = r.val) (h1 : start 1 = 0) (h2 : start 2 = 0) (h3 : start 3 = 0) (h4 : start 4 = 0)
    (s : Fin 33) (b : Fin 2) (d : Fin 4) (i : Fin m) (j : Fin n) :
    Host.dynamicUpdateSlice x y start h (ix5 s b d i j) = if s = r then y (ix5 0 b d i j) else x (ix5 s b d i j) := by
  have hr := r.isLt
  have e0 : Host.clampedStart ⟨5, ![33, 2, 4, m, n]⟩ ⟨5, ![1, 2, 4, m, n]⟩ h.1 start 0 = r.val :=
    show (min (max (start 0) 0) ((33 - 1 : ℕ) : ℤ)).toNat = r.val by rw [h0]; omega
  have e1 : Host.clampedStart ⟨5, ![33, 2, 4, m, n]⟩ ⟨5, ![1, 2, 4, m, n]⟩ h.1 start 1 = 0 :=
    show (min (max (start 1) 0) ((2 - 2 : ℕ) : ℤ)).toNat = 0 by rw [h1]; omega
  have e2 : Host.clampedStart ⟨5, ![33, 2, 4, m, n]⟩ ⟨5, ![1, 2, 4, m, n]⟩ h.1 start 2 = 0 :=
    show (min (max (start 2) 0) ((4 - 4 : ℕ) : ℤ)).toNat = 0 by rw [h2]; omega
  have e3 : Host.clampedStart ⟨5, ![33, 2, 4, m, n]⟩ ⟨5, ![1, 2, 4, m, n]⟩ h.1 start 3 = 0 :=
    show (min (max (start 3) 0) ((m - m : ℕ) : ℤ)).toNat = 0 by rw [h3]; omega
  have e4 : Host.clampedStart ⟨5, ![33, 2, 4, m, n]⟩ ⟨5, ![1, 2, 4, m, n]⟩ h.1 start 4 = 0 :=
    show (min (max (start 4) 0) ((n - n : ℕ) : ℤ)).toNat = 0 by rw [h4]; omega
  rw [Host.dynamicUpdateSlice_apply]
  by_cases hs : s = r
  · subst hs
    rw [if_pos rfl, dif_pos]
    · refine congrArg y ?_
      funext a
      match a with
      | 0 => exact Subsingleton.elim (α := Fin 1) _ _
      | 1 => exact Fin.ext (show b.val - Host.clampedStart ⟨5, ![33, 2, 4, m, n]⟩ ⟨5, ![1, 2, 4, m, n]⟩ h.1 start 1 = b.val by rw [e1]; omega)
      | 2 => exact Fin.ext (show d.val - Host.clampedStart ⟨5, ![33, 2, 4, m, n]⟩ ⟨5, ![1, 2, 4, m, n]⟩ h.1 start 2 = d.val by rw [e2]; omega)
      | 3 => exact Fin.ext (show i.val - Host.clampedStart ⟨5, ![33, 2, 4, m, n]⟩ ⟨5, ![1, 2, 4, m, n]⟩ h.1 start 3 = i.val by rw [e3]; omega)
      | 4 => exact Fin.ext (show j.val - Host.clampedStart ⟨5, ![33, 2, 4, m, n]⟩ ⟨5, ![1, 2, 4, m, n]⟩ h.1 start 4 = j.val by rw [e4]; omega)
    · intro a
      match a with
      | 0 => exact show Host.clampedStart ⟨5, ![33, 2, 4, m, n]⟩ ⟨5, ![1, 2, 4, m, n]⟩ h.1 start 0 ≤ s.val ∧ s.val < Host.clampedStart ⟨5, ![33, 2, 4, m, n]⟩ ⟨5, ![1, 2, 4, m, n]⟩ h.1 start 0 + 1 by rw [e0]; omega
      | 1 => exact show Host.clampedStart ⟨5, ![33, 2, 4, m, n]⟩ ⟨5, ![1, 2, 4, m, n]⟩ h.1 start 1 ≤ b.val ∧ b.val < Host.clampedStart ⟨5, ![33, 2, 4, m, n]⟩ ⟨5, ![1, 2, 4, m, n]⟩ h.1 start 1 + 2 by rw [e1]; omega
      | 2 => exact show Host.clampedStart ⟨5, ![33, 2, 4, m, n]⟩ ⟨5, ![1, 2, 4, m, n]⟩ h.1 start 2 ≤ d.val ∧ d.val < Host.clampedStart ⟨5, ![33, 2, 4, m, n]⟩ ⟨5, ![1, 2, 4, m, n]⟩ h.1 start 2 + 4 by rw [e2]; omega
      | 3 => exact show Host.clampedStart ⟨5, ![33, 2, 4, m, n]⟩ ⟨5, ![1, 2, 4, m, n]⟩ h.1 start 3 ≤ i.val ∧ i.val < Host.clampedStart ⟨5, ![33, 2, 4, m, n]⟩ ⟨5, ![1, 2, 4, m, n]⟩ h.1 start 3 + m by rw [e3]; omega
      | 4 => exact show Host.clampedStart ⟨5, ![33, 2, 4, m, n]⟩ ⟨5, ![1, 2, 4, m, n]⟩ h.1 start 4 ≤ j.val ∧ j.val < Host.clampedStart ⟨5, ![33, 2, 4, m, n]⟩ ⟨5, ![1, 2, 4, m, n]⟩ h.1 start 4 + n by rw [e4]; omega
  · rw [if_neg hs, dif_neg]
    intro hin
    have e : Host.clampedStart ⟨5, ![33, 2, 4, m, n]⟩ ⟨5, ![1, 2, 4, m, n]⟩ h.1 start 0 ≤ s.val ∧ s.val < Host.clampedStart ⟨5, ![33, 2, 4, m, n]⟩ ⟨5, ![1, 2, 4, m, n]⟩ h.1 start 0 + 1 := hin 0
    rw [e0] at e
    exact hs (Fin.ext (by omega))

@[inherit_doc update5]
theorem update4 (x : (⟨4, ![33, 2, 4, m]⟩ : Shape).Idx → α) (y : (⟨4, ![1, 2, 4, m]⟩ : Shape).Idx → α) (start : Fin 4 → ℤ)
    (h : (⟨4, ![33, 2, 4, m]⟩ : Shape).Slices (fun _ => 0) ⟨4, ![1, 2, 4, m]⟩) (r : Fin 33)
    (h0 : start 0 = r.val) (h1 : start 1 = 0) (h2 : start 2 = 0) (h3 : start 3 = 0)
    (s : Fin 33) (b : Fin 2) (d : Fin 4) (i : Fin m) :
    Host.dynamicUpdateSlice x y start h (ix4 s b d i) = if s = r then y (ix4 0 b d i) else x (ix4 s b d i) := by
  have hr := r.isLt
  have e0 : Host.clampedStart ⟨4, ![33, 2, 4, m]⟩ ⟨4, ![1, 2, 4, m]⟩ h.1 start 0 = r.val :=
    show (min (max (start 0) 0) ((33 - 1 : ℕ) : ℤ)).toNat = r.val by rw [h0]; omega
  have e1 : Host.clampedStart ⟨4, ![33, 2, 4, m]⟩ ⟨4, ![1, 2, 4, m]⟩ h.1 start 1 = 0 :=
    show (min (max (start 1) 0) ((2 - 2 : ℕ) : ℤ)).toNat = 0 by rw [h1]; omega
  have e2 : Host.clampedStart ⟨4, ![33, 2, 4, m]⟩ ⟨4, ![1, 2, 4, m]⟩ h.1 start 2 = 0 :=
    show (min (max (start 2) 0) ((4 - 4 : ℕ) : ℤ)).toNat = 0 by rw [h2]; omega
  have e3 : Host.clampedStart ⟨4, ![33, 2, 4, m]⟩ ⟨4, ![1, 2, 4, m]⟩ h.1 start 3 = 0 :=
    show (min (max (start 3) 0) ((m - m : ℕ) : ℤ)).toNat = 0 by rw [h3]; omega
  rw [Host.dynamicUpdateSlice_apply]
  by_cases hs : s = r
  · subst hs
    rw [if_pos rfl, dif_pos]
    · refine congrArg y ?_
      funext a
      match a with
      | 0 => exact Subsingleton.elim (α := Fin 1) _ _
      | 1 => exact Fin.ext (show b.val - Host.clampedStart ⟨4, ![33, 2, 4, m]⟩ ⟨4, ![1, 2, 4, m]⟩ h.1 start 1 = b.val by rw [e1]; omega)
      | 2 => exact Fin.ext (show d.val - Host.clampedStart ⟨4, ![33, 2, 4, m]⟩ ⟨4, ![1, 2, 4, m]⟩ h.1 start 2 = d.val by rw [e2]; omega)
      | 3 => exact Fin.ext (show i.val - Host.clampedStart ⟨4, ![33, 2, 4, m]⟩ ⟨4, ![1, 2, 4, m]⟩ h.1 start 3 = i.val by rw [e3]; omega)
    · intro a
      match a with
      | 0 => exact show Host.clampedStart ⟨4, ![33, 2, 4, m]⟩ ⟨4, ![1, 2, 4, m]⟩ h.1 start 0 ≤ s.val ∧ s.val < Host.clampedStart ⟨4, ![33, 2, 4, m]⟩ ⟨4, ![1, 2, 4, m]⟩ h.1 start 0 + 1 by rw [e0]; omega
      | 1 => exact show Host.clampedStart ⟨4, ![33, 2, 4, m]⟩ ⟨4, ![1, 2, 4, m]⟩ h.1 start 1 ≤ b.val ∧ b.val < Host.clampedStart ⟨4, ![33, 2, 4, m]⟩ ⟨4, ![1, 2, 4, m]⟩ h.1 start 1 + 2 by rw [e1]; omega
      | 2 => exact show Host.clampedStart ⟨4, ![33, 2, 4, m]⟩ ⟨4, ![1, 2, 4, m]⟩ h.1 start 2 ≤ d.val ∧ d.val < Host.clampedStart ⟨4, ![33, 2, 4, m]⟩ ⟨4, ![1, 2, 4, m]⟩ h.1 start 2 + 4 by rw [e2]; omega
      | 3 => exact show Host.clampedStart ⟨4, ![33, 2, 4, m]⟩ ⟨4, ![1, 2, 4, m]⟩ h.1 start 3 ≤ i.val ∧ i.val < Host.clampedStart ⟨4, ![33, 2, 4, m]⟩ ⟨4, ![1, 2, 4, m]⟩ h.1 start 3 + m by rw [e3]; omega
  · rw [if_neg hs, dif_neg]
    intro hin
    have e : Host.clampedStart ⟨4, ![33, 2, 4, m]⟩ ⟨4, ![1, 2, 4, m]⟩ h.1 start 0 ≤ s.val ∧ s.val < Host.clampedStart ⟨4, ![33, 2, 4, m]⟩ ⟨4, ![1, 2, 4, m]⟩ h.1 start 0 + 1 := hin 0
    rw [e0] at e
    exact hs (Fin.ext (by omega))

/-- A block of one entry along the first axis, the axis dropped. -/
theorem drop_lanes (y : S1x2x4x64x128.Idx → α) (b : Fin 2) (d : Fin 4) (i : Fin 64) (j : Fin 128) :
    shapeCast S2x4x64x128 y shapeCasts_S1x2x4x64x128_S2x4x64x128 (ix4 b d i j) = y (ix5 0 b d i j) := by
  pointwise []
theorem drop_states (y : S1x2x4x128x128.Idx → α) (b : Fin 2) (d : Fin 4) (i : Fin 128) (j : Fin 128) :
    shapeCast S2x4x128x128 y shapeCasts_S1x2x4x128x128_S2x4x128x128 (ix4 b d i j) = y (ix5 0 b d i j) := by
  pointwise []
theorem drop_pairs (y : S1x2x4x64x64.Idx → α) (b : Fin 2) (d : Fin 4) (i : Fin 64) (j : Fin 64) :
    shapeCast S2x4x64x64 y shapeCasts_S1x2x4x64x64_S2x4x64x64 (ix4 b d i j) = y (ix5 0 b d i j) := by
  pointwise []
theorem drop_rows (y : S1x2x4x64.Idx → α) (b : Fin 2) (d : Fin 4) (i : Fin 64) :
    shapeCast S2x4x64 y shapeCasts_S1x2x4x64_S2x4x64 (ix3 b d i) = y (ix4 0 b d i) := by
  pointwise []
theorem lift_lanes (y : S2x4x64x128.Idx → α) (b : Fin 2) (d : Fin 4) (i : Fin 64) (j : Fin 128) :
    broadcastInDim S1x2x4x64x128 ![1, 2, 3, 4] bcast_S2x4x64x128_S1x2x4x64x128_1_2_3_4 y (ix5 0 b d i j) = y (ix4 b d i j) := by
  pointwise []
theorem lift_rows (y : S2x4x64.Idx → α) (b : Fin 2) (d : Fin 4) (i : Fin 64) :
    broadcastInDim S1x2x4x64 ![1, 2, 3] bcast_S2x4x64_S1x2x4x64_1_2_3 y (ix4 0 b d i) = y (ix3 b d i) := by
  pointwise []

end Slices

/-- The carried buffers after `t` trips. -/
structure Inv (X : Data) (V : Valuation τ sig (Elt Ideal)) (t : ℕ) : Prop where
  o : ∀ (n : Fin 33) b d i e, (V (Proc.devRef .tc main_v24_0) : S33x2x4x64x128.Idx → EReal) (ix5 n b d i e) = (((X.chunk b d n.val 0).o i e : ℝ) : EReal)
  q : ∀ (n : Fin 33) b d i e, (V (Proc.devRef .tc main_v24_1) : S33x2x4x64x128.Idx → EReal) (ix5 n b d i e) = (((X.chunk b d n.val 0).q i e : ℝ) : EReal)
  k : ∀ (n : Fin 33) b d i e, (V (Proc.devRef .tc main_v24_2) : S33x2x4x64x128.Idx → EReal) (ix5 n b d i e) = (((X.chunk b d n.val 0).k i e : ℝ) : EReal)
  v : ∀ (n : Fin 33) b d i e, (V (Proc.devRef .tc main_v24_3) : S33x2x4x64x128.Idx → EReal) (ix5 n b d i e) = (((X.chunk b d n.val 0).v i e : ℝ) : EReal)
  g : ∀ (n : Fin 33) b d i, (V (Proc.devRef .tc main_v24_4) : S33x2x4x64.Idx → EReal) (ix4 n b d i) = (((X.chunk b d n.val 0).g i : ℝ) : EReal)
  b : ∀ (n : Fin 33) b d i, (V (Proc.devRef .tc main_v24_5) : S33x2x4x64.Idx → EReal) (ix4 n b d i) = (((X.chunk b d n.val 0).b i : ℝ) : EReal)
  S : ∀ (n : Fin 33) b d i e, (V (Proc.devRef .tc main_v24_6) : S33x2x4x128x128.Idx → EReal) (ix5 n b d i e) = (((X.chunk b d n.val 0).S i e : ℝ) : EReal)
  T : ∀ (n : Fin 33) b d i e, (V (Proc.devRef .tc main_v24_7) : S33x2x4x64x64.Idx → EReal) (ix5 n b d i e) = (((X.chunk b d n.val 0).T i e : ℝ) : EReal)
  ctr : V (Proc.devRef .tc main_v24_8) = fun _ => BitVec.ofNat 32 t
  D : ∀ b d i e, (V (Proc.devRef .tc main_v24_9) : S2x4x128x128.Idx → EReal) (ix4 b d i e) = ((X.cot t b d i e : ℝ) : EReal)
  dq : ∀ n : Fin 33, 33 ≤ n.val + t → ∀ b d i e, (V (Proc.devRef .tc main_v24_10) : S33x2x4x64x128.Idx → EReal) (ix5 n b d i e) = (((X.at b d (32 - n.val)).dq i e : ℝ) : EReal)
  dk : ∀ n : Fin 33, 33 ≤ n.val + t → ∀ b d i e, (V (Proc.devRef .tc main_v24_11) : S33x2x4x64x128.Idx → EReal) (ix5 n b d i e) = (((X.at b d (32 - n.val)).dk i e : ℝ) : EReal)
  dv : ∀ n : Fin 33, 33 ≤ n.val + t → ∀ b d i e, (V (Proc.devRef .tc main_v24_12) : S33x2x4x64x128.Idx → EReal) (ix5 n b d i e) = (((X.at b d (32 - n.val)).dv i e : ℝ) : EReal)
  dbeta : ∀ n : Fin 33, 33 ≤ n.val + t → ∀ b d i, (V (Proc.devRef .tc main_v24_13) : S33x2x4x64.Idx → EReal) (ix4 n b d i) = (((X.at b d (32 - n.val)).dbeta i : ℝ) : EReal)
  dg : ∀ n : Fin 33, 33 ≤ n.val + t → ∀ b d i, (V (Proc.devRef .tc main_v24_14) : S33x2x4x64.Idx → EReal) (ix4 n b d i) = (((X.at b d (32 - n.val)).dg i : ℝ) : EReal)

namespace Inv

variable {X : Data} {V : Valuation τ sig (Elt Ideal)} {t : ℕ}

theorem index (h : Inv X V t) (ht : t < 33) : (res_main_while0b_v40 V (Shape.Idx.first h_S_)).toInt = ((32 - t : ℕ) : ℤ) := by
  have e : ∀ t : Fin 33, ((33#32 - BitVec.ofNat 32 t.val) - 1#32).toInt = ((32 - t.val : ℕ) : ℤ) := by decide +kernel
  refine Eq.trans ?_ (e ⟨t, ht⟩)
  unfold res_main_while0b_v40
  rw [h.ctr]
  rfl

/-- What a trip reads are the numbers of the chunks that are next. -/
theorem loads (h : Inv X V t) (ht : t < 33) : RLoads V fun b d => X.at b d t where
  v41 b d i j := (drop_lanes _ b d i j).trans ((slice5 _ _ _ ⟨32 - t, by omega⟩ (h.index ht) rfl rfl rfl rfl b d i j).trans (h.o _ _ _ _ _))
  v42 b d i j := (drop_lanes _ b d i j).trans ((slice5 _ _ _ ⟨32 - t, by omega⟩ (h.index ht) rfl rfl rfl rfl b d i j).trans (h.q _ _ _ _ _))
  v43 b d i j := (drop_lanes _ b d i j).trans ((slice5 _ _ _ ⟨32 - t, by omega⟩ (h.index ht) rfl rfl rfl rfl b d i j).trans (h.k _ _ _ _ _))
  v44 b d i j := (drop_lanes _ b d i j).trans ((slice5 _ _ _ ⟨32 - t, by omega⟩ (h.index ht) rfl rfl rfl rfl b d i j).trans (h.v _ _ _ _ _))
  v46 b d i := (drop_rows _ b d i).trans ((slice4 _ _ _ ⟨32 - t, by omega⟩ (h.index ht) rfl rfl rfl b d i).trans (h.b _ _ _ _))
  v47 b d i j := (drop_states _ b d i j).trans ((slice5 _ _ _ ⟨32 - t, by omega⟩ (h.index ht) rfl rfl rfl rfl b d i j).trans (h.S _ _ _ _ _))
  v48 b d i j := (drop_pairs _ b d i j).trans ((slice5 _ _ _ ⟨32 - t, by omega⟩ (h.index ht) rfl rfl rfl rfl b d i j).trans (h.T _ _ _ _ _))
  v49 b d i := by
    refine (prefix_apply _ _ _ _ const_zero b d i).trans ?_
    show _ = (((X.at b d t).gc i : ℝ) : EReal)
    rw [Chunk.gc, Cert.KernelIdeal.Gdn.coe_sum]
    refine Finset.sum_congr rfl fun j _ => ?_
    rw [Cert.KernelIdeal.Gdn.coe_ite]
    by_cases hj : j ≤ i
    · rw [if_pos hj, if_pos hj]
      exact (drop_rows _ b d j).trans ((slice4 _ _ _ ⟨32 - t, by omega⟩ (h.index ht) rfl rfl rfl b d j).trans (h.g _ _ _ _))
    · rw [if_neg hj, if_neg hj]
  D b d i j := h.D b d i j

theorem lanes_step (h : Inv X V t) (ht : t < 33) (x : S33x2x4x64x128.Idx → EReal) (y : FVec Ideal S2x4x64x128 .f32) (start : Fin 5 → ℤ)
    (h0 : start 0 = ((32 - t : ℕ) : ℤ)) (h1 : start 1 = 0) (h2 : start 2 = 0) (h3 : start 3 = 0) (h4 : start 4 = 0)
    (f : Chunk → Fin 64 → Fin 128 → ℝ)
    (hx : ∀ n : Fin 33, 33 ≤ n.val + t → ∀ b d i e, x (ix5 n b d i e) = ((f (X.at b d (32 - n.val)) i e : ℝ) : EReal))
    (hy : Is4 y fun b d => f (X.at b d t)) (n : Fin 33) (hn : 33 ≤ n.val + (t + 1)) (b : Fin 2) (d : Fin 4) (i : Fin 64) (e : Fin 128) :
    Host.dynamicUpdateSlice x (broadcastInDim S1x2x4x64x128 ![1, 2, 3, 4] bcast_S2x4x64x128_S1x2x4x64x128_1_2_3_4 y) start updateFits_S33x2x4x64x128_S1x2x4x64x128 (ix5 n b d i e)
      = ((f (X.at b d (32 - n.val)) i e : ℝ) : EReal) := by
  rw [update5 _ _ _ _ ⟨32 - t, by omega⟩ h0 h1 h2 h3 h4]
  by_cases hs : n = ⟨32 - t, by omega⟩
  · rw [if_pos hs, lift_lanes, hy]
    have en : 32 - n.val = t := by rw [hs]; show 32 - (32 - t) = t; omega
    rw [en]
  · rw [if_neg hs]
    refine hx n ?_ b d i e
    have : n.val ≠ 32 - t := fun e => hs (Fin.ext e)
    omega

theorem rows_step (h : Inv X V t) (ht : t < 33) (x : S33x2x4x64.Idx → EReal) (y : FVec Ideal S2x4x64 .f32) (start : Fin 4 → ℤ)
    (h0 : start 0 = ((32 - t : ℕ) : ℤ)) (h1 : start 1 = 0) (h2 : start 2 = 0) (h3 : start 3 = 0)
    (f : Chunk → Fin 64 → ℝ)
    (hx : ∀ n : Fin 33, 33 ≤ n.val + t → ∀ b d i, x (ix4 n b d i) = ((f (X.at b d (32 - n.val)) i : ℝ) : EReal))
    (hy : Is3 y fun b d => f (X.at b d t)) (n : Fin 33) (hn : 33 ≤ n.val + (t + 1)) (b : Fin 2) (d : Fin 4) (i : Fin 64) :
    Host.dynamicUpdateSlice x (broadcastInDim S1x2x4x64 ![1, 2, 3] bcast_S2x4x64_S1x2x4x64_1_2_3 y) start updateFits_S33x2x4x64_S1x2x4x64 (ix4 n b d i)
      = ((f (X.at b d (32 - n.val)) i : ℝ) : EReal) := by
  rw [update4 _ _ _ _ ⟨32 - t, by omega⟩ h0 h1 h2 h3]
  by_cases hs : n = ⟨32 - t, by omega⟩
  · rw [if_pos hs, lift_rows, hy]
    have en : 32 - n.val = t := by rw [hs]; show 32 - (32 - t) = t; omega
    rw [en]
  · rw [if_neg hs]
    refine hx n ?_ b d i
    have : n.val ≠ 32 - t := fun e => hs (Fin.ext e)
    omega

/-- One more trip. -/
theorem step (h : Inv X V t) (ht : t < 33) : Inv X (STEP V) (t + 1) where
  o := by rw [STEP_main_v24_0]; exact h.o
  q := by rw [STEP_main_v24_1]; exact h.q
  k := by rw [STEP_main_v24_2]; exact h.k
  v := by rw [STEP_main_v24_3]; exact h.v
  g := by rw [STEP_main_v24_4]; exact h.g
  b := by rw [STEP_main_v24_5]; exact h.b
  S := by rw [STEP_main_v24_6]; exact h.S
  T := by rw [STEP_main_v24_7]; exact h.T
  ctr := by
    rw [STEP_main_v24_8, step_main_v24_8, h.ctr]
    funext _
    show BitVec.ofNat 32 t + 1#32 = _
    rw [BitVec.ofNat_add]
  D := by rw [STEP_main_v24_9]; exact (h.loads ht).newD
  dq := by rw [STEP_main_v24_10]; exact h.lanes_step ht _ (rowDq V) _ (h.index ht) rfl rfl rfl rfl Chunk.dq h.dq (h.loads ht).dq
  dk := by rw [STEP_main_v24_11]; exact h.lanes_step ht _ (rowDk V) _ (h.index ht) rfl rfl rfl rfl Chunk.dk h.dk (h.loads ht).dk
  dv := by rw [STEP_main_v24_12]; exact h.lanes_step ht _ (rowDv V) _ (h.index ht) rfl rfl rfl rfl Chunk.dv h.dv (h.loads ht).dv
  dbeta := by rw [STEP_main_v24_13]; exact h.rows_step ht _ (rowDbeta V) _ (h.index ht) rfl rfl rfl Chunk.dbeta h.dbeta (h.loads ht).dbeta
  dg := by rw [STEP_main_v24_14]; exact h.rows_step ht _ (rowDg V) _ (h.index ht) rfl rfl rfl Chunk.dg h.dg (h.loads ht).dg

theorem iterate (h : Inv X V 0) : ∀ t, t ≤ 33 → Inv X (STEP^[t] V) t
  | 0, _ => h
  | t + 1, ht => by
    rw [Function.iterate_succ_apply']
    exact (iterate h t (by omega)).step (by omega)

end Inv

end Cert.ReferenceIdeal.Gdn
-- ==== Proof.GdnPoint.lean ====
module

public import proofs.«01_k».proof.Proof.GdnData
public import proofs.«01_k».proof.Proof.GdnRun

@[expose] public section

set_option maxRecDepth 16384

noncomputable section

namespace Cert.KernelIdeal.Gdn

open Idealize.ShloMosaic Idealize.ShloMosaic.TcCoe Idealize.ShloMosaic.Pointwise
open Cert.KernelIdeal Cert.KernelIdeal.Gen Cert.GdnMath Facts

/-! One grid point: three trips of the loop, each over one chunk of the eight chains. -/

theorem trips_eq : k0_t1_loop.trips = 3 := by decide +kernel

/-- The chunk within the block that trip `k` handles. -/
def sub (k : Fin k0_t1_loop.trips) : Fin 3 := ⟨2 - k.val, by omega⟩

/-- Where trip `k` finds the rows and columns of a chain. -/
def rowsAt : Fin 2 → Fin 4 → Fin k0_t1_loop.trips → Fin 3 → ℕ
  | 0, 0 => k0_off3
  | 0, 1 => k0_off4
  | 0, 2 => k0_off5
  | 0, 3 => k0_off6
  | 1, 0 => k0_off7
  | 1, 1 => k0_off8
  | 1, 2 => k0_off9
  | 1, 3 => k0_off10

theorem rowsAt_eq : ∀ b h k, rowsAt b h k = ![b.val, 64 * (sub k).val, 128 * h.val] := by decide +kernel

theorem rowsAt_inb : ∀ b h k a, rowsAt b h k a + S1x64x128.size a ≤ S2x192x512.size a
  | 0, 0 => k0_off3_inb
  | 0, 1 => k0_off4_inb
  | 0, 2 => k0_off5_inb
  | 0, 3 => k0_off6_inb
  | 1, 0 => k0_off7_inb
  | 1, 1 => k0_off8_inb
  | 1, 2 => k0_off9_inb
  | 1, 3 => k0_off10_inb

/-- Where trip `k` finds the rows of beta and g of a batch. -/
def lanesAt : Fin 2 → Fin k0_t1_loop.trips → Fin 3 → ℕ
  | 0 => k0_off1
  | 1 => k0_off2

theorem lanesAt_eq : ∀ b k, lanesAt b k = ![b.val, 64 * (sub k).val, 0] := by decide +kernel

theorem lanesAt_inb : ∀ b k a, lanesAt b k a + S1x64x128.size a ≤ S2x192x128.size a
  | 0 => k0_off1_inb
  | 1 => k0_off2_inb

/-- Where trip `k` finds the saved state of a chain. -/
def stateAt : Fin 2 → Fin 4 → Fin k0_t1_loop.trips → Fin 5 → ℕ
  | 0, 0 => k0_off11
  | 0, 1 => k0_off12
  | 0, 2 => k0_off13
  | 0, 3 => k0_off14
  | 1, 0 => k0_off15
  | 1, 1 => k0_off16
  | 1, 2 => k0_off17
  | 1, 3 => k0_off18

theorem stateAt_eq : ∀ b h k, stateAt b h k = ![b.val, h.val, (sub k).val, 0, 0] := by decide +kernel

/-- Where trip `k` finds the saved inverse of a chain. -/
def inverseAt : Fin 2 → Fin 4 → Fin k0_t1_loop.trips → Fin 5 → ℕ
  | 0, 0 => k0_off19
  | 0, 1 => k0_off20
  | 0, 2 => k0_off21
  | 0, 3 => k0_off22
  | 1, 0 => k0_off23
  | 1, 1 => k0_off24
  | 1, 2 => k0_off25
  | 1, 3 => k0_off26

theorem inverseAt_eq : ∀ b h k, inverseAt b h k = ![b.val, h.val, (sub k).val, 0, 0] := by decide +kernel

/-- Where the carried cotangent of a chain lies. -/
def cotAt : Fin 2 → Fin 4 → Fin 4 → ℕ
  | 0, 0 => ![0, 0, 0, 0]
  | 0, 1 => ![0, 1, 0, 0]
  | 0, 2 => ![0, 2, 0, 0]
  | 0, 3 => ![0, 3, 0, 0]
  | 1, 0 => ![1, 0, 0, 0]
  | 1, 1 => ![1, 1, 0, 0]
  | 1, 2 => ![1, 2, 0, 0]
  | 1, 3 => ![1, 3, 0, 0]

theorem cotAt_eq : ∀ b h, cotAt b h = ![b.val, h.val, 0, 0] := by decide +kernel

theorem cotAt_inb : ∀ b h a, cotAt b h a + S1x1x128x128.size a ≤ S2x4x128x128.size a
  | 0, 0 => inb_S2x4x128x128_S1x1x128x128_0_0_0_0
  | 0, 1 => inb_S2x4x128x128_S1x1x128x128_0_1_0_0
  | 0, 2 => inb_S2x4x128x128_S1x1x128x128_0_2_0_0
  | 0, 3 => inb_S2x4x128x128_S1x1x128x128_0_3_0_0
  | 1, 0 => inb_S2x4x128x128_S1x1x128x128_1_0_0_0
  | 1, 1 => inb_S2x4x128x128_S1x1x128x128_1_1_0_0
  | 1, 2 => inb_S2x4x128x128_S1x1x128x128_1_2_0_0
  | 1, 3 => inb_S2x4x128x128_S1x1x128x128_1_3_0_0

/-- The chains, in the order in which the last trip's stores are listed. -/
def chains : List (Fin 2 × Fin 4) := [(1, 3), (1, 2), (1, 1), (1, 0), (0, 3), (0, 2), (0, 1), (0, 0)]

theorem mem_chains : ∀ b h, (b, h) ∈ chains := by decide +kernel

/-- The stores of trip `k` of one array of rows. -/
abbrev rowPieces (k : Fin k0_t1_loop.trips) (C : Fin 2 → Fin 4 → FVec Ideal S64x128 .f32) (cs : List (Fin 2 × Fin 4)) :
    List (View.Piece (Elt Ideal) S2x192x512 .f32) :=
  cs.map fun c => ⟨Rect.unit (s := S2x192x512) (rowsAt c.1 c.2 k) S1x64x128.size (rowsAt_inb c.1 c.2 k), shapeCast S1x64x128 (C c.1 c.2) shapeCasts_S64x128_S1x64x128⟩

/-- The stores of trip `k` of the gradients of beta and g. -/
abbrev lanePieces (k : Fin k0_t1_loop.trips) (C : Fin 2 → FVec Ideal S64x128 .f32) (cs : List (Fin 2)) :
    List (View.Piece (Elt Ideal) S2x192x128 .f32) :=
  cs.map fun c => ⟨Rect.unit (s := S2x192x128) (lanesAt c k) S1x64x128.size (lanesAt_inb c k), shapeCast S1x64x128 (C c) shapeCasts_S64x128_S1x64x128⟩

/-- The stores of one trip of the carried cotangents. -/
abbrev cotPieces (C : Fin 2 → Fin 4 → FVec Ideal S128x128 .f32) (cs : List (Fin 2 × Fin 4)) :
    List (View.Piece (Elt Ideal) S2x4x128x128 .f32) :=
  cs.map fun c => ⟨Rect.unit (s := S2x4x128x128) (cotAt c.1 c.2) S1x1x128x128.size (cotAt_inb c.1 c.2), shapeCast S1x1x128x128 (C c.1 c.2) shapeCasts_S128x128_S1x1x128x128⟩

/-- Row `i` of chunk `s` of a block. -/
abbrev rowOf (s : Fin 3) (i : Fin 64) : Fin 192 := ⟨64 * s.val + i.val, by omega⟩
/-- Column `d` of head `h`. -/
abbrev colOf (h : Fin 4) (d : Fin 128) : Fin 512 := ⟨128 * h.val + d.val, by omega⟩

theorem cast_rows (x : FVec Ideal S64x128 .f32) (i : Fin 64) (d : Fin 128) :
    shapeCast S1x64x128 x shapeCasts_S64x128_S1x64x128 (ix3 0 i d) = x (ix2 i d) := by pointwise

theorem cast_cot (x : FVec Ideal S128x128 .f32) (i d : Fin 128) :
    shapeCast S1x1x128x128 x shapeCasts_S128x128_S1x1x128x128 (ix4 0 0 i d) = x (ix2 i d) := by pointwise

section Pieces

variable {sig : RefSig} {κ : Kind} {sp : Space}

/-- Reading a chunk's rows where the trip has stored them. -/
theorem rowPieces_hit (v : View sig κ sp S2x192x512 .f32) (f : v.ty.Contents (Elt Ideal)) (k) (C : Fin 2 → Fin 4 → FVec Ideal S64x128 .f32)
    (L : List (View.Piece (Elt Ideal) S2x192x512 .f32)) (b : Fin 2) (h : Fin 4) (i : Fin 64) (d : Fin 128) :
    ∀ cs : List (Fin 2 × Fin 4), (b, h) ∈ cs →
      v.read (Elt Ideal) (v.writes (Elt Ideal) f (rowPieces k C cs ++ L)) (ix3 b (rowOf (sub k) i) (colOf h d)) = C b h (ix2 i d)
  | [], hm => by simp at hm
  | c :: cs, hm => by
    by_cases hc : (b, h) = c
    · subst hc
      refine (View.read_writes_cons_unit_of_mem v f (rowsAt_inb b h k) _ _ _ (ix3 0 i d) (rowsAt_eq b h k) fun a => ?_).trans (cast_rows _ i d)
      match a with
      | 0 => simp
      | 1 => simp
      | 2 => simp
    · have ih := rowPieces_hit v f k C L b h i d cs ((List.mem_cons.mp hm).resolve_left hc)
      by_cases hb : b = c.1
      · have hh : h.val ≠ c.2.val := fun e => hc (Prod.ext hb (Fin.ext e))
        refine (View.read_writes_cons_unit_of_not_mem v f (rowsAt_inb c.1 c.2 k) _ _ _ (rowsAt_eq c.1 c.2 k) 2 ?_).trans ih
        show 128 * h.val + d.val < 128 * c.2.val ∨ 128 * c.2.val + 128 ≤ 128 * h.val + d.val
        omega
      · have hh : b.val ≠ c.1.val := fun e => hb (Fin.ext e)
        refine (View.read_writes_cons_unit_of_not_mem v f (rowsAt_inb c.1 c.2 k) _ _ _ (rowsAt_eq c.1 c.2 k) 0 ?_).trans ih
        show b.val < c.1.val ∨ c.1.val + 1 ≤ b.val
        omega

/-- Reading another chunk's rows. -/
theorem rowPieces_miss (v : View sig κ sp S2x192x512 .f32) (f : v.ty.Contents (Elt Ideal)) (k) (C : Fin 2 → Fin 4 → FVec Ideal S64x128 .f32)
    (L : List (View.Piece (Elt Ideal) S2x192x512 .f32)) (b : Fin 2) (s : Fin 3) (i : Fin 64) (l : Fin 512) (hs : s ≠ sub k) :
    ∀ cs : List (Fin 2 × Fin 4),
      v.read (Elt Ideal) (v.writes (Elt Ideal) f (rowPieces k C cs ++ L)) (ix3 b (rowOf s i) l) = v.read (Elt Ideal) (v.writes (Elt Ideal) f L) (ix3 b (rowOf s i) l)
  | [] => rfl
  | c :: cs => by
    refine (View.read_writes_cons_unit_of_not_mem v f (rowsAt_inb c.1 c.2 k) _ _ _ (rowsAt_eq c.1 c.2 k) 1 ?_).trans (rowPieces_miss v f k C L b s i l hs cs)
    have h : s.val ≠ (sub k).val := fun e => hs (Fin.ext e)
    show 64 * s.val + i.val < 64 * (sub k).val ∨ 64 * (sub k).val + 64 ≤ 64 * s.val + i.val
    omega

/-- Reading a chunk's lanes where the trip has stored them. -/
theorem lanePieces_hit (v : View sig κ sp S2x192x128 .f32) (f : v.ty.Contents (Elt Ideal)) (k) (C : Fin 2 → FVec Ideal S64x128 .f32)
    (L : List (View.Piece (Elt Ideal) S2x192x128 .f32)) (b : Fin 2) (i : Fin 64) (d : Fin 128) :
    ∀ cs : List (Fin 2), b ∈ cs →
      v.read (Elt Ideal) (v.writes (Elt Ideal) f (lanePieces k C cs ++ L)) (ix3 b (rowOf (sub k) i) d) = C b (ix2 i d)
  | [], hm => by simp at hm
  | c :: cs, hm => by
    by_cases hc : b = c
    · subst hc
      refine (View.read_writes_cons_unit_of_mem v f (lanesAt_inb b k) _ _ _ (ix3 0 i d) (lanesAt_eq b k) fun a => ?_).trans (cast_rows _ i d)
      match a with
      | 0 => simp
      | 1 => simp
      | 2 => simp
    · have ih := lanePieces_hit v f k C L b i d cs ((List.mem_cons.mp hm).resolve_left hc)
      have hh : b.val ≠ c.val := fun e => hc (Fin.ext e)
      refine (View.read_writes_cons_unit_of_not_mem v f (lanesAt_inb c k) _ _ _ (lanesAt_eq c k) 0 ?_).trans ih
      show b.val < c.val ∨ c.val + 1 ≤ b.val
      omega

/-- Reading another chunk's lanes. -/
theorem lanePieces_miss (v : View sig κ sp S2x192x128 .f32) (f : v.ty.Contents (Elt Ideal)) (k) (C : Fin 2 → FVec Ideal S64x128 .f32)
    (L : List (View.Piece (Elt Ideal) S2x192x128 .f32)) (b : Fin 2) (s : Fin 3) (i : Fin 64) (l : Fin 128) (hs : s ≠ sub k) :
    ∀ cs : List (Fin 2),
      v.read (Elt Ideal) (v.writes (Elt Ideal) f (lanePieces k C cs ++ L)) (ix3 b (rowOf s i) l) = v.read (Elt Ideal) (v.writes (Elt Ideal) f L) (ix3 b (rowOf s i) l)
  | [] => rfl
  | c :: cs => by
    refine (View.read_writes_cons_unit_of_not_mem v f (lanesAt_inb c k) _ _ _ (lanesAt_eq c k) 1 ?_).trans (lanePieces_miss v f k C L b s i l hs cs)
    have h : s.val ≠ (sub k).val := fun e => hs (Fin.ext e)
    show 64 * s.val + i.val < 64 * (sub k).val ∨ 64 * (sub k).val + 64 ≤ 64 * s.val + i.val
    omega

/-- Reading a chain's carried cotangent where the trip has stored it. -/
theorem cotPieces_hit (v : View sig κ sp S2x4x128x128 .f32) (f : v.ty.Contents (Elt Ideal)) (C : Fin 2 → Fin 4 → FVec Ideal S128x128 .f32)
    (L : List (View.Piece (Elt Ideal) S2x4x128x128 .f32)) (b : Fin 2) (h : Fin 4) (i d : Fin 128) :
    ∀ cs : List (Fin 2 × Fin 4), (b, h) ∈ cs →
      v.read (Elt Ideal) (v.writes (Elt Ideal) f (cotPieces C cs ++ L)) (ix4 b h i d) = C b h (ix2 i d)
  | [], hm => by simp at hm
  | c :: cs, hm => by
    by_cases hc : (b, h) = c
    · subst hc
      refine (View.read_writes_cons_unit_of_mem v f (cotAt_inb b h) _ _ _ (ix4 0 0 i d) (cotAt_eq b h) fun a => ?_).trans (cast_cot _ i d)
      match a with
      | 0 => simp
      | 1 => simp
      | 2 => simp
      | 3 => simp
    · have ih := cotPieces_hit v f C L b h i d cs ((List.mem_cons.mp hm).resolve_left hc)
      by_cases hb : b = c.1
      · have hh : h.val ≠ c.2.val := fun e => hc (Prod.ext hb (Fin.ext e))
        refine (View.read_writes_cons_unit_of_not_mem v f (cotAt_inb c.1 c.2) _ _ _ (cotAt_eq c.1 c.2) 1 ?_).trans ih
        show h.val < c.2.val ∨ c.2.val + 1 ≤ h.val
        omega
      · have hh : b.val ≠ c.1.val := fun e => hb (Fin.ext e)
        refine (View.read_writes_cons_unit_of_not_mem v f (cotAt_inb c.1 c.2) _ _ _ (cotAt_eq c.1 c.2) 0 ?_).trans ih
        show b.val < c.1.val ∨ c.1.val + 1 ≤ b.val
        omega

end Pieces

theorem lane_num (l : Fin 128) (n : Fin 8) : IntOp.cmpi .eq (BitVec.ofNat 32 l) (BitVec.ofNat 32 n) = if l.val = n.val then 1#1 else 0#1 := by
  revert l n; decide +kernel

/-- A column in one lane. -/
theorem lane_at (n : Fin 8) (x : FVec Ideal S64x1 .f32) (i : Fin 64) (l : Fin 128) :
    lane (BitVec.ofNat 32 n) x (ix2 i l) = if l.val = n.val then x (ix2 i 0) else 0 := by
  pointwise [lane]
  rw [lane_num]
  split <;> rfl

/-- The gradients of beta and g of the chunk handled after `t` others, by lane. -/
def _root_.Cert.GdnMath.Data.lanes (X : Data) (b : Fin 2) (t : ℕ) (i : Fin 64) (l : Fin 128) : ℝ :=
  if h : l.val < 4 then (X.at b ⟨l.val, h⟩ t).dbeta i
  else if h : l.val < 8 then (X.at b ⟨l.val - 4, by omega⟩ t).dg i
  else 0

theorem dbg_at {X : Data} {b : Fin 2} {t : ℕ} (C : Fin 4 → Chain Ideal) (hC : ∀ h, Loads (C h) (X.at b h t)) (i : Fin 64) (l : Fin 128) :
    dbg (C 0) (C 1) (C 2) (C 3) (ix2 i l) = ((X.lanes b t i l : ℝ) : EReal) := by
  have e : dbg (C 0) (C 1) (C 2) (C 3) (ix2 i l) = 0 + lane (BitVec.ofNat 32 (0 : Fin 8)) (C 0).dbeta (ix2 i l) + lane (BitVec.ofNat 32 (4 : Fin 8)) (C 0).dg (ix2 i l)
      + lane (BitVec.ofNat 32 (1 : Fin 8)) (C 1).dbeta (ix2 i l) + lane (BitVec.ofNat 32 (5 : Fin 8)) (C 1).dg (ix2 i l)
      + lane (BitVec.ofNat 32 (2 : Fin 8)) (C 2).dbeta (ix2 i l) + lane (BitVec.ofNat 32 (6 : Fin 8)) (C 2).dg (ix2 i l)
      + lane (BitVec.ofNat 32 (3 : Fin 8)) (C 3).dbeta (ix2 i l) + lane (BitVec.ofNat 32 (7 : Fin 8)) (C 3).dg (ix2 i l) := by
    pointwise [dbg]
  rw [e]
  simp only [lane_at, fun h => (hC h).dbeta i 0, fun h => (hC h).dg i 0, Data.lanes]
  have hl := l.isLt
  obtain h | h | h | h | h | h | h | h | h : l.val = 0 ∨ l.val = 1 ∨ l.val = 2 ∨ l.val = 3 ∨ l.val = 4 ∨ l.val = 5 ∨ l.val = 6 ∨ l.val = 7 ∨ 8 ≤ l.val := by omega
  iterate 8 (· simp [h] <;> rfl)
  have n4 : ¬ l.val < 4 := by omega
  have n8 : ¬ l.val < 8 := by omega
  have e0 : l.val ≠ 0 := by omega
  have e1 : l.val ≠ 1 := by omega
  have e2 : l.val ≠ 2 := by omega
  have e3 : l.val ≠ 3 := by omega
  have e4 : l.val ≠ 4 := by omega
  have e5 : l.val ≠ 5 := by omega
  have e6 : l.val ≠ 6 := by omega
  have e7 : l.val ≠ 7 := by omega
  simp [n4, n8, e0, e1, e2, e3, e4, e5, e6, e7]

section Point

variable (c : Dev nD) (i : grid0.Coords) (arg1 : Memref sig .tc .vmem S2x192x512 .f32) (harg1 : arg1.IsWhole) (arg2 : Memref sig .tc .vmem S2x192x512 .f32) (harg2 : arg2.IsWhole) (arg3 : Memref sig .tc .vmem S2x192x512 .f32) (harg3 : arg3.IsWhole) (arg4 : Memref sig .tc .vmem S2x192x512 .f32) (harg4 : arg4.IsWhole) (arg5 : Memref sig .tc .vmem S2x192x128 .f32) (harg5 : arg5.IsWhole) (arg6 : Memref sig .tc .vmem S2x4x3x128x128 .f32) (harg6 : arg6.IsWhole) (arg7 : Memref sig .tc .vmem S2x4x3x64x64 .f32) (harg7 : arg7.IsWhole) (arg8 : Memref sig .tc .vmem S2x192x512 .f32) (harg8 : arg8.IsWhole) (arg9 : Memref sig .tc .vmem S2x192x512 .f32) (harg9 : arg9.IsWhole) (arg10 : Memref sig .tc .vmem S2x192x512 .f32) (harg10 : arg10.IsWhole) (arg11 : Memref sig .tc .vmem S2x192x128 .f32) (harg11 : arg11.IsWhole) (arg12 : Memref sig .tc .vmem S2x4x128x128 .f32) (harg12 : arg12.IsWhole)
  (x0 x1 x2 x3 : Vec Ideal S2x192x512 .f32) (x4 : Vec Ideal S2x192x128 .f32) (x5 : Vec Ideal S2x4x3x128x128 .f32) (x6 : Vec Ideal S2x4x3x64x64 .f32)
  (G : BufTy.Contents (Elt Ideal) arg12.view.ty)

/-- The chains that a trip loads at a point whose blocks are given. -/
abbrev chainsAt (f12 : BufTy.Contents (Elt Ideal) arg12.view.ty) (k : Fin k0_t1_loop.trips) : Fin 2 → Fin 4 → Chain Ideal :=
  loaded (F := Ideal) arg1 arg2 arg3 arg4 arg5 arg6 arg7 arg12 (harg1.unread x0) (harg2.unread x1) (harg3.unread x2) (harg4.unread x3) (harg5.unread x4) (harg6.unread x5) (harg7.unread x6) f12 k

/-- The loaded chains are the chunks of the arrays. -/
theorem chainsAt_loads {X : Data} {p : ℕ} (hp : p ≤ 10) (hX : Blocks X (10 - p) x0 x1 x2 x3 x4 x5 x6) (f12 : BufTy.Contents (Elt Ideal) arg12.view.ty) (k : Fin k0_t1_loop.trips)
    (hD : ∀ b h d e, arg12.view.read (Elt Ideal) f12 (ix4 b h d e) = ((X.cot (3 * p + k.val) b h d e : ℝ) : EReal)) (b : Fin 2) (h : Fin 4) :
    Loads (chainsAt arg1 harg1 arg2 harg2 arg3 harg3 arg4 harg4 arg5 harg5 arg6 harg6 arg7 harg7 arg12 x0 x1 x2 x3 x4 x5 x6 f12 k b h) (X.at b h (3 * p + k.val)) := by
  have hk : k.val ≤ 2 := Nat.le_of_lt_succ (lt_of_lt_of_eq k.isLt trips_eq)
  have e : 3 * (10 - p) + (sub k).val = 32 - (3 * p + k.val) := by show 3 * (10 - p) + (2 - k.val) = _; omega
  have key : ∀ (b : Fin 2) (h : Fin 4) {ob og : Fin 2 → ℕ} (sb sg iS iT), ob = ![0, h.val] → og = ![0, 4 + h.val] →
      Loads (mk (View.readAt (Elt Ideal) arg5.view (Rect.unit (s := S2x192x128) (lanesAt b k) S1x64x128.size (lanesAt_inb b k)).toLoadRect (harg5.unread x4))
      (View.readAt (Elt Ideal) arg2.view (Rect.unit (s := S2x192x512) (rowsAt b h k) S1x64x128.size (rowsAt_inb b h k)).toLoadRect (harg2.unread x1))
      (View.readAt (Elt Ideal) arg3.view (Rect.unit (s := S2x192x512) (rowsAt b h k) S1x64x128.size (rowsAt_inb b h k)).toLoadRect (harg3.unread x2))
      (View.readAt (Elt Ideal) arg4.view (Rect.unit (s := S2x192x512) (rowsAt b h k) S1x64x128.size (rowsAt_inb b h k)).toLoadRect (harg4.unread x3))
      (View.readAt (Elt Ideal) arg1.view (Rect.unit (s := S2x192x512) (rowsAt b h k) S1x64x128.size (rowsAt_inb b h k)).toLoadRect (harg1.unread x0))
      (View.readAt (Elt Ideal) arg6.view (Rect.unit (s := S2x4x3x128x128) (stateAt b h k) S1x1x1x128x128.size iS).toLoadRect (harg6.unread x5))
      (View.readAt (Elt Ideal) arg7.view (Rect.unit (s := S2x4x3x64x64) (inverseAt b h k) S1x1x1x64x64.size iT).toLoadRect (harg7.unread x6))
      (View.readAt (Elt Ideal) arg12.view (Rect.unit (s := S2x4x128x128) (cotAt b h) S1x1x128x128.size (cotAt_inb b h)).toLoadRect f12) ob og sb sg)
      (X.at b h (3 * p + k.val)) := fun b h ob og sb sg iS iT eb eg => by
    have := mk_loads arg1.view arg2.view arg3.view arg4.view arg5.view arg6.view arg7.view arg12.view hX (X.cot (3 * p + k.val) b h) b h (sub k)
      (harg1.read_unread x0) (harg2.read_unread x1) (harg3.read_unread x2) (harg4.read_unread x3) (harg5.read_unread x4) (harg6.read_unread x5) (harg7.read_unread x6)
      (hD b h) (iR := rowsAt_inb b h k) (iB := lanesAt_inb b k) (iS := iS) (iT := iT) (iD := cotAt_inb b h) (sb := sb) (sg := sg)
      (rowsAt_eq b h k) (lanesAt_eq b k) (stateAt_eq b h k) (inverseAt_eq b h k) (cotAt_eq b h) eb eg
    rw [e] at this
    exact this
  match b, h with
  | 0, 0 => exact key 0 0 _ _ (k0_off11_inb k) (k0_off19_inb k) rfl rfl
  | 0, 1 => exact key 0 1 _ _ (k0_off12_inb k) (k0_off20_inb k) rfl rfl
  | 0, 2 => exact key 0 2 _ _ (k0_off13_inb k) (k0_off21_inb k) rfl rfl
  | 0, 3 => exact key 0 3 _ _ (k0_off14_inb k) (k0_off22_inb k) rfl rfl
  | 1, 0 => exact key 1 0 _ _ (k0_off15_inb k) (k0_off23_inb k) rfl rfl
  | 1, 1 => exact key 1 1 _ _ (k0_off16_inb k) (k0_off24_inb k) rfl rfl
  | 1, 2 => exact key 1 2 _ _ (k0_off17_inb k) (k0_off25_inb k) rfl rfl
  | 1, 3 => exact key 1 3 _ _ (k0_off18_inb k) (k0_off26_inb k) rfl rfl

/-- What the trips before `n` store, last first. -/
abbrev stores (n : ℕ) := pb_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) arg8.view.junk arg9.view.junk arg10.view.junk arg11.view.junk G n

theorem stored_dq (k : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) k).1 f8 f9 f10 f11 f12 = (let C := chainsAt arg1 harg1 arg2 harg2 arg3 harg3 arg4 harg4 arg5 harg5 arg6 harg6 arg7 harg7 arg12 x0 x1 x2 x3 x4 x5 x6 f12 k
      rowPieces k (fun b h => (C b h).dq) chains) :=
  (trip_dq c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k f8 f9 f10 f11 f12).trans rfl

theorem stored_dk (k : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) k).2.1 f8 f9 f10 f11 f12 = (let C := chainsAt arg1 harg1 arg2 harg2 arg3 harg3 arg4 harg4 arg5 harg5 arg6 harg6 arg7 harg7 arg12 x0 x1 x2 x3 x4 x5 x6 f12 k
      rowPieces k (fun b h => (C b h).dk) chains) :=
  (trip_dk c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k f8 f9 f10 f11 f12).trans rfl

theorem stored_dv (k : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) k).2.2.1 f8 f9 f10 f11 f12 = (let C := chainsAt arg1 harg1 arg2 harg2 arg3 harg3 arg4 harg4 arg5 harg5 arg6 harg6 arg7 harg7 arg12 x0 x1 x2 x3 x4 x5 x6 f12 k
      rowPieces k (fun b h => (C b h).dv) chains) :=
  (trip_dv c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k f8 f9 f10 f11 f12).trans rfl

theorem stored_dbg (k : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) k).2.2.2.1 f8 f9 f10 f11 f12 = (let C := chainsAt arg1 harg1 arg2 harg2 arg3 harg3 arg4 harg4 arg5 harg5 arg6 harg6 arg7 harg7 arg12 x0 x1 x2 x3 x4 x5 x6 f12 k
      lanePieces k (fun b => dbg (C b 0) (C b 1) (C b 2) (C b 3)) [1, 0]) :=
  (trip_dbg c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k f8 f9 f10 f11 f12).trans rfl

theorem stored_state (k : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 ii jj (iota .tc S1x128 32 [1] iota_S1x128_d1_w32) (harg1.unread x0) (harg2.unread x1) (harg3.unread x2) (harg4.unread x3) (harg5.unread x4) (harg6.unread x5) (harg7.unread x6) k).2.2.2.2.1 f8 f9 f10 f11 f12 = (let C := chainsAt arg1 harg1 arg2 harg2 arg3 harg3 arg4 harg4 arg5 harg5 arg6 harg6 arg7 harg7 arg12 x0 x1 x2 x3 x4 x5 x6 f12 k
      cotPieces (fun b h => (C b h).newD) chains) :=
  (trip_state c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k f8 f9 f10 f11 f12).trans rfl

/-- The stores of one more trip. -/
theorem stores_succ (k : Fin k0_t1_loop.trips) {S S' : List (View.Piece (Elt Ideal) S2x192x512 .f32) × List (View.Piece (Elt Ideal) S2x192x512 .f32) × List (View.Piece (Elt Ideal) S2x192x512 .f32) × List (View.Piece (Elt Ideal) S2x192x128 .f32) × List (View.Piece (Elt Ideal) S2x4x128x128 .f32)}
    (hS : S = stores c i arg1 harg1 arg2 harg2 arg3 harg3 arg4 harg4 arg5 harg5 arg6 harg6 arg7 harg7 arg8 harg8 arg9 harg9 arg10 harg10 arg11 harg11 arg12 harg12 x0 x1 x2 x3 x4 x5 x6 G k.val) (hS' : S' = stores c i arg1 harg1 arg2 harg2 arg3 harg3 arg4 harg4 arg5 harg5 arg6 harg6 arg7 harg7 arg8 harg8 arg9 harg9 arg10 harg10 arg11 harg11 arg12 harg12 x0 x1 x2 x3 x4 x5 x6 G (k.val + 1))
    {C : Fin 2 → Fin 4 → Chain Ideal} (hC : C = chainsAt arg1 harg1 arg2 harg2 arg3 harg3 arg4 harg4 arg5 harg5 arg6 harg6 arg7 harg7 arg12 x0 x1 x2 x3 x4 x5 x6 (arg12.view.writes (Elt Ideal) G S.2.2.2.2) k) :
    S' = (rowPieces k (fun b h => (C b h).dq) chains ++ S.1, rowPieces k (fun b h => (C b h).dk) chains ++ S.2.1,
      rowPieces k (fun b h => (C b h).dv) chains ++ S.2.2.1, lanePieces k (fun b => dbg (C b 0) (C b 1) (C b 2) (C b 3)) [1, 0] ++ S.2.2.2.1,
      cotPieces (fun b h => (C b h).newD) chains ++ S.2.2.2.2) := by
  subst hC
  subst hS
  rw [hS', stores, pb_k0_t1_succ]
  exact congrArg₂ Prod.mk (congrArg (· ++ _) (stored_dq c i arg1 harg1 arg2 harg2 arg3 harg3 arg4 harg4 arg5 harg5 arg6 harg6 arg7 harg7 arg8 harg8 arg9 harg9 arg10 harg10 arg11 harg11 arg12 harg12 x0 x1 x2 x3 x4 x5 x6 k _ _ _ _ _)) (congrArg₂ Prod.mk (congrArg (· ++ _) (stored_dk c i arg1 harg1 arg2 harg2 arg3 harg3 arg4 harg4 arg5 harg5 arg6 harg6 arg7 harg7 arg8 harg8 arg9 harg9 arg10 harg10 arg11 harg11 arg12 harg12 x0 x1 x2 x3 x4 x5 x6 k _ _ _ _ _)) (congrArg₂ Prod.mk (congrArg (· ++ _) (stored_dv c i arg1 harg1 arg2 harg2 arg3 harg3 arg4 harg4 arg5 harg5 arg6 harg6 arg7 harg7 arg8 harg8 arg9 harg9 arg10 harg10 arg11 harg11 arg12 harg12 x0 x1 x2 x3 x4 x5 x6 k _ _ _ _ _))
    (congrArg₂ Prod.mk (congrArg (· ++ _) (stored_dbg c i arg1 harg1 arg2 harg2 arg3 harg3 arg4 harg4 arg5 harg5 arg6 harg6 arg7 harg7 arg8 harg8 arg9 harg9 arg10 harg10 arg11 harg11 arg12 harg12 x0 x1 x2 x3 x4 x5 x6 k _ _ _ _ _)) (congrArg (· ++ _) (stored_state c i arg1 harg1 arg2 harg2 arg3 harg3 arg4 harg4 arg5 harg5 arg6 harg6 arg7 harg7 arg8 harg8 arg9 harg9 arg10 harg10 arg11 harg11 arg12 harg12 x0 x1 x2 x3 x4 x5 x6 k _ _ _ _ _)))))

/-- What the arrays read after some trips: the handled chunks' gradients and the cotangent of the state in front of them. -/
structure After (X : Data) (p n : ℕ) (S : List (View.Piece (Elt Ideal) S2x192x512 .f32) × List (View.Piece (Elt Ideal) S2x192x512 .f32) × List (View.Piece (Elt Ideal) S2x192x512 .f32) × List (View.Piece (Elt Ideal) S2x192x128 .f32) × List (View.Piece (Elt Ideal) S2x4x128x128 .f32)) : Prop where
  cot : ∀ b h d e, arg12.view.read (Elt Ideal) (arg12.view.writes (Elt Ideal) G S.2.2.2.2) (ix4 b h d e) = ((X.cot (3 * p + n) b h d e : ℝ) : EReal)
  cots : ∀ {sig : RefSig} {κ : Kind} {sp : Space} (v : View sig κ sp S2x4x128x128 .f32) f R b h d e, 1 ≤ n → v.read (Elt Ideal) (v.writes (Elt Ideal) f (S.2.2.2.2 ++ R)) (ix4 b h d e) = ((X.cot (3 * p + n) b h d e : ℝ) : EReal)
  dq : ∀ {sig : RefSig} {κ : Kind} {sp : Space} (v : View sig κ sp S2x192x512 .f32) f b h (s : Fin 3) r d, 3 ≤ s.val + n → v.read (Elt Ideal) (v.writes (Elt Ideal) f S.1) (ix3 b (rowOf s r) (colOf h d)) = (((X.at b h (3 * p + (2 - s.val))).dq r d : ℝ) : EReal)
  dk : ∀ {sig : RefSig} {κ : Kind} {sp : Space} (v : View sig κ sp S2x192x512 .f32) f b h (s : Fin 3) r d, 3 ≤ s.val + n → v.read (Elt Ideal) (v.writes (Elt Ideal) f S.2.1) (ix3 b (rowOf s r) (colOf h d)) = (((X.at b h (3 * p + (2 - s.val))).dk r d : ℝ) : EReal)
  dv : ∀ {sig : RefSig} {κ : Kind} {sp : Space} (v : View sig κ sp S2x192x512 .f32) f b h (s : Fin 3) r d, 3 ≤ s.val + n → v.read (Elt Ideal) (v.writes (Elt Ideal) f S.2.2.1) (ix3 b (rowOf s r) (colOf h d)) = (((X.at b h (3 * p + (2 - s.val))).dv r d : ℝ) : EReal)
  dbg : ∀ {sig : RefSig} {κ : Kind} {sp : Space} (v : View sig κ sp S2x192x128 .f32) f b (s : Fin 3) r l, 3 ≤ s.val + n → v.read (Elt Ideal) (v.writes (Elt Ideal) f S.2.2.2.1) (ix3 b (rowOf s r) l) = ((X.lanes b (3 * p + (2 - s.val)) r l : ℝ) : EReal)

/-- One more trip handles one more chunk. -/
theorem after_succ {X : Data} {p : ℕ} (hp : p ≤ 10) (hX : Blocks X (10 - p) x0 x1 x2 x3 x4 x5 x6) (k : Fin k0_t1_loop.trips)
    (h : After arg12 G X p k.val (stores c i arg1 harg1 arg2 harg2 arg3 harg3 arg4 harg4 arg5 harg5 arg6 harg6 arg7 harg7 arg8 harg8 arg9 harg9 arg10 harg10 arg11 harg11 arg12 harg12 x0 x1 x2 x3 x4 x5 x6 G  k.val)) : After arg12 G X p (k.val + 1) (stores c i arg1 harg1 arg2 harg2 arg3 harg3 arg4 harg4 arg5 harg5 arg6 harg6 arg7 harg7 arg8 harg8 arg9 harg9 arg10 harg10 arg11 harg11 arg12 harg12 x0 x1 x2 x3 x4 x5 x6 G  (k.val + 1)) := by
  have hk : k.val ≤ 2 := Nat.le_of_lt_succ (lt_of_lt_of_eq k.isLt trips_eq)
  generalize hS : stores c i arg1 harg1 arg2 harg2 arg3 harg3 arg4 harg4 arg5 harg5 arg6 harg6 arg7 harg7 arg8 harg8 arg9 harg9 arg10 harg10 arg11 harg11 arg12 harg12 x0 x1 x2 x3 x4 x5 x6 G k.val = S at h
  generalize hS' : stores c i arg1 harg1 arg2 harg2 arg3 harg3 arg4 harg4 arg5 harg5 arg6 harg6 arg7 harg7 arg8 harg8 arg9 harg9 arg10 harg10 arg11 harg11 arg12 harg12 x0 x1 x2 x3 x4 x5 x6 G (k.val + 1) = S'
  generalize hC : chainsAt arg1 harg1 arg2 harg2 arg3 harg3 arg4 harg4 arg5 harg5 arg6 harg6 arg7 harg7 arg12 x0 x1 x2 x3 x4 x5 x6 (arg12.view.writes (Elt Ideal) G S.2.2.2.2) k = C
  have hL : ∀ b h, Loads (C b h) (X.at b h (3 * p + k.val)) := fun b h' => by
    rw [← hC]
    exact chainsAt_loads arg1 harg1 arg2 harg2 arg3 harg3 arg4 harg4 arg5 harg5 arg6 harg6 arg7 harg7 arg12 x0 x1 x2 x3 x4 x5 x6 hp hX _ k h.cot b h'
  rw [stores_succ c i arg1 harg1 arg2 harg2 arg3 harg3 arg4 harg4 arg5 harg5 arg6 harg6 arg7 harg7 arg8 harg8 arg9 harg9 arg10 harg10 arg11 harg11 arg12 harg12 x0 x1 x2 x3 x4 x5 x6 G k hS.symm hS'.symm hC.symm]
  have sub_eq : ∀ s : Fin 3, s = sub k → 2 - s.val = k.val := fun s e => by
    have : s.val = 2 - k.val := congrArg Fin.val e
    omega
  have lt : ∀ s : Fin 3, ¬ s = sub k → 3 ≤ s.val + (k.val + 1) → 3 ≤ s.val + k.val := fun s e l => by
    have : s.val ≠ 2 - k.val := fun e' => e (Fin.ext e')
    omega
  constructor
  · intro b h' d e
    exact (cotPieces_hit arg12.view _ _ _ b h' d e chains (mem_chains b h')).trans ((hL b h').newD d e)
  · intro _ _ _ v f R b h' d e _
    rw [List.append_assoc]
    exact (cotPieces_hit v f _ _ b h' d e chains (mem_chains b h')).trans ((hL b h').newD d e)
  · intro _ _ _ v f b h' s r d hs
    by_cases e : s = sub k
    · rw [sub_eq s e, e]
      exact (rowPieces_hit v f k _ _ b h' r d chains (mem_chains b h')).trans ((hL b h').dq r d)
    · exact (rowPieces_miss v f k _ _ b s r _ e chains).trans (h.dq v f b h' s r d (lt s e hs))
  · intro _ _ _ v f b h' s r d hs
    by_cases e : s = sub k
    · rw [sub_eq s e, e]
      exact (rowPieces_hit v f k _ _ b h' r d chains (mem_chains b h')).trans ((hL b h').dk r d)
    · exact (rowPieces_miss v f k _ _ b s r _ e chains).trans (h.dk v f b h' s r d (lt s e hs))
  · intro _ _ _ v f b h' s r d hs
    by_cases e : s = sub k
    · rw [sub_eq s e, e]
      exact (rowPieces_hit v f k _ _ b h' r d chains (mem_chains b h')).trans ((hL b h').dv r d)
    · exact (rowPieces_miss v f k _ _ b s r _ e chains).trans (h.dv v f b h' s r d (lt s e hs))
  · intro _ _ _ v f b s r l hs
    by_cases e : s = sub k
    · rw [sub_eq s e, e]
      exact (lanePieces_hit v f k _ _ b r l [1, 0] (by revert b; decide)).trans (dbg_at (C b) (hL b) r l)
    · exact (lanePieces_miss v f k _ _ b s r l e [1, 0]).trans (h.dbg v f b s r l (lt s e hs))

/-- After the point's trips its three chunks are handled. -/
theorem after_point {X : Data} {p : ℕ} (hp : p ≤ 10) (hX : Blocks X (10 - p) x0 x1 x2 x3 x4 x5 x6)
    (hG : ∀ b h d e, arg12.view.read (Elt Ideal) G (ix4 b h d e) = ((X.cot (3 * p) b h d e : ℝ) : EReal)) :
    After arg12 G X p 3 (pbAll (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 G) := by
  have h0 : After arg12 G X p 0 (stores c i arg1 harg1 arg2 harg2 arg3 harg3 arg4 harg4 arg5 harg5 arg6 harg6 arg7 harg7 arg8 harg8 arg9 harg9 arg10 harg10 arg11 harg11 arg12 harg12 x0 x1 x2 x3 x4 x5 x6 G  0) :=
    ⟨hG, fun _ _ _ _ _ _ _ h => absurd h (by omega), fun _ _ _ _ s _ _ h => absurd h (by omega), fun _ _ _ _ s _ _ h => absurd h (by omega), fun _ _ _ _ s _ _ h => absurd h (by omega), fun _ _ _ s _ _ h => absurd h (by omega)⟩
  have h1 := after_succ c i arg1 harg1 arg2 harg2 arg3 harg3 arg4 harg4 arg5 harg5 arg6 harg6 arg7 harg7 arg8 harg8 arg9 harg9 arg10 harg10 arg11 harg11 arg12 harg12 x0 x1 x2 x3 x4 x5 x6 G hp hX ⟨0, by rw [trips_eq]; omega⟩ h0
  have h2 := after_succ c i arg1 harg1 arg2 harg2 arg3 harg3 arg4 harg4 arg5 harg5 arg6 harg6 arg7 harg7 arg8 harg8 arg9 harg9 arg10 harg10 arg11 harg11 arg12 harg12 x0 x1 x2 x3 x4 x5 x6 G hp hX ⟨1, by rw [trips_eq]; omega⟩ h1
  have h3 := after_succ c i arg1 harg1 arg2 harg2 arg3 harg3 arg4 harg4 arg5 harg5 arg6 harg6 arg7 harg7 arg8 harg8 arg9 harg9 arg10 harg10 arg11 harg11 arg12 harg12 x0 x1 x2 x3 x4 x5 x6 G hp hX ⟨2, by rw [trips_eq]; omega⟩ h2
  have e : Scf.trips k0_t1_loop.lb k0_t1_loop.ub k0_t1_loop.st = 3 := trips_eq
  unfold pbAll
  rw [e]
  exact h3

end Point

end Cert.KernelIdeal.Gdn

end
-- ==== Proof.GdnFold.lean ====
module

public import proofs.«01_k».proof.Proof.GdnPoint
public import proofs.«01_k».proof.Proof.GdnOut

@[expose] public section

set_option maxRecDepth 16384

noncomputable section

namespace Cert.KernelIdeal.Gdn

open Idealize.ShloMosaic Idealize.ShloMosaic.TcCoe Idealize.ShloMosaic.Pointwise
open Cert.KernelIdeal Cert.KernelIdeal.Gen Cert.GdnMath Facts

/-! The eleven grid points, last rows first. -/

/-- What a point leaves: its three chunks' gradients and the cotangent of the state in front of them. -/
structure PointOut (X : Data) (p : ℕ) (o : Vec Ideal S2x192x512 .f32 × Vec Ideal S2x192x512 .f32 × Vec Ideal S2x192x512 .f32 × Vec Ideal S2x192x128 .f32 × Vec Ideal S2x4x128x128 .f32) : Prop where
  dq : ∀ b h (s : Fin 3) r d, o.1 (ix3 b (rowOf s r) (colOf h d)) = (((X.at b h (3 * p + (2 - s.val))).dq r d : ℝ) : EReal)
  dk : ∀ b h (s : Fin 3) r d, o.2.1 (ix3 b (rowOf s r) (colOf h d)) = (((X.at b h (3 * p + (2 - s.val))).dk r d : ℝ) : EReal)
  dv : ∀ b h (s : Fin 3) r d, o.2.2.1 (ix3 b (rowOf s r) (colOf h d)) = (((X.at b h (3 * p + (2 - s.val))).dv r d : ℝ) : EReal)
  dbg : ∀ b (s : Fin 3) r l, o.2.2.2.1 (ix3 b (rowOf s r) l) = ((X.lanes b (3 * p + (2 - s.val)) r l : ℝ) : EReal)
  cot : ∀ b h d e, o.2.2.2.2 (ix4 b h d e) = ((X.cot (3 * p + 3) b h d e : ℝ) : EReal)

theorem pay_zero (b : Fin 2) (h : Fin 4) (d e : Fin 128) : k0_pay1 (F := Ideal) (ix4 b h d e) = 0 := by
  pointwise [k0_pay1]

theorem reset_read {sig : RefSig} {κ : Kind} {sp : Space} (v : View sig κ sp S2x4x128x128 .f32) (f : v.ty.Contents (Elt Ideal)) (X : Data) (b : Fin 2) (h : Fin 4) (d e : Fin 128) :
    v.read (Elt Ideal) (v.writes (Elt Ideal) f (resetPc (F := Ideal))) (ix4 b h d e) = ((X.cot 0 b h d e : ℝ) : EReal) := by
  refine (View.read_writes_cons_unit_of_mem v f inb_S2x4x128x128_S2x4x128x128_0_0_0_0 _ _ _ (ix4 b h d e) rfl fun a => ?_).trans ((pay_zero b h d e).trans rfl)
  match a with
  | 0 => simp
  | 1 => simp
  | 2 => simp
  | 3 => simp

variable (m : (devLoc : Loc nD τ sig) → devLoc.ty.Contents (Elt Ideal)) (c : Dev nD)

theorem pointOut_first {X : Data} (t : Fin cfg0.N) (h0 : t.val % 11 = 0) (hp : t.val = 0)
    (hX : Blocks X (10 - t.val) (iblk m c 0 t) (iblk m c 1 t) (iblk m c 2 t) (iblk m c 3 t) (iblk m c 4 t) (iblk m c 5 t) (iblk m c 6 t)) : PointOut X t.val (outsAt0 m c t.val t.isLt) := by
  have A := after_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t)
    (scM0_0.view.writes (Elt Ideal) scM0_0.view.junk (resetPc (F := Ideal))) (X := X) (p := t.val) (by omega) hX
    (fun b h d e => by rw [hp]; exact reset_read _ _ X b h d e)
  rw [outsAt0_A m c t h0]
  exact ⟨fun b h s r d => A.dq VO0_7 VO0_7.junk b h s r d (by omega), fun b h s r d => A.dk VO0_8 VO0_8.junk b h s r d (by omega), fun b h s r d => A.dv VO0_9 VO0_9.junk b h s r d (by omega),
    fun b s r l => A.dbg VO0_10 VO0_10.junk b s r l (by omega), fun b h d e => A.cots VS0_0 VS0_0.junk (resetPc (F := Ideal)) b h d e (by omega)⟩

theorem pointOut_next {X : Data} (t : Fin cfg0.N) (h0 : ¬ t.val % 11 = 0) (hp : t.val ≤ 10)
    (hX : Blocks X (10 - t.val) (iblk m c 0 t) (iblk m c 1 t) (iblk m c 2 t) (iblk m c 3 t) (iblk m c 4 t) (iblk m c 5 t) (iblk m c 6 t))
    (ih : PointOut X (t.val - 1) (outsAt0 m c (t.val - 1) (Nat.lt_of_le_of_lt (Nat.sub_le _ _) t.isLt))) : PointOut X t.val (outsAt0 m c t.val t.isLt) := by
  have A := after_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t)
    ((Memref.isWhole_whole cc0_scratch0 : scM0_0.IsWhole).unread (outsAt0 m c (t.val - 1) (Nat.lt_of_le_of_lt (Nat.sub_le _ _) t.isLt)).2.2.2.2) (X := X) (p := t.val) hp hX
    (fun b h d e => by
      rw [Memref.IsWhole.read_unread, ih.cot b h d e]
      have : 3 * (t.val - 1) + 3 = 3 * t.val := by omega
      rw [this])
  rw [outsAt0_B m c t h0]
  refine ⟨fun b h s r d => A.dq VO0_7 VO0_7.junk b h s r d (by omega), fun b h s r d => A.dk VO0_8 VO0_8.junk b h s r d (by omega), fun b h s r d => A.dv VO0_9 VO0_9.junk b h s r d (by omega),
    fun b s r l => A.dbg VO0_10 VO0_10.junk b s r l (by omega), fun b h d e => ?_⟩
  have := A.cots VS0_0 VS0_0.junk [] b h d e (by omega)
  rw [List.append_nil] at this
  exact this

/-- Every point leaves its chunks' gradients. -/
theorem pointOut {X : Data} (hX : ∀ t : Fin cfg0.N, Blocks X (10 - t.val) (iblk m c 0 t) (iblk m c 1 t) (iblk m c 2 t) (iblk m c 3 t) (iblk m c 4 t) (iblk m c 5 t) (iblk m c 6 t)) :
    ∀ (n : ℕ) (hn : n < cfg0.N), PointOut X n (outsAt0 m c n hn)
  | 0, hn => pointOut_first m c ⟨0, hn⟩ rfl rfl (hX ⟨0, hn⟩)
  | n + 1, hn => by
    have hN : n + 1 < 11 := lt_of_lt_of_eq hn (show cfg0.N = 11 from N_0)
    exact pointOut_next m c ⟨n + 1, hn⟩ (by show ¬ (n + 1) % 11 = 0; omega) (by show n + 1 ≤ 10; omega) (hX ⟨n + 1, hn⟩) (pointOut hX n (Nat.lt_of_succ_lt hn))

end Cert.KernelIdeal.Gdn

end
-- ==== Proof.GdnArr.lean ====
module

public import proofs.«01_k».proof.Proof.GdnFold
public import Idealize.ShloMosaic.Lib.Pipeline.ValueKit

@[expose] public section

set_option maxRecDepth 16384

noncomputable section

namespace Cert.KernelIdeal.Gdn

open Idealize.ShloMosaic Idealize.ShloMosaic.TcCoe Idealize.ShloMosaic.Pointwise
open Cert.KernelIdeal Cert.KernelIdeal.Gen Cert.GdnMath Facts

/-! The kernel's blocks as parts of its arguments, and its results from its blocks. -/

variable (m : (devLoc : Loc nD τ sig) → devLoc.ty.Contents (Elt Ideal)) (c : Dev nD)

theorem index0 : ∀ t : Fin cfg0.N, win0_0.index t = ![0, 10 - t.val, 0] := by decide +kernel
theorem index1 : ∀ t : Fin cfg0.N, win0_1.index t = ![0, 10 - t.val, 0] := by decide +kernel
theorem index2 : ∀ t : Fin cfg0.N, win0_2.index t = ![0, 10 - t.val, 0] := by decide +kernel
theorem index3 : ∀ t : Fin cfg0.N, win0_3.index t = ![0, 10 - t.val, 0] := by decide +kernel
theorem index4 : ∀ t : Fin cfg0.N, win0_4.index t = ![0, 10 - t.val, 0] := by decide +kernel
theorem index7 : ∀ t : Fin cfg0.N, win0_7.index t = ![0, 10 - t.val, 0] := by decide +kernel
theorem index8 : ∀ t : Fin cfg0.N, win0_8.index t = ![0, 10 - t.val, 0] := by decide +kernel
theorem index9 : ∀ t : Fin cfg0.N, win0_9.index t = ![0, 10 - t.val, 0] := by decide +kernel
theorem index10 : ∀ t : Fin cfg0.N, win0_10.index t = ![0, 10 - t.val, 0] := by decide +kernel
theorem index5 : ∀ t : Fin cfg0.N, win0_5.index t = ![0, 0, 10 - t.val, 0, 0] := by decide +kernel
theorem index6 : ∀ t : Fin cfg0.N, win0_6.index t = ![0, 0, 10 - t.val, 0, 0] := by decide +kernel

theorem entry0 (b : Fin 2) (r : Fin 2112) (l : Fin 512) (h : 2112 * b.val + r.val < 4224) :
    V m c main_v0 (ix3 b r l) = m ((c : Thread nD τ).loc main_arg0) (ix2 ⟨2112 * b.val + r.val, h⟩ l) := by
  entry_read
  pointwise
  refine congrArg _ (congrArg (fun i => ix2 i l) (Fin.ext ?_))
  show b.val * 2112 + r.val = 2112 * b.val + r.val
  omega

theorem block0 (t : Fin cfg0.N) (b : Fin 2) (r : Fin 192) (l : Fin 512) (h : 192 * (10 - t.val) + r.val < 2112) :
    iblk m c 0 t (ix3 b r l) = V m c main_v0 (ix3 b ⟨192 * (10 - t.val) + r.val, h⟩ l) := by
  blk_ext [iblk, index0 t]

theorem entry1 (b : Fin 2) (r : Fin 2112) (l : Fin 512) (h : 2112 * b.val + r.val < 4224) :
    V m c main_v1 (ix3 b r l) = m ((c : Thread nD τ).loc main_arg1) (ix2 ⟨2112 * b.val + r.val, h⟩ l) := by
  entry_read
  pointwise
  refine congrArg _ (congrArg (fun i => ix2 i l) (Fin.ext ?_))
  show b.val * 2112 + r.val = 2112 * b.val + r.val
  omega

theorem block1 (t : Fin cfg0.N) (b : Fin 2) (r : Fin 192) (l : Fin 512) (h : 192 * (10 - t.val) + r.val < 2112) :
    iblk m c 1 t (ix3 b r l) = V m c main_v1 (ix3 b ⟨192 * (10 - t.val) + r.val, h⟩ l) := by
  blk_ext [iblk, index1 t]

theorem entry2 (b : Fin 2) (r : Fin 2112) (l : Fin 512) (h : 2112 * b.val + r.val < 4224) :
    V m c main_v2 (ix3 b r l) = m ((c : Thread nD τ).loc main_arg2) (ix2 ⟨2112 * b.val + r.val, h⟩ l) := by
  entry_read
  pointwise
  refine congrArg _ (congrArg (fun i => ix2 i l) (Fin.ext ?_))
  show b.val * 2112 + r.val = 2112 * b.val + r.val
  omega

theorem block2 (t : Fin cfg0.N) (b : Fin 2) (r : Fin 192) (l : Fin 512) (h : 192 * (10 - t.val) + r.val < 2112) :
    iblk m c 2 t (ix3 b r l) = V m c main_v2 (ix3 b ⟨192 * (10 - t.val) + r.val, h⟩ l) := by
  blk_ext [iblk, index2 t]

theorem entry3 (b : Fin 2) (r : Fin 2112) (l : Fin 512) (h : 2112 * b.val + r.val < 4224) :
    V m c main_v3 (ix3 b r l) = m ((c : Thread nD τ).loc main_arg3) (ix2 ⟨2112 * b.val + r.val, h⟩ l) := by
  entry_read
  pointwise
  refine congrArg _ (congrArg (fun i => ix2 i l) (Fin.ext ?_))
  show b.val * 2112 + r.val = 2112 * b.val + r.val
  omega

theorem block3 (t : Fin cfg0.N) (b : Fin 2) (r : Fin 192) (l : Fin 512) (h : 192 * (10 - t.val) + r.val < 2112) :
    iblk m c 3 t (ix3 b r l) = V m c main_v3 (ix3 b ⟨192 * (10 - t.val) + r.val, h⟩ l) := by
  blk_ext [iblk, index3 t]

theorem entry4 (b : Fin 2) (r : Fin 2112) (l : Fin 128) (h : 2112 * b.val + r.val < 4224) :
    V m c main_v4 (ix3 b r l) = m ((c : Thread nD τ).loc main_arg4) (ix2 ⟨2112 * b.val + r.val, h⟩ l) := by
  entry_read
  pointwise
  refine congrArg _ (congrArg (fun i => ix2 i l) (Fin.ext ?_))
  show b.val * 2112 + r.val = 2112 * b.val + r.val
  omega

theorem block4 (t : Fin cfg0.N) (b : Fin 2) (r : Fin 192) (l : Fin 128) (h : 192 * (10 - t.val) + r.val < 2112) :
    iblk m c 4 t (ix3 b r l) = V m c main_v4 (ix3 b ⟨192 * (10 - t.val) + r.val, h⟩ l) := by
  blk_ext [iblk, index4 t]

theorem block5 (t : Fin cfg0.N) (b : Fin 2) (h : Fin 4) (s : Fin 3) (d e : Fin 128) (hn : 3 * (10 - t.val) + s.val < 33) :
    iblk m c 5 t (ix5 b h s d e) = m ((c : Thread nD τ).loc main_arg5) (ix5 b h ⟨3 * (10 - t.val) + s.val, hn⟩ d e) := by
  blk_ext [iblk, V, index5 t]

theorem block6 (t : Fin cfg0.N) (b : Fin 2) (h : Fin 4) (s : Fin 3) (d e : Fin 64) (hn : 3 * (10 - t.val) + s.val < 33) :
    iblk m c 6 t (ix5 b h s d e) = m ((c : Thread nD τ).loc main_arg6) (ix5 b h ⟨3 * (10 - t.val) + s.val, hn⟩ d e) := by
  blk_ext [iblk, V, index6 t]

/-- The arguments hold the arrays `X`. -/
structure Holds (X : Data) : Prop where
  o : ∀ r l, m ((c : Thread nD τ).loc main_arg0) (ix2 r l) = ((X.o r.val l.val : ℝ) : EReal)
  q : ∀ r l, m ((c : Thread nD τ).loc main_arg1) (ix2 r l) = ((X.q r.val l.val : ℝ) : EReal)
  k : ∀ r l, m ((c : Thread nD τ).loc main_arg2) (ix2 r l) = ((X.k r.val l.val : ℝ) : EReal)
  v : ∀ r l, m ((c : Thread nD τ).loc main_arg3) (ix2 r l) = ((X.v r.val l.val : ℝ) : EReal)
  bg : ∀ r l, m ((c : Thread nD τ).loc main_arg4) (ix2 r l) = ((X.bg r.val l.val : ℝ) : EReal)
  S : ∀ b h n d e, m ((c : Thread nD τ).loc main_arg5) (ix5 b h n d e) = ((X.S b h n.val d e : ℝ) : EReal)
  T : ∀ b h n i j, m ((c : Thread nD τ).loc main_arg6) (ix5 b h n i j) = ((X.T b h n.val i j : ℝ) : EReal)

/-- So a point's blocks hold their rows. -/
theorem blocks_of_holds {X : Data} (hX : Holds m c X) (t : Fin cfg0.N) :
    Blocks X (10 - t.val) (iblk m c 0 t) (iblk m c 1 t) (iblk m c 2 t) (iblk m c 3 t) (iblk m c 4 t) (iblk m c 5 t) (iblk m c 6 t) := by
  have ht : t.val < 11 := lt_of_lt_of_eq t.isLt (show cfg0.N = 11 from N_0)
  have e : ∀ (b : Fin 2) (r : Fin 192), 2112 * b.val + (192 * (10 - t.val) + r.val) = 2112 * b.val + 192 * (10 - t.val) + r.val := fun b r => by omega
  constructor
  · intro b r l
    rw [block0 m c t b r l (by omega), entry0 m c b _ l (by show 2112 * b.val + (192 * (10 - t.val) + r.val) < 4224; omega), hX.o]
    simp only [e]
  · intro b r l
    rw [block1 m c t b r l (by omega), entry1 m c b _ l (by show 2112 * b.val + (192 * (10 - t.val) + r.val) < 4224; omega), hX.q]
    simp only [e]
  · intro b r l
    rw [block2 m c t b r l (by omega), entry2 m c b _ l (by show 2112 * b.val + (192 * (10 - t.val) + r.val) < 4224; omega), hX.k]
    simp only [e]
  · intro b r l
    rw [block3 m c t b r l (by omega), entry3 m c b _ l (by show 2112 * b.val + (192 * (10 - t.val) + r.val) < 4224; omega), hX.v]
    simp only [e]
  · intro b r l
    rw [block4 m c t b r l (by omega), entry4 m c b _ l (by show 2112 * b.val + (192 * (10 - t.val) + r.val) < 4224; omega), hX.bg]
    simp only [e]
  · intro b h s d e
    rw [block5 m c t b h s d e (by omega), hX.S]
  · intro b h s d e
    rw [block6 m c t b h s d e (by omega), hX.T]

theorem arr7 (G : S2x2112x512.Idx → EReal)
    (hG : ∀ (t : Fin cfg0.N) b h (s : Fin 3) r d hn, (outsAt0 m c t.val t.isLt).1 (ix3 b (rowOf s r) (colOf h d)) = G (ix3 b ⟨64 * (3 * (10 - t.val) + s.val) + r.val, hn⟩ (colOf h d))) :
    (dats m 0 c).arrAt 7 cfg0.N = G := by
  refine (dats m 0 c).arrAt_eq_of_covers 7 G (by decide +kernel) fun t hf y => ?_
  have ht : t.val < 11 := lt_of_lt_of_eq t.isLt (show cfg0.N = 11 from N_0)
  have key : ∀ (b : Fin 2) (r : Fin 192) (l : Fin 512), (outsAt0 m c t.val t.isLt).1 (ix3 b r l) = G (ix3 b ⟨192 * (10 - t.val) + r.val, by omega⟩ l) := fun b r l => by
    have h := hG t b ⟨l.val / 128, by omega⟩ ⟨r.val / 64, by omega⟩ ⟨r.val % 64, by omega⟩ ⟨l.val % 128, by omega⟩ (by show 64 * (3 * (10 - t.val) + r.val / 64) + r.val % 64 < 2112; omega)
    have er : rowOf ⟨r.val / 64, by omega⟩ ⟨r.val % 64, by omega⟩ = r := Fin.ext (Nat.div_add_mod r.val 64)
    have el : colOf ⟨l.val / 128, by omega⟩ ⟨l.val % 128, by omega⟩ = l := Fin.ext (Nat.div_add_mod l.val 128)
    rw [er, el] at h
    rw [h]
    refine congrArg G (congrArg (fun i => ix3 b i l) (Fin.ext ?_))
    show 64 * (3 * (10 - t.val) + r.val / 64) + r.val % 64 = 192 * (10 - t.val) + r.val
    omega
  show (dats m 0 c).after 7 t _ = _
  rw [after0_7]
  refine (congrArg _ (eq_ix3 y)).trans ((key (y 0) (y 1) (y 2)).trans (congrArg G (funext fun a => Fin.ext ?_)))
  blk_simp [index7 t]
  match a with
  | 0 => simp
  | 1 => simp; omega
  | 2 => simp

theorem arr8 (G : S2x2112x512.Idx → EReal)
    (hG : ∀ (t : Fin cfg0.N) b h (s : Fin 3) r d hn, (outsAt0 m c t.val t.isLt).2.1 (ix3 b (rowOf s r) (colOf h d)) = G (ix3 b ⟨64 * (3 * (10 - t.val) + s.val) + r.val, hn⟩ (colOf h d))) :
    (dats m 0 c).arrAt 8 cfg0.N = G := by
  refine (dats m 0 c).arrAt_eq_of_covers 8 G (by decide +kernel) fun t hf y => ?_
  have ht : t.val < 11 := lt_of_lt_of_eq t.isLt (show cfg0.N = 11 from N_0)
  have key : ∀ (b : Fin 2) (r : Fin 192) (l : Fin 512), (outsAt0 m c t.val t.isLt).2.1 (ix3 b r l) = G (ix3 b ⟨192 * (10 - t.val) + r.val, by omega⟩ l) := fun b r l => by
    have h := hG t b ⟨l.val / 128, by omega⟩ ⟨r.val / 64, by omega⟩ ⟨r.val % 64, by omega⟩ ⟨l.val % 128, by omega⟩ (by show 64 * (3 * (10 - t.val) + r.val / 64) + r.val % 64 < 2112; omega)
    have er : rowOf ⟨r.val / 64, by omega⟩ ⟨r.val % 64, by omega⟩ = r := Fin.ext (Nat.div_add_mod r.val 64)
    have el : colOf ⟨l.val / 128, by omega⟩ ⟨l.val % 128, by omega⟩ = l := Fin.ext (Nat.div_add_mod l.val 128)
    rw [er, el] at h
    rw [h]
    refine congrArg G (congrArg (fun i => ix3 b i l) (Fin.ext ?_))
    show 64 * (3 * (10 - t.val) + r.val / 64) + r.val % 64 = 192 * (10 - t.val) + r.val
    omega
  show (dats m 0 c).after 8 t _ = _
  rw [after0_8]
  refine (congrArg _ (eq_ix3 y)).trans ((key (y 0) (y 1) (y 2)).trans (congrArg G (funext fun a => Fin.ext ?_)))
  blk_simp [index8 t]
  match a with
  | 0 => simp
  | 1 => simp; omega
  | 2 => simp

theorem arr9 (G : S2x2112x512.Idx → EReal)
    (hG : ∀ (t : Fin cfg0.N) b h (s : Fin 3) r d hn, (outsAt0 m c t.val t.isLt).2.2.1 (ix3 b (rowOf s r) (colOf h d)) = G (ix3 b ⟨64 * (3 * (10 - t.val) + s.val) + r.val, hn⟩ (colOf h d))) :
    (dats m 0 c).arrAt 9 cfg0.N = G := by
  refine (dats m 0 c).arrAt_eq_of_covers 9 G (by decide +kernel) fun t hf y => ?_
  have ht : t.val < 11 := lt_of_lt_of_eq t.isLt (show cfg0.N = 11 from N_0)
  have key : ∀ (b : Fin 2) (r : Fin 192) (l : Fin 512), (outsAt0 m c t.val t.isLt).2.2.1 (ix3 b r l) = G (ix3 b ⟨192 * (10 - t.val) + r.val, by omega⟩ l) := fun b r l => by
    have h := hG t b ⟨l.val / 128, by omega⟩ ⟨r.val / 64, by omega⟩ ⟨r.val % 64, by omega⟩ ⟨l.val % 128, by omega⟩ (by show 64 * (3 * (10 - t.val) + r.val / 64) + r.val % 64 < 2112; omega)
    have er : rowOf ⟨r.val / 64, by omega⟩ ⟨r.val % 64, by omega⟩ = r := Fin.ext (Nat.div_add_mod r.val 64)
    have el : colOf ⟨l.val / 128, by omega⟩ ⟨l.val % 128, by omega⟩ = l := Fin.ext (Nat.div_add_mod l.val 128)
    rw [er, el] at h
    rw [h]
    refine congrArg G (congrArg (fun i => ix3 b i l) (Fin.ext ?_))
    show 64 * (3 * (10 - t.val) + r.val / 64) + r.val % 64 = 192 * (10 - t.val) + r.val
    omega
  show (dats m 0 c).after 9 t _ = _
  rw [after0_9]
  refine (congrArg _ (eq_ix3 y)).trans ((key (y 0) (y 1) (y 2)).trans (congrArg G (funext fun a => Fin.ext ?_)))
  blk_simp [index9 t]
  match a with
  | 0 => simp
  | 1 => simp; omega
  | 2 => simp

theorem arr10 (G : S2x2112x128.Idx → EReal)
    (hG : ∀ (t : Fin cfg0.N) b (s : Fin 3) r l hn, (outsAt0 m c t.val t.isLt).2.2.2.1 (ix3 b (rowOf s r) l) = G (ix3 b ⟨64 * (3 * (10 - t.val) + s.val) + r.val, hn⟩ l)) :
    (dats m 0 c).arrAt 10 cfg0.N = G := by
  refine (dats m 0 c).arrAt_eq_of_covers 10 G (by decide +kernel) fun t hf y => ?_
  have ht : t.val < 11 := lt_of_lt_of_eq t.isLt (show cfg0.N = 11 from N_0)
  have key : ∀ (b : Fin 2) (r : Fin 192) (l : Fin 128), (outsAt0 m c t.val t.isLt).2.2.2.1 (ix3 b r l) = G (ix3 b ⟨192 * (10 - t.val) + r.val, by omega⟩ l) := fun b r l => by
    have h := hG t b ⟨r.val / 64, by omega⟩ ⟨r.val % 64, by omega⟩ l (by show 64 * (3 * (10 - t.val) + r.val / 64) + r.val % 64 < 2112; omega)
    have er : rowOf ⟨r.val / 64, by omega⟩ ⟨r.val % 64, by omega⟩ = r := Fin.ext (Nat.div_add_mod r.val 64)
    rw [er] at h
    rw [h]
    refine congrArg G (congrArg (fun i => ix3 b i l) (Fin.ext ?_))
    show 64 * (3 * (10 - t.val) + r.val / 64) + r.val % 64 = 192 * (10 - t.val) + r.val
    omega
  show (dats m 0 c).after 10 t _ = _
  rw [after0_10]
  refine (congrArg _ (eq_ix3 y)).trans ((key (y 0) (y 1) (y 2)).trans (congrArg G (funext fun a => Fin.ext ?_)))
  blk_simp [index10 t]
  match a with
  | 0 => simp
  | 1 => simp; omega
  | 2 => simp

/-- An array of rows from a chunk's field: row `64 n + i` of batch `b` and column `128 h + d` from the chunk handled after
    `32 - n` others. -/
def rowsArr (X : Data) (f : Chunk → Fin 64 → Fin 128 → ℝ) : S2x2112x512.Idx → EReal := fun i =>
  ((f (X.at (i 0) ⟨(i 2).val / 128, Nat.div_lt_of_lt_mul (i 2).isLt⟩ (32 - (i 1).val / 64)) ⟨(i 1).val % 64, Nat.mod_lt _ (by decide)⟩ ⟨(i 2).val % 128, Nat.mod_lt _ (by decide)⟩ : ℝ) : EReal)

/-- The gradients of beta and g by lanes, likewise. -/
def lanesArr (X : Data) : S2x2112x128.Idx → EReal := fun i =>
  ((X.lanes (i 0) (32 - (i 1).val / 64) ⟨(i 1).val % 64, Nat.mod_lt _ (by decide)⟩ (i 2) : ℝ) : EReal)

theorem rowsArr_at (X : Data) (f : Chunk → Fin 64 → Fin 128 → ℝ) (b : Fin 2) (n : ℕ) (r : Fin 64) (hn : 64 * n + r.val < 2112) (h : Fin 4) (d : Fin 128) :
    rowsArr X f (ix3 b ⟨64 * n + r.val, hn⟩ (colOf h d)) = ((f (X.at b h (32 - n)) r d : ℝ) : EReal) := by
  have e1 : (64 * n + r.val) / 64 = n := by omega
  have e2 : (⟨(64 * n + r.val) % 64, Nat.mod_lt _ (by decide)⟩ : Fin 64) = r := Fin.ext (by show (64 * n + r.val) % 64 = r.val; omega)
  have e3 : (⟨(128 * h.val + d.val) / 128, by omega⟩ : Fin 4) = h := Fin.ext (by show (128 * h.val + d.val) / 128 = h.val; omega)
  have e4 : (⟨(128 * h.val + d.val) % 128, Nat.mod_lt _ (by decide)⟩ : Fin 128) = d := Fin.ext (by show (128 * h.val + d.val) % 128 = d.val; omega)
  show ((f (X.at b ⟨(128 * h.val + d.val) / 128, _⟩ (32 - (64 * n + r.val) / 64)) ⟨(64 * n + r.val) % 64, _⟩ ⟨(128 * h.val + d.val) % 128, _⟩ : ℝ) : EReal) = _
  rw [e1, e2, e3, e4]

theorem lanesArr_at (X : Data) (b : Fin 2) (n : ℕ) (r : Fin 64) (hn : 64 * n + r.val < 2112) (l : Fin 128) :
    lanesArr X (ix3 b ⟨64 * n + r.val, hn⟩ l) = ((X.lanes b (32 - n) r l : ℝ) : EReal) := by
  have e1 : (64 * n + r.val) / 64 = n := by omega
  have e2 : (⟨(64 * n + r.val) % 64, Nat.mod_lt _ (by decide)⟩ : Fin 64) = r := Fin.ext (by show (64 * n + r.val) % 64 = r.val; omega)
  show ((X.lanes b (32 - (64 * n + r.val) / 64) ⟨(64 * n + r.val) % 64, _⟩ l : ℝ) : EReal) = _
  rw [e1, e2]

/-- The kernel's results hold the gradients of every chunk. -/
theorem results_of_holds {X : Data} (hX : Holds m c X) :
    (dats m 0 c).arrAt 7 cfg0.N = rowsArr X Chunk.dq ∧ (dats m 0 c).arrAt 8 cfg0.N = rowsArr X Chunk.dk
      ∧ (dats m 0 c).arrAt 9 cfg0.N = rowsArr X Chunk.dv ∧ (dats m 0 c).arrAt 10 cfg0.N = lanesArr X := by
  have P := pointOut m c (fun t => blocks_of_holds m c hX t)
  have e : ∀ (t : Fin cfg0.N) (s : Fin 3), 3 * t.val + (2 - s.val) = 32 - (3 * (10 - t.val) + s.val) := fun t s => by
    have ht : t.val < 11 := lt_of_lt_of_eq t.isLt (show cfg0.N = 11 from N_0)
    omega
  refine ⟨arr7 m c _ fun t b h s r d hn => ?_, arr8 m c _ fun t b h s r d hn => ?_, arr9 m c _ fun t b h s r d hn => ?_, arr10 m c _ fun t b s r l hn => ?_⟩
  · rw [rowsArr_at, (P t.val t.isLt).dq b h s r d, e]
  · rw [rowsArr_at, (P t.val t.isLt).dk b h s r d, e]
  · rw [rowsArr_at, (P t.val t.isLt).dv b h s r d, e]
  · rw [lanesArr_at, (P t.val t.isLt).dbg b s r l, e]

end Cert.KernelIdeal.Gdn

end
-- ==== Proof.GdnRefOut.lean ====
module

public import proofs.«01_k».proof.Proof.GdnRefLoop
public import proofs.«01_k».proof.Proof.GdnArr

@[expose] public section

set_option maxRecDepth 16384

noncomputable section

namespace Cert.ReferenceIdeal.Gdn

open Idealize.ShloMosaic Idealize.ShloMosaic.TcCoe Idealize.ShloMosaic.Pointwise Idealize.ShloMosaic.Tactic
open Idealize.ShloMosaic.StableHlo
open Cert.ReferenceIdeal Cert.ReferenceIdeal.Gen Cert.ReferenceIdeal.Value Cert.GdnMath
open Cert.KernelIdeal.Gdn (rowsArr lanesArr rowsArr_at lanesArr_at colOf)

/-! The reference's arguments cut into chunks, and its results put together from the chunks. -/

section Reads

/-- Rows and columns of an argument, by chunk, batch, head, row and lane. -/
theorem lanes_in (y : S4224x512.Idx → EReal) (n : Fin 33) (b : Fin 2) (d : Fin 4) (i : Fin 64) (e : Fin 128) :
    transpose S33x2x4x64x128 [1, 0, 3, 2, 4] (shapeCast S2x33x64x4x128 y shapeCasts_S4224x512_S2x33x64x4x128) transposes_S2x33x64x4x128_S33x2x4x64x128_1_0_3_2_4 (ix5 n b d i e)
      = y (ix2 ⟨2112 * b.val + 64 * n.val + i.val, by omega⟩ ⟨128 * d.val + e.val, by omega⟩) := by
  pointwise []
  exact congrArg y (congrArg₂ ix2 (Fin.ext (show b.val * 2112 + n.val * 64 + i.val = 2112 * b.val + 64 * n.val + i.val by omega))
    (Fin.ext (show d.val * 128 + e.val = 128 * d.val + e.val by omega)))

theorem beta_in (y : S4224x128.Idx → EReal) (n : Fin 33) (b : Fin 2) (d : Fin 4) (i : Fin 64) :
    shapeCast S33x2x4x64 (transpose S33x2x4x64x1 [1, 0, 3, 2, 4] (shapeCast S2x33x64x4x1 (extractStridedSlice S4224x4 ![0, 0] y slices_S4224x128_S4224x4_0_0) shapeCasts_S4224x4_S2x33x64x4x1) transposes_S2x33x64x4x1_S33x2x4x64x1_1_0_3_2_4) shapeCasts_S33x2x4x64x1_S33x2x4x64 (ix4 n b d i)
      = y (ix2 ⟨2112 * b.val + 64 * n.val + i.val, by omega⟩ ⟨d.val, by omega⟩) := by
  pointwise []
  exact congrArg y (congrArg₂ ix2 (Fin.ext (show b.val * 2112 + n.val * 64 + i.val = 2112 * b.val + 64 * n.val + i.val by omega)) rfl)

theorem gate_in (y : S4224x128.Idx → EReal) (n : Fin 33) (b : Fin 2) (d : Fin 4) (i : Fin 64) :
    shapeCast S33x2x4x64 (transpose S33x2x4x64x1 [1, 0, 3, 2, 4] (shapeCast S2x33x64x4x1 (extractStridedSlice S4224x4 ![0, 4] y slices_S4224x128_S4224x4_0_4) shapeCasts_S4224x4_S2x33x64x4x1) transposes_S2x33x64x4x1_S33x2x4x64x1_1_0_3_2_4) shapeCasts_S33x2x4x64x1_S33x2x4x64 (ix4 n b d i)
      = y (ix2 ⟨2112 * b.val + 64 * n.val + i.val, by omega⟩ ⟨4 + d.val, by omega⟩) := by
  pointwise []
  exact congrArg y (congrArg₂ ix2 (Fin.ext (show b.val * 2112 + n.val * 64 + i.val = 2112 * b.val + 64 * n.val + i.val by omega)) (Fin.ext (by first | rfl | exact Nat.add_comm _ _)))

theorem states_in (y : S2x4x33x128x128.Idx → EReal) (n : Fin 33) (b : Fin 2) (d : Fin 4) (i e : Fin 128) :
    transpose S33x2x4x128x128 [2, 0, 1, 3, 4] y transposes_S2x4x33x128x128_S33x2x4x128x128_2_0_1_3_4 (ix5 n b d i e) = y (ix5 b d n i e) := by
  pointwise []

theorem pairs_in (y : S2x4x33x64x64.Idx → EReal) (n : Fin 33) (b : Fin 2) (d : Fin 4) (i e : Fin 64) :
    transpose S33x2x4x64x64 [2, 0, 1, 3, 4] y transposes_S2x4x33x64x64_S33x2x4x64x64_2_0_1_3_4 (ix5 n b d i e) = y (ix5 b d n i e) := by
  pointwise []

theorem lanes_out (y : S33x2x4x64x128.Idx → EReal) (n : Fin 33) (b : Fin 2) (d : Fin 4) (i : Fin 64) (e : Fin 128) :
    shapeCast S2x2112x512 (transpose S2x33x64x4x128 [1, 0, 3, 2, 4] y transposes_S33x2x4x64x128_S2x33x64x4x128_1_0_3_2_4) shapeCasts_S2x33x64x4x128_S2x2112x512
      (ix3 b ⟨64 * n.val + i.val, by omega⟩ (colOf d e)) = y (ix5 n b d i e) := by
  unfold colOf
  pointwise []

theorem rows_out (y : S33x2x4x64.Idx → EReal) (n : Fin 33) (b : Fin 2) (d : Fin 4) (i : Fin 64) :
    shapeCast S2x2112x4 (transpose S2x33x64x4x1 [1, 0, 3, 2, 4] (broadcastInDim S33x2x4x64x1 ![0, 1, 2, 3] bcast_S33x2x4x64_S33x2x4x64x1_0_1_2_3 y) transposes_S33x2x4x64x1_S2x33x64x4x1_1_0_3_2_4) shapeCasts_S2x33x64x4x1_S2x2112x4
      (ix3 b ⟨64 * n.val + i.val, by omega⟩ d) = y (ix4 n b d i) := by
  pointwise []

/-- Two arrays of four lanes side by side. -/
theorem beside (y z : S2x2112x4.Idx → EReal) (b : Fin 2) (r : Fin 2112) (l : Fin 8) :
    concatenate S2x2112x8 2 [⟨S2x2112x4, y⟩, ⟨S2x2112x4, z⟩] concatenates_S2x2112x4_S2x2112x4_S2x2112x8_d2 (ix3 b r l)
      = if h : l.val < 4 then y (ix3 b r ⟨l.val, h⟩) else z (ix3 b r ⟨l.val - 4, by omega⟩) := by
  pointwise []

/-- Eight lanes filled up with a number. -/
theorem filled (x : S2x2112x8.Idx → EReal) (z : S_.Idx → EReal) (b : Fin 2) (r : Fin 2112) (l : Fin 128) :
    pad S2x2112x128 ![0, 0, 0] ![0, 0, 120] ![0, 0, 0] x z pads_S2x2112x8_S2x2112x128_000_000_01200 h_S_ (ix3 b r l)
      = if h : l.val < 8 then x (ix3 b r ⟨l.val, h⟩) else z (Shape.Idx.first h_S_) := by
  unfold pad
  by_cases hl : l.val < 8
  · rw [dif_pos hl, dif_pos]
    · refine congrArg x ?_
      funext a
      match a with
      | 0 => exact Fin.ext (show (b.val - 0) / 1 = b.val by omega)
      | 1 => exact Fin.ext (show (r.val - 0) / 1 = r.val by omega)
      | 2 => exact Fin.ext (show (l.val - 0) / 1 = l.val by omega)
    · intro a
      match a with
      | 0 => exact show 0 ≤ b.val ∧ (b.val - 0) % 1 = 0 ∧ (b.val - 0) / 1 < 2 by omega
      | 1 => exact show 0 ≤ r.val ∧ (r.val - 0) % 1 = 0 ∧ (r.val - 0) / 1 < 2112 by omega
      | 2 => exact show 0 ≤ l.val ∧ (l.val - 0) % 1 = 0 ∧ (l.val - 0) / 1 < 8 by omega
  · rw [dif_neg hl, dif_neg]
    intro hin
    have e : 0 ≤ l.val ∧ (l.val - 0) % 1 = 0 ∧ (l.val - 0) / 1 < 8 := hin 2
    exact hl (by omega)

end Reads

section Entry

variable (m : (ℓ : Loc nD τ sig) → Buf (Elt Ideal) ℓ) (c : Dev nD)

theorem entry_0 : entryContents preI m c (Proc.devRef .tc main_v24_0)
    = transpose S33x2x4x64x128 [1, 0, 3, 2, 4] (shapeCast S2x33x64x4x128 (m ((c.tc : Thread nD τ).loc main_arg0)) shapeCasts_S4224x512_S2x33x64x4x128) transposes_S2x33x64x4x128_S33x2x4x64x128_1_0_3_2_4 := by
  simp only [entryContents, afterL_cons, afterL_nil]
  after_reads_simp
  rfl

theorem entry_1 : entryContents preI m c (Proc.devRef .tc main_v24_1)
    = transpose S33x2x4x64x128 [1, 0, 3, 2, 4] (shapeCast S2x33x64x4x128 (m ((c.tc : Thread nD τ).loc main_arg1)) shapeCasts_S4224x512_S2x33x64x4x128) transposes_S2x33x64x4x128_S33x2x4x64x128_1_0_3_2_4 := by
  simp only [entryContents, afterL_cons, afterL_nil]
  after_reads_simp
  rfl

theorem entry_2 : entryContents preI m c (Proc.devRef .tc main_v24_2)
    = transpose S33x2x4x64x128 [1, 0, 3, 2, 4] (shapeCast S2x33x64x4x128 (m ((c.tc : Thread nD τ).loc main_arg2)) shapeCasts_S4224x512_S2x33x64x4x128) transposes_S2x33x64x4x128_S33x2x4x64x128_1_0_3_2_4 := by
  simp only [entryContents, afterL_cons, afterL_nil]
  after_reads_simp
  rfl

theorem entry_3 : entryContents preI m c (Proc.devRef .tc main_v24_3)
    = transpose S33x2x4x64x128 [1, 0, 3, 2, 4] (shapeCast S2x33x64x4x128 (m ((c.tc : Thread nD τ).loc main_arg3)) shapeCasts_S4224x512_S2x33x64x4x128) transposes_S2x33x64x4x128_S33x2x4x64x128_1_0_3_2_4 := by
  simp only [entryContents, afterL_cons, afterL_nil]
  after_reads_simp
  rfl

theorem entry_4 : entryContents preI m c (Proc.devRef .tc main_v24_4)
    = shapeCast S33x2x4x64 (transpose S33x2x4x64x1 [1, 0, 3, 2, 4] (shapeCast S2x33x64x4x1 (extractStridedSlice S4224x4 ![0, 4] (m ((c.tc : Thread nD τ).loc main_arg4)) slices_S4224x128_S4224x4_0_4) shapeCasts_S4224x4_S2x33x64x4x1) transposes_S2x33x64x4x1_S33x2x4x64x1_1_0_3_2_4) shapeCasts_S33x2x4x64x1_S33x2x4x64 := by
  simp only [entryContents, afterL_cons, afterL_nil]
  after_reads_simp
  rfl

theorem entry_5 : entryContents preI m c (Proc.devRef .tc main_v24_5)
    = shapeCast S33x2x4x64 (transpose S33x2x4x64x1 [1, 0, 3, 2, 4] (shapeCast S2x33x64x4x1 (extractStridedSlice S4224x4 ![0, 0] (m ((c.tc : Thread nD τ).loc main_arg4)) slices_S4224x128_S4224x4_0_0) shapeCasts_S4224x4_S2x33x64x4x1) transposes_S2x33x64x4x1_S33x2x4x64x1_1_0_3_2_4) shapeCasts_S33x2x4x64x1_S33x2x4x64 := by
  simp only [entryContents, afterL_cons, afterL_nil]
  after_reads_simp
  rfl

theorem entry_6 : entryContents preI m c (Proc.devRef .tc main_v24_6)
    = transpose S33x2x4x128x128 [2, 0, 1, 3, 4] (m ((c.tc : Thread nD τ).loc main_arg5)) transposes_S2x4x33x128x128_S33x2x4x128x128_2_0_1_3_4 := by
  simp only [entryContents, afterL_cons, afterL_nil]
  after_reads_simp
  rfl

theorem entry_7 : entryContents preI m c (Proc.devRef .tc main_v24_7)
    = transpose S33x2x4x64x64 [2, 0, 1, 3, 4] (m ((c.tc : Thread nD τ).loc main_arg6)) transposes_S2x4x33x64x64_S33x2x4x64x64_2_0_1_3_4 := by
  simp only [entryContents, afterL_cons, afterL_nil]
  after_reads_simp
  rfl

theorem entry_9 : entryContents preI m c (Proc.devRef .tc main_v24_9)
    = (broadcastInDim S2x4x128x128 ![] bcast_S_S2x4x128x128 (constant (F := Ideal) S_ .f32 0x00000000#32) : S2x4x128x128.Idx → EReal) := by
  simp only [entryContents, afterL_cons, afterL_nil]
  after_reads_simp
  rfl

/-- On device `c` the arguments hold the real numbers of `X`. -/
structure Holds (X : Data) : Prop where
  o : ∀ r l, (m ((c.tc : Thread nD τ).loc main_arg0) : S4224x512.Idx → EReal) (ix2 r l) = ((X.o r.val l.val : ℝ) : EReal)
  q : ∀ r l, (m ((c.tc : Thread nD τ).loc main_arg1) : S4224x512.Idx → EReal) (ix2 r l) = ((X.q r.val l.val : ℝ) : EReal)
  k : ∀ r l, (m ((c.tc : Thread nD τ).loc main_arg2) : S4224x512.Idx → EReal) (ix2 r l) = ((X.k r.val l.val : ℝ) : EReal)
  v : ∀ r l, (m ((c.tc : Thread nD τ).loc main_arg3) : S4224x512.Idx → EReal) (ix2 r l) = ((X.v r.val l.val : ℝ) : EReal)
  bg : ∀ r l, (m ((c.tc : Thread nD τ).loc main_arg4) : S4224x128.Idx → EReal) (ix2 r l) = ((X.bg r.val l.val : ℝ) : EReal)
  S : ∀ b h n d e, (m ((c.tc : Thread nD τ).loc main_arg5) : S2x4x33x128x128.Idx → EReal) (ix5 b h n d e) = ((X.S b h n.val d e : ℝ) : EReal)
  T : ∀ b h n i j, (m ((c.tc : Thread nD τ).loc main_arg6) : S2x4x33x64x64.Idx → EReal) (ix5 b h n i j) = ((X.T b h n.val i j : ℝ) : EReal)

variable {m c}

theorem Holds.entry {X : Data} (h : Holds m c X) : Inv X (entryContents preI m c) 0 where
  o n b d i e := by rw [entry_0, lanes_in]; exact h.o _ _
  q n b d i e := by rw [entry_1, lanes_in]; exact h.q _ _
  k n b d i e := by rw [entry_2, lanes_in]; exact h.k _ _
  v n b d i e := by rw [entry_3, lanes_in]; exact h.v _ _
  g n b d i := by rw [entry_4, gate_in]; exact h.bg _ _
  b n b d i := by rw [entry_5, beta_in]; exact h.bg _ _
  S n b d i e := by rw [entry_6, states_in]; exact h.S _ _ _ _ _
  T n b d i e := by rw [entry_7, pairs_in]; exact h.T _ _ _ _ _
  ctr := ctr_entry m c
  D b d i e := by
    rw [entry_9]
    exact const_zero.trans EReal.coe_zero.symm
  dq n hn := absurd n.isLt (by omega)
  dk n hn := absurd n.isLt (by omega)
  dv n hn := absurd n.isLt (by omega)
  dbeta n hn := absurd n.isLt (by omega)
  dg n hn := absurd n.isLt (by omega)

end Entry

section Results

/-- The integer zero as a float. -/
theorem sitofp_zero : (sitofp (F := Ideal) .f32 (constantI S_ 32 0#32) (Shape.Idx.first h_S_) : EReal) = 0 :=
  (congrArg (fun r : ℝ => (r : EReal)) (show (((0#32).toInt : ℤ) : ℝ) = 0 by norm_num)).trans EReal.coe_zero

theorem eq_rows (y : S2x2112x512.Idx) : ∃ (b : Fin 2) (n : Fin 33) (i : Fin 64) (d : Fin 4) (e : Fin 128),
    y = ix3 b ⟨64 * n.val + i.val, by omega⟩ (colOf d e) := by
  have h1 : (y 1).val < 2112 := (y 1).isLt
  have h2 : (y 2).val < 512 := (y 2).isLt
  refine ⟨y 0, ⟨(y 1).val / 64, by omega⟩, ⟨(y 1).val % 64, by omega⟩, ⟨(y 2).val / 128, by omega⟩, ⟨(y 2).val % 128, by omega⟩, ?_⟩
  funext a
  match a with
  | 0 => rfl
  | 1 => exact Fin.ext (show (y 1).val = 64 * ((y 1).val / 64) + (y 1).val % 64 by omega)
  | 2 => exact Fin.ext (show (y 2).val = 128 * ((y 2).val / 128) + (y 2).val % 128 by omega)

theorem eq_lanes (y : S2x2112x128.Idx) : ∃ (b : Fin 2) (n : Fin 33) (i : Fin 64) (l : Fin 128),
    y = ix3 b ⟨64 * n.val + i.val, by omega⟩ l := by
  have h1 : (y 1).val < 2112 := (y 1).isLt
  refine ⟨y 0, ⟨(y 1).val / 64, by omega⟩, ⟨(y 1).val % 64, by omega⟩, y 2, ?_⟩
  funext a
  match a with
  | 0 => rfl
  | 1 => exact Fin.ext (show (y 1).val = 64 * ((y 1).val / 64) + (y 1).val % 64 by omega)
  | 2 => rfl

theorem rows_eq {X : Data} (f : Chunk → Fin 64 → Fin 128 → ℝ) (x : S33x2x4x64x128.Idx → EReal)
    (hx : ∀ (n : Fin 33) b d i e, x (ix5 n b d i e) = ((f (X.at b d (32 - n.val)) i e : ℝ) : EReal)) :
    shapeCast S2x2112x512 (transpose S2x33x64x4x128 [1, 0, 3, 2, 4] x transposes_S33x2x4x64x128_S2x33x64x4x128_1_0_3_2_4) shapeCasts_S2x33x64x4x128_S2x2112x512
      = rowsArr X f := by
  funext y
  obtain ⟨b, n, i, d, e, rfl⟩ := eq_rows y
  rw [lanes_out, hx]
  exact (rowsArr_at X f b n.val i _ d e).symm

theorem lanes_eq {X : Data} (x z : S33x2x4x64.Idx → EReal) (w : S_.Idx → EReal) (hw : w (Shape.Idx.first h_S_) = 0)
    (hx : ∀ (n : Fin 33) b d i, x (ix4 n b d i) = (((X.at b d (32 - n.val)).dbeta i : ℝ) : EReal))
    (hz : ∀ (n : Fin 33) b d i, z (ix4 n b d i) = (((X.at b d (32 - n.val)).dg i : ℝ) : EReal)) :
    pad S2x2112x128 ![0, 0, 0] ![0, 0, 120] ![0, 0, 0] (concatenate S2x2112x8 2 [⟨S2x2112x4, shapeCast S2x2112x4 (transpose S2x33x64x4x1 [1, 0, 3, 2, 4] (broadcastInDim S33x2x4x64x1 ![0, 1, 2, 3] bcast_S33x2x4x64_S33x2x4x64x1_0_1_2_3 x) transposes_S33x2x4x64x1_S2x33x64x4x1_1_0_3_2_4) shapeCasts_S2x33x64x4x1_S2x2112x4⟩,
      ⟨S2x2112x4, shapeCast S2x2112x4 (transpose S2x33x64x4x1 [1, 0, 3, 2, 4] (broadcastInDim S33x2x4x64x1 ![0, 1, 2, 3] bcast_S33x2x4x64_S33x2x4x64x1_0_1_2_3 z) transposes_S33x2x4x64x1_S2x33x64x4x1_1_0_3_2_4) shapeCasts_S2x33x64x4x1_S2x2112x4⟩] concatenates_S2x2112x4_S2x2112x4_S2x2112x8_d2) w pads_S2x2112x8_S2x2112x128_000_000_01200 h_S_
      = lanesArr X := by
  funext y
  obtain ⟨b, n, i, l, rfl⟩ := eq_lanes y
  rw [filled]
  refine Eq.trans ?_ (lanesArr_at X b n.val i _ l).symm
  unfold Data.lanes
  by_cases h4 : l.val < 4
  · rw [dif_pos (by omega), beside, dif_pos h4, dif_pos h4, rows_out, hx]
  · by_cases h8 : l.val < 8
    · rw [dif_pos h8, beside, dif_neg h4, dif_neg h4, dif_pos h8, rows_out _ n b ⟨l.val - 4, by omega⟩ i, hz]
    · rw [dif_neg h8, dif_neg h4, dif_neg h8, hw]
      rfl

variable {m : (ℓ : Loc nD τ sig) → Buf (Elt Ideal) ℓ} {c : Dev nD}

/-- The reference's results hold the gradients of every chunk. -/
theorem results_of_holds {X : Data} (hX : Holds m c X) :
    out_main_v33 (STEP^[33] (entryContents preI m c)) = rowsArr X Chunk.dq ∧ out_main_v35 (STEP^[33] (entryContents preI m c)) = rowsArr X Chunk.dk
      ∧ out_main_v37 (STEP^[33] (entryContents preI m c)) = rowsArr X Chunk.dv ∧ out_main_v38 (STEP^[33] (entryContents preI m c)) = lanesArr X := by
  have h := hX.entry.iterate 33 le_rfl
  refine ⟨rows_eq _ _ fun n => h.dq n (by omega), rows_eq _ _ fun n => h.dk n (by omega), rows_eq _ _ fun n => h.dv n (by omega), ?_⟩
  exact lanes_eq _ _ _ sitofp_zero (fun n => h.dbeta n (by omega)) fun n => h.dg n (by omega)

end Results

end Cert.ReferenceIdeal.Gdn
-- ==== Proof.FiniteTest.lean ====
module

public import Idealize.ShloMosaic.Lib.Pointwise
public import Idealize.ShloMosaic.Lib.ReduceAll

@[expose] public section

noncomputable section

namespace Cert.FiniteTest

open Idealize.ShloMosaic

/-! What the preconditions' test of an array says of its numbers. -/

/-- A number whose absolute value is below infinity is a real number. -/
theorem coe_toReal_of_abs_lt {x : EReal} (h : max x (-x) < ⊤) : ((x.toReal : ℝ) : EReal) = x := by
  refine EReal.coe_toReal (fun e => ?_) fun e => ?_
  · exact absurd h (by rw [e]; simp)
  · exact absurd h (by rw [e]; simp)

theorem andi_one (a b : BitVec 1) : IntOp.andi a b = 1#1 ↔ a = 1#1 ∧ b = 1#1 := by revert a b; decide

theorem lt_of_cmp {x y : EReal} (h : Ideal.cmp .olt x y = 1#1) : x < y := by
  by_contra hn
  exact absurd h (by simp [Ideal.cmp, hn])

abbrev S0 : Shape := ⟨0, ![]⟩

/-- Where the test that every absolute value is below infinity gives true, every number is real. -/
theorem real_of_test {s : Shape} {axes : List (Fin s.rank)} (x : s.Idx → EReal) (bc : S0.BroadcastsInDim s (![] : Fin 0 → Fin s.rank))
    (init : S0.Idx → BitVec 1) (h : s.ReducesTo axes S0) (hu : 0 < S0.numel) (j : S0.Idx)
    (e : Host.reduce IntOp.andi (cmpf (F := Ideal) (φ := .f32) .olt (Host.absf (F := Ideal) (φ := .f32) x)
      (broadcastInDim s ![] bc (constant (F := Ideal) S0 .f32 0x7F800000#32))) init h hu j = 1#1) (i : s.Idx) :
    (((x i).toReal : ℝ) : EReal) = x i := by
  haveI : Subsingleton S0.Idx := ⟨fun a b => funext fun k => k.elim0⟩
  have hi := Host.reduce_andi_all _ init h hu j e i
  have top : Ideal.ofBits .f32 0x7F800000#32 = ⊤ := by simp [Ideal.ofBits, Ideal.ieee]
  exact coe_toReal_of_abs_lt (lt_of_lt_of_eq (lt_of_cmp hi) top)

end Cert.FiniteTest

end
-- ==== Proof.GdnAlg.lean ====
module

public import proofs.«01_k».proof.Defs
public import proofs.«01_k».proof.Proof.Gen.Pre_finite
public import proofs.«01_k».proof.Proof.GdnRefOut
public import proofs.«01_k».proof.Proof.FiniteTest

@[expose] public section

set_option maxRecDepth 16384

noncomputable section

namespace Cert.GdnAlg

open Idealize.ShloMosaic Idealize.ShloMosaic.TcCoe Idealize.ShloMosaic.Pointwise Idealize.SL.Sem
open Cert.GdnMath Cert.FiniteTest

/-! The precondition says that no argument's number is infinite. So the arguments are real numbers, and on
real numbers the kernel and the reference leave the same gradients. -/

section

variable (m : (ℓ : Loc Cert.KernelIdeal.nD Cert.KernelIdeal.τ Cert.KernelIdeal.sig) → Buf (Elt Ideal) ℓ) (c : Dev Cert.KernelIdeal.nD)

/-- Argument 0 of the kernel on device `c`. -/
abbrev arg0 : Cert.Pre_finite.S4224x512.Idx → EReal := m ((c.tc : Thread Cert.KernelIdeal.nD Cert.KernelIdeal.τ).loc Cert.KernelIdeal.main_arg0)
/-- Argument 1 of the kernel on device `c`. -/
abbrev arg1 : Cert.Pre_finite.S4224x512.Idx → EReal := m ((c.tc : Thread Cert.KernelIdeal.nD Cert.KernelIdeal.τ).loc Cert.KernelIdeal.main_arg1)
/-- Argument 2 of the kernel on device `c`. -/
abbrev arg2 : Cert.Pre_finite.S4224x512.Idx → EReal := m ((c.tc : Thread Cert.KernelIdeal.nD Cert.KernelIdeal.τ).loc Cert.KernelIdeal.main_arg2)
/-- Argument 3 of the kernel on device `c`. -/
abbrev arg3 : Cert.Pre_finite.S4224x512.Idx → EReal := m ((c.tc : Thread Cert.KernelIdeal.nD Cert.KernelIdeal.τ).loc Cert.KernelIdeal.main_arg3)
/-- Argument 4 of the kernel on device `c`. -/
abbrev arg4 : Cert.Pre_finite.S4224x128.Idx → EReal := m ((c.tc : Thread Cert.KernelIdeal.nD Cert.KernelIdeal.τ).loc Cert.KernelIdeal.main_arg4)
/-- Argument 5 of the kernel on device `c`. -/
abbrev arg5 : Cert.Pre_finite.S2x4x33x128x128.Idx → EReal := m ((c.tc : Thread Cert.KernelIdeal.nD Cert.KernelIdeal.τ).loc Cert.KernelIdeal.main_arg5)
/-- Argument 6 of the kernel on device `c`. -/
abbrev arg6 : Cert.Pre_finite.S2x4x33x64x64.Idx → EReal := m ((c.tc : Thread Cert.KernelIdeal.nD Cert.KernelIdeal.τ).loc Cert.KernelIdeal.main_arg6)

/-- The real numbers that the arguments hold. -/
def data : Data where
  o r l := if h : r < 4224 ∧ l < 512 then (arg0 m c (ix2 ⟨r, h.1⟩ ⟨l, h.2⟩)).toReal else 0
  q r l := if h : r < 4224 ∧ l < 512 then (arg1 m c (ix2 ⟨r, h.1⟩ ⟨l, h.2⟩)).toReal else 0
  k r l := if h : r < 4224 ∧ l < 512 then (arg2 m c (ix2 ⟨r, h.1⟩ ⟨l, h.2⟩)).toReal else 0
  v r l := if h : r < 4224 ∧ l < 512 then (arg3 m c (ix2 ⟨r, h.1⟩ ⟨l, h.2⟩)).toReal else 0
  bg r l := if h : r < 4224 ∧ l < 128 then (arg4 m c (ix2 ⟨r, h.1⟩ ⟨l, h.2⟩)).toReal else 0
  S b h n i j := if e : n < 33 then (arg5 m c (ix5 b h ⟨n, e⟩ i j)).toReal else 0
  T b h n i j := if e : n < 33 then (arg6 m c (ix5 b h ⟨n, e⟩ i j)).toReal else 0

/-- Every number of every argument is real. -/
structure Real : Prop where
  a0 : ∀ i, (((arg0 m c i).toReal : ℝ) : EReal) = arg0 m c i
  a1 : ∀ i, (((arg1 m c i).toReal : ℝ) : EReal) = arg1 m c i
  a2 : ∀ i, (((arg2 m c i).toReal : ℝ) : EReal) = arg2 m c i
  a3 : ∀ i, (((arg3 m c i).toReal : ℝ) : EReal) = arg3 m c i
  a4 : ∀ i, (((arg4 m c i).toReal : ℝ) : EReal) = arg4 m c i
  a5 : ∀ i, (((arg5 m c i).toReal : ℝ) : EReal) = arg5 m c i
  a6 : ∀ i, (((arg6 m c i).toReal : ℝ) : EReal) = arg6 m c i

variable {m c}

theorem Real.of_pre (h : Cert.Pre_finite.fn (F := Ideal) (arg0 m c) (arg1 m c) (arg2 m c) (arg3 m c) (arg4 m c) (arg5 m c) (arg6 m c) = fun _ => 1#1) :
    Real m c := by
  have e := congrFun h ix0
  unfold Cert.Pre_finite.fn Cert.Pre_finite.fn_part1 at e
  simp only [andi, andi_one] at e
  obtain ⟨⟨⟨⟨⟨⟨e0, e1⟩, e2⟩, e3⟩, e4⟩, e5⟩, e6⟩ := e
  exact ⟨real_of_test _ _ _ _ _ _ e0, real_of_test _ _ _ _ _ _ e1, real_of_test _ _ _ _ _ _ e2, real_of_test _ _ _ _ _ _ e3, real_of_test _ _ _ _ _ _ e4, real_of_test _ _ _ _ _ _ e5, real_of_test _ _ _ _ _ _ e6⟩

theorem Real.holds (h : Real m c) : Cert.KernelIdeal.Gdn.Holds m c (data m c) where
  o r l := by
    have e : (data m c).o r.val l.val = (arg0 m c (ix2 r l)).toReal := by
      simp only [data]
      exact dif_pos ⟨r.isLt, l.isLt⟩
    rw [e]
    exact (h.a0 _).symm
  q r l := by
    have e : (data m c).q r.val l.val = (arg1 m c (ix2 r l)).toReal := by
      simp only [data]
      exact dif_pos ⟨r.isLt, l.isLt⟩
    rw [e]
    exact (h.a1 _).symm
  k r l := by
    have e : (data m c).k r.val l.val = (arg2 m c (ix2 r l)).toReal := by
      simp only [data]
      exact dif_pos ⟨r.isLt, l.isLt⟩
    rw [e]
    exact (h.a2 _).symm
  v r l := by
    have e : (data m c).v r.val l.val = (arg3 m c (ix2 r l)).toReal := by
      simp only [data]
      exact dif_pos ⟨r.isLt, l.isLt⟩
    rw [e]
    exact (h.a3 _).symm
  bg r l := by
    have e : (data m c).bg r.val l.val = (arg4 m c (ix2 r l)).toReal := by
      simp only [data]
      exact dif_pos ⟨r.isLt, l.isLt⟩
    rw [e]
    exact (h.a4 _).symm
  S b h' n i j := by
    have e : (data m c).S b h' n.val i j = (arg5 m c (ix5 b h' n i j)).toReal := by
      simp only [data]
      exact dif_pos n.isLt
    rw [e]
    exact (h.a5 _).symm
  T b h' n i j := by
    have e : (data m c).T b h' n.val i j = (arg6 m c (ix5 b h' n i j)).toReal := by
      simp only [data]
      exact dif_pos n.isLt
    rw [e]
    exact (h.a6 _).symm

end

/-- The reference's arguments hold the same numbers, being the same arrays. -/
theorem holds_reference {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} {X : Data}
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h : Cert.KernelIdeal.Gdn.Holds m c X) : Cert.ReferenceIdeal.Gdn.Holds m' c X where
  o r l := (congrFun e0 (ix2 r l)).trans (h.o r l)
  q r l := (congrFun e1 (ix2 r l)).trans (h.q r l)
  k r l := (congrFun e2 (ix2 r l)).trans (h.k r l)
  v r l := (congrFun e3 (ix2 r l)).trans (h.v r l)
  bg r l := (congrFun e4 (ix2 r l)).trans (h.bg r l)
  S b h' n i j := (congrFun e5 (ix5 b h' n i j)).trans (h.S b h' n i j)
  T b h' n i j := (congrFun e6 (ix5 b h' n i j)).trans (h.T b h' n i j)

/-- From memories that agree on the arguments, with finite numbers in them, kernel and reference end with the
same four gradients. -/
theorem algebraic : Cert.algebraic_KernelIdeal_ReferenceIdeal_pre_finite := by
  intro m g m' g' hp he
  have hK : ∀ c, Cert.KernelIdeal.Gdn.Holds m c (data m c) := fun c => (Real.of_pre (hp c)).holds
  have hR : ∀ c, Cert.ReferenceIdeal.Gdn.Holds m' c (data m c) := fun c => by
    obtain ⟨e0, e1, e2, e3, e4, e5, e6⟩ := he c
    exact holds_reference e0 e1 e2 e3 e4 e5 e6 (hK c)
  refine ⟨fun c => Cert.KernelIdeal.Gdn.rowsArr (data m c) Chunk.dq, fun c => Cert.KernelIdeal.Gdn.rowsArr (data m c) Chunk.dk,
    fun c => Cert.KernelIdeal.Gdn.rowsArr (data m c) Chunk.dv, fun c => Cert.KernelIdeal.Gdn.lanesArr (data m c), ?_, ?_⟩
  · refine (θ_run Cert.KernelIdeal.defs _ _).mono (fun r h c => ?_) (Cert.KernelIdeal.Value.run_blocks (F := Ideal) m g)
    obtain ⟨r0, r1, r2, r3, rest⟩ := h c
    obtain ⟨k0, k1, k2, k3⟩ := Cert.KernelIdeal.Gdn.results_of_holds m c (hK c)
    exact ⟨r0.trans k0, r1.trans k1, r2.trans k2, r3.trans k3, rest⟩
  · refine (θ_run Cert.ReferenceIdeal.defs _ _).mono (fun r h c => ?_) (Cert.ReferenceIdeal.Value.run (F := Ideal) m' g')
    obtain ⟨r0, r1, r2, r3, rest⟩ := h c
    obtain ⟨k0, k1, k2, k3⟩ := Cert.ReferenceIdeal.Gdn.results_of_holds (hR c)
    exact ⟨r0.trans k0, r1.trans k1, r2.trans k2, r3.trans k3, rest⟩

end Cert.GdnAlg
-- ==== Proof.FfnRows.lean ====
module

public import Idealize.ShloMosaic.Lib.Pointwise
public import Idealize.ShloMosaic.Lib.Pipeline.ValueKit

@[expose] public section

noncomputable section

namespace Cert.FfnRows

open Idealize.ShloMosaic

/-! What the products' proofs share. -/

/-- Two arrays of two axes are equal when they agree at every pair of coordinates. -/
theorem ext2 {α : Type} {n0 n1 : ℕ} {f g : (⟨2, ![n0, n1]⟩ : Shape).Idx → α}
    (h : ∀ (i : Fin n0) (j : Fin n1), f (ValueIdx.ix2 i j) = g (ValueIdx.ix2 i j)) : f = g := by
  funext y
  rw [ValueIdx.eq_ix2 y]
  exact h (y 0) (y 1)

/-- The sum over the columns of the products of a row of `x` and a row of `w`. -/
def rows {n p q : ℕ} (x : (⟨2, ![n, q]⟩ : Shape).Idx → EReal) (w : (⟨2, ![p, q]⟩ : Shape).Idx → EReal) (i : Fin n) (j : Fin p) : EReal :=
  ∑ k : Fin q, x (ValueIdx.ix2 i k) * w (ValueIdx.ix2 j k)

/-- The sum over the contraction of the products of a row of `x` and a column of `w`. -/
def inner {n p q : ℕ} (x : (⟨2, ![n, q]⟩ : Shape).Idx → EReal) (w : (⟨2, ![q, p]⟩ : Shape).Idx → EReal) (i : Fin n) (j : Fin p) : EReal :=
  ∑ k : Fin q, x (ValueIdx.ix2 i k) * w (ValueIdx.ix2 k j)

/-- The sum over the rows of the products of a column of `x` and a column of `w`. -/
def cols {n p q : ℕ} (x : (⟨2, ![q, n]⟩ : Shape).Idx → EReal) (w : (⟨2, ![q, p]⟩ : Shape).Idx → EReal) (i : Fin n) (j : Fin p) : EReal :=
  ∑ k : Fin q, x (ValueIdx.ix2 k i) * w (ValueIdx.ix2 k j)

/-- That sum is the first rows' and the last rows' added. -/
theorem cols_add {n p q r : ℕ} (x : (⟨2, ![q + r, n]⟩ : Shape).Idx → EReal) (w : (⟨2, ![q + r, p]⟩ : Shape).Idx → EReal) (i : Fin n) (j : Fin p) :
    cols x w i j = (∑ k : Fin q, x (ValueIdx.ix2 (Fin.castAdd r k) i) * w (ValueIdx.ix2 (Fin.castAdd r k) j))
      + ∑ k : Fin r, x (ValueIdx.ix2 (Fin.natAdd q k) i) * w (ValueIdx.ix2 (Fin.natAdd q k) j) :=
  Fin.sum_univ_add fun k => x (ValueIdx.ix2 k i) * w (ValueIdx.ix2 k j)

/-- The products of the columns do not depend on their order. -/
theorem cols_comm {n p q : ℕ} (x : (⟨2, ![q, n]⟩ : Shape).Idx → EReal) (w : (⟨2, ![q, p]⟩ : Shape).Idx → EReal) (i : Fin n) (j : Fin p) :
    cols x w i j = cols w x j i := Finset.sum_congr rfl fun _ _ => mul_comm _ _

/-- An array of two axes from its entries. -/
def table {n p : ℕ} (f : Fin n → Fin p → EReal) : (⟨2, ![n, p]⟩ : Shape).Idx → EReal := fun i => f (i 0) (i 1)

theorem table_rows {n p q : ℕ} (x : (⟨2, ![n, q]⟩ : Shape).Idx → EReal) (w : (⟨2, ![p, q]⟩ : Shape).Idx → EReal) (i : Fin n) (j : Fin p) :
    table (rows x w) (ValueIdx.ix2 i j) = ∑ k : Fin q, x (ValueIdx.ix2 i k) * w (ValueIdx.ix2 j k) := rfl

theorem table_inner {n p q : ℕ} (x : (⟨2, ![n, q]⟩ : Shape).Idx → EReal) (w : (⟨2, ![q, p]⟩ : Shape).Idx → EReal) (i : Fin n) (j : Fin p) :
    table (inner x w) (ValueIdx.ix2 i j) = ∑ k : Fin q, x (ValueIdx.ix2 i k) * w (ValueIdx.ix2 k j) := rfl

theorem table_cols {n p q : ℕ} (x : (⟨2, ![q, n]⟩ : Shape).Idx → EReal) (w : (⟨2, ![q, p]⟩ : Shape).Idx → EReal) (i : Fin n) (j : Fin p) :
    table (cols x w) (ValueIdx.ix2 i j) = ∑ k : Fin q, x (ValueIdx.ix2 k i) * w (ValueIdx.ix2 k j) := rfl

/-- The logistic function. -/
def logistic (x : EReal) : EReal := Ideal.div 1 (1 + Ideal.exp (-x))

theorem logistic_coe (r : ℝ) : logistic (r : EReal) = ((1 / (1 + Real.exp (-r)) : ℝ) : EReal) := by
  have h : (1 + Real.exp (-r) : ℝ) ≠ 0 := by positivity
  rw [logistic, ← EReal.coe_neg, Ideal.exp_coe, ← EReal.coe_one, ← EReal.coe_add, Ideal.div_coe h, ← EReal.coe_mul, one_mul]

/-- The hyperbolic tangent of half of `x`, halved and moved up by a half, is the logistic function of `x`, whatever `x`. -/
theorem half_tanh (x : EReal) : ((1 / 2 : ℝ) : EReal) * Ideal.tanh (((1 / 2 : ℝ) : EReal) * x) + ((1 / 2 : ℝ) : EReal) = logistic x := by
  induction x with
  | bot =>
    rw [EReal.coe_mul_bot_of_pos (by norm_num), Ideal.tanh_bot, logistic, EReal.neg_bot, Ideal.exp_top, EReal.add_top_of_ne_bot (by decide)]
    rw [show (-1 : EReal) = ((-1 : ℝ) : EReal) by rw [EReal.coe_neg, EReal.coe_one], ← EReal.coe_mul, ← EReal.coe_add, Ideal.div, if_neg (by decide)]
    norm_num
  | top =>
    rw [EReal.coe_mul_top_of_pos (by norm_num), Ideal.tanh_top, logistic, EReal.neg_top, Ideal.exp_bot, add_zero]
    rw [← EReal.coe_one, Ideal.div_coe one_ne_zero, ← EReal.coe_mul, ← EReal.coe_add, ← EReal.coe_mul]
    norm_num
  | coe r =>
    rw [logistic_coe, ← EReal.coe_mul, Ideal.tanh_coe, ← EReal.coe_mul, ← EReal.coe_add]
    refine congrArg _ ?_
    have e : Real.exp (-r) = Real.exp (-(1 / 2 * r)) / Real.exp (1 / 2 * r) := by
      rw [← Real.exp_sub]
      congr 1
      ring
    have h1 : Real.exp (1 / 2 * r) ≠ 0 := (Real.exp_pos _).ne'
    have h2 : Real.exp (1 / 2 * r) + Real.exp (-(1 / 2 * r)) ≠ 0 := by positivity
    rw [Real.tanh_eq_sinh_div_cosh, Real.sinh_eq, Real.cosh_eq, e]
    field_simp
    ring

theorem half_word : Ideal.ofBits .f32 0x3F000000#32 = ((1 / 2 : ℝ) : EReal) := by
  simp [Ideal.ofBits, Ideal.ieee, -EReal.coe_mul]
  norm_num

theorem tanh_logistic (x : EReal) :
    Ideal.ofBits .f32 0x3F000000#32 * Ideal.tanh (Ideal.ofBits .f32 0x3F000000#32 * x) + Ideal.ofBits .f32 0x3F000000#32 = logistic x := by
  rw [half_word, half_tanh]

end Cert.FfnRows

end
-- ==== Proof.FfnGates.lean ====
module

public import proofs.«01_k».proof.Defs
public import proofs.«01_k».proof.Proof.Gen.Kernel3Ideal.Value
public import proofs.«01_k».proof.Proof.Gen.Reference3Ideal.Run
public import proofs.«01_k».proof.Proof.Gen.Pre_finite_swiglu
public import proofs.«01_k».proof.Proof.FiniteTest
public import proofs.«01_k».proof.Proof.FfnRows

@[expose] public section

set_option maxRecDepth 16384

noncomputable section

namespace Cert.Kernel3Ideal.Ffn

open Idealize.ShloMosaic Idealize.ShloMosaic.TcCoe Idealize.ShloMosaic.Pointwise
open Cert.Kernel3Ideal Cert.Kernel3Ideal.Gen Cert.FfnRows Facts

/-! The gradients of the gated layer's two inputs: the product of the layer's gradient with the weight, times the derivatives of
    the gate's SiLU times the other input. The kernel takes 1056 rows by 1408 columns at a time. -/

variable (m : (devLoc : Loc nD τ sig) → devLoc.ty.Contents (Elt Ideal)) (c : Dev nD)

theorem index0 : ∀ t : Fin cfg0.N, win0_0.index t = ![t.val % 4, 0] := by decide +kernel
theorem index1 : ∀ t : Fin cfg0.N, win0_1.index t = ![t.val / 4, 0] := by decide +kernel
theorem index2 : ∀ t : Fin cfg0.N, win0_2.index t = ![t.val % 4, t.val / 4] := by decide +kernel
theorem index3 : ∀ t : Fin cfg0.N, win0_3.index t = ![t.val % 4, t.val / 4] := by decide +kernel
theorem index4 : ∀ t : Fin cfg0.N, win0_4.index t = ![t.val % 4, t.val / 4] := by decide +kernel
theorem index5 : ∀ t : Fin cfg0.N, win0_5.index t = ![t.val % 4, t.val / 4] := by decide +kernel

/-- The four arguments as arrays of numbers. -/
abbrev A0 : S4224x1024.Idx → EReal := m ((c : Thread nD τ).loc main_arg0)
abbrev A1 : S2816x1024.Idx → EReal := m ((c : Thread nD τ).loc main_arg1)
abbrev A2 : S4224x2816.Idx → EReal := m ((c : Thread nD τ).loc main_arg2)
abbrev A3 : S4224x2816.Idx → EReal := m ((c : Thread nD τ).loc main_arg3)

theorem block0 (t : Fin cfg0.N) (r : Fin 1056) (k : Fin 1024) (h : 1056 * (t.val % 4) + r.val < 4224) :
    iblk m c 0 t (ix2 r k) = A0 m c (ix2 ⟨1056 * (t.val % 4) + r.val, h⟩ k) := by
  blk_ext [iblk, V, index0 t]

theorem block1 (t : Fin cfg0.N) (j : Fin 1408) (k : Fin 1024) (h : 1408 * (t.val / 4) + j.val < 2816) :
    iblk m c 1 t (ix2 j k) = A1 m c (ix2 ⟨1408 * (t.val / 4) + j.val, h⟩ k) := by
  blk_ext [iblk, V, index1 t]

theorem block2 (t : Fin cfg0.N) (r : Fin 1056) (j : Fin 1408) (h : 1056 * (t.val % 4) + r.val < 4224) (h' : 1408 * (t.val / 4) + j.val < 2816) :
    iblk m c 2 t (ix2 r j) = A2 m c (ix2 ⟨1056 * (t.val % 4) + r.val, h⟩ ⟨1408 * (t.val / 4) + j.val, h'⟩) := by
  blk_ext [iblk, V, index2 t]

theorem block3 (t : Fin cfg0.N) (r : Fin 1056) (j : Fin 1408) (h : 1056 * (t.val % 4) + r.val < 4224) (h' : 1408 * (t.val / 4) + j.val < 2816) :
    iblk m c 3 t (ix2 r j) = A3 m c (ix2 ⟨1056 * (t.val % 4) + r.val, h⟩ ⟨1408 * (t.val / 4) + j.val, h'⟩) := by
  blk_ext [iblk, V, index3 t]

/-- The gradient of the gate from the activation's gradient, the gate and the other input, as the kernel forms it. -/
def dgate (d g u : EReal) : EReal := d * u * (logistic g * (1 + g * (1 - logistic g)))

/-- The gradient of the other input likewise. -/
def dup (d g : EReal) : EReal := d * g * logistic g

theorem gate_at (x0 : Vec Ideal S1056x1024 .bf16) (x1 : Vec Ideal S1408x1024 .bf16) (x2 x3 : Vec Ideal S1056x1408 .bf16) (r : Fin 1056) (j : Fin 1408) :
    out0_4 x0 x1 x2 x3 (ix2 r j) = dgate (rows x0 x1 r j) (x2 (ix2 r j)) (x3 (ix2 r j)) := by
  frame_out
  pointwise [k0_pay4, k0_pay1, k0_pay2, k0_pay3]
  rw [tanh_logistic]
  rfl

theorem up_at (x0 : Vec Ideal S1056x1024 .bf16) (x1 : Vec Ideal S1408x1024 .bf16) (x2 x3 : Vec Ideal S1056x1408 .bf16) (r : Fin 1056) (j : Fin 1408) :
    out0_5 x0 x1 x2 x3 (ix2 r j) = dup (rows x0 x1 r j) (x2 (ix2 r j)) := by
  frame_out
  pointwise [k0_pay5, k0_pay1, k0_pay2, k0_pay3]
  rw [tanh_logistic]
  rfl

theorem rows1 (t : Fin cfg0.N) (r : Fin 1056) (j : Fin 1408) (h : 1056 * (t.val % 4) + r.val < 4224) (h' : 1408 * (t.val / 4) + j.val < 2816) :
    rows (iblk m c 0 t) (iblk m c 1 t) r j = rows (A0 m c) (A1 m c) ⟨1056 * (t.val % 4) + r.val, h⟩ ⟨1408 * (t.val / 4) + j.val, h'⟩ := by
  refine Finset.sum_congr rfl fun k _ => ?_
  exact congrArg₂ (fun a b : EReal => a * b) (block0 m c t r k h) (block1 m c t j k h')

theorem arr4 : (dats m 0 c).arrAt 4 cfg0.N = table fun i j => dgate (rows (A0 m c) (A1 m c) i j) (A2 m c (ix2 i j)) (A3 m c (ix2 i j)) := by
  refine (dats m 0 c).arrAt_eq_of_covers 4 _ (by decide +kernel) fun t hf y => ?_
  have ht : t.val < 8 := lt_of_lt_of_eq t.isLt (show cfg0.N = 8 from N_0)
  show (dats m 0 c).after 4 t _ = _
  rw [after0_4]
  have key : ∀ (r : Fin 1056) (j : Fin 1408), out0_4 (iblk m c 0 t) (iblk m c 1 t) (iblk m c 2 t) (iblk m c 3 t) (ix2 r j)
      = (table fun i j => dgate (rows (A0 m c) (A1 m c) i j) (A2 m c (ix2 i j)) (A3 m c (ix2 i j))) (ix2 ⟨1056 * (t.val % 4) + r.val, by omega⟩ ⟨1408 * (t.val / 4) + j.val, by omega⟩) := fun r j =>
    (gate_at (iblk m c 0 t) (iblk m c 1 t) (iblk m c 2 t) (iblk m c 3 t) r j).trans (by rw [rows1 m c t r j (by omega) (by omega), block2 m c t r j (by omega) (by omega), block3 m c t r j (by omega) (by omega)]; rfl)
  refine (congrArg _ (eq_ix2 y)).trans ((key (y 0) (y 1)).trans (congrArg (table fun i j => dgate (rows (A0 m c) (A1 m c) i j) (A2 m c (ix2 i j)) (A3 m c (ix2 i j))) (funext fun a => Fin.ext ?_)))
  blk_simp [index4 t]
  match a with
  | 0 => simp; omega
  | 1 => simp; omega

theorem arr5 : (dats m 0 c).arrAt 5 cfg0.N = table fun i j => dup (rows (A0 m c) (A1 m c) i j) (A2 m c (ix2 i j)) := by
  refine (dats m 0 c).arrAt_eq_of_covers 5 _ (by decide +kernel) fun t hf y => ?_
  have ht : t.val < 8 := lt_of_lt_of_eq t.isLt (show cfg0.N = 8 from N_0)
  show (dats m 0 c).after 5 t _ = _
  rw [after0_5]
  have key : ∀ (r : Fin 1056) (j : Fin 1408), out0_5 (iblk m c 0 t) (iblk m c 1 t) (iblk m c 2 t) (iblk m c 3 t) (ix2 r j)
      = (table fun i j => dup (rows (A0 m c) (A1 m c) i j) (A2 m c (ix2 i j))) (ix2 ⟨1056 * (t.val % 4) + r.val, by omega⟩ ⟨1408 * (t.val / 4) + j.val, by omega⟩) := fun r j =>
    (up_at (iblk m c 0 t) (iblk m c 1 t) (iblk m c 2 t) (iblk m c 3 t) r j).trans (by rw [rows1 m c t r j (by omega) (by omega), block2 m c t r j (by omega) (by omega)]; rfl)
  refine (congrArg _ (eq_ix2 y)).trans ((key (y 0) (y 1)).trans (congrArg (table fun i j => dup (rows (A0 m c) (A1 m c) i j) (A2 m c (ix2 i j))) (funext fun a => Fin.ext ?_)))
  blk_simp [index5 t]
  match a with
  | 0 => simp; omega
  | 1 => simp; omega

end Cert.Kernel3Ideal.Ffn

namespace Cert.FfnGates

open Idealize.ShloMosaic Idealize.ShloMosaic.TcCoe Idealize.ShloMosaic.Pointwise
open Cert.FfnRows Cert.FiniteTest

section
open Cert.Reference3Ideal Cert.Reference3Ideal.Gen Facts

/-- The gradient of the gate as the reference forms it. -/
def dgate (d g u : EReal) : EReal := d * u * logistic g + g * (d * u) * (logistic g * (1 - logistic g))

theorem gate_eq (x : Vec Ideal S4224x1024 .bf16) (w : Vec Ideal S2816x1024 .bf16) (g u : Vec Ideal S4224x2816 .bf16) :
    truncf (F := Ideal) .bf16 (addf (mulf (mulf (Host.dotGeneral (F := Ideal) dot_S4224x1024_S2816x1024_S4224x2816_1_1_0_0_n_n none (extf (F := Ideal) .f32 x bitsLt_bf16_f32) (extf (F := Ideal) .f32 w bitsLt_bf16_f32)) (extf (F := Ideal) .f32 u bitsLt_bf16_f32)) (Host.divf (broadcastInDim S4224x2816 ![] bcast_S_S4224x2816 (constant (F := Ideal) S_ .f32 0x3F800000#32)) (addf (broadcastInDim S4224x2816 ![] bcast_S_S4224x2816 (constant (F := Ideal) S_ .f32 0x3F800000#32)) (Host.exp (Host.negf (extf (F := Ideal) .f32 g bitsLt_bf16_f32)))))) (mulf (mulf (extf (F := Ideal) .f32 g bitsLt_bf16_f32) (mulf (Host.dotGeneral (F := Ideal) dot_S4224x1024_S2816x1024_S4224x2816_1_1_0_0_n_n none (extf (F := Ideal) .f32 x bitsLt_bf16_f32) (extf (F := Ideal) .f32 w bitsLt_bf16_f32)) (extf (F := Ideal) .f32 u bitsLt_bf16_f32))) (mulf (Host.divf (broadcastInDim S4224x2816 ![] bcast_S_S4224x2816 (constant (F := Ideal) S_ .f32 0x3F800000#32)) (addf (broadcastInDim S4224x2816 ![] bcast_S_S4224x2816 (constant (F := Ideal) S_ .f32 0x3F800000#32)) (Host.exp (Host.negf (extf (F := Ideal) .f32 g bitsLt_bf16_f32))))) (subf (broadcastInDim S4224x2816 ![] bcast_S_S4224x2816 (constant (F := Ideal) S_ .f32 0x3F800000#32)) (Host.divf (broadcastInDim S4224x2816 ![] bcast_S_S4224x2816 (constant (F := Ideal) S_ .f32 0x3F800000#32)) (addf (broadcastInDim S4224x2816 ![] bcast_S_S4224x2816 (constant (F := Ideal) S_ .f32 0x3F800000#32)) (Host.exp (Host.negf (extf (F := Ideal) .f32 g bitsLt_bf16_f32))))))))) bitsLt_bf16_f32
      = table fun i j => dgate (rows x w i j) (g (ix2 i j)) (u (ix2 i j)) := by
  refine ext2 fun i j => Eq.trans ?_ (show dgate (rows x w i j) (g (ix2 i j)) (u (ix2 i j)) = _ from rfl)
  pointwise
  rfl

theorem up_eq (x : Vec Ideal S4224x1024 .bf16) (w : Vec Ideal S2816x1024 .bf16) (g : Vec Ideal S4224x2816 .bf16) :
    truncf (F := Ideal) .bf16 (mulf (mulf (extf (F := Ideal) .f32 g bitsLt_bf16_f32) (Host.divf (broadcastInDim S4224x2816 ![] bcast_S_S4224x2816 (constant (F := Ideal) S_ .f32 0x3F800000#32)) (addf (broadcastInDim S4224x2816 ![] bcast_S_S4224x2816 (constant (F := Ideal) S_ .f32 0x3F800000#32)) (Host.exp (Host.negf (extf (F := Ideal) .f32 g bitsLt_bf16_f32)))))) (Host.dotGeneral (F := Ideal) dot_S4224x1024_S2816x1024_S4224x2816_1_1_0_0_n_n none (extf (F := Ideal) .f32 x bitsLt_bf16_f32) (extf (F := Ideal) .f32 w bitsLt_bf16_f32))) bitsLt_bf16_f32
      = table fun i j => (show EReal from g (ix2 i j)) * logistic (g (ix2 i j)) * rows x w i j := by
  refine ext2 fun i j => Eq.trans ?_ (show (show EReal from g (ix2 i j)) * logistic (g (ix2 i j)) * rows x w i j = _ from rfl)
  pointwise
  rfl

end

/-- On real numbers the two ways of forming the gate's gradient agree. -/
theorem dgate_eq (d g u : ℝ) : dgate (d : EReal) (g : EReal) (u : EReal) = Cert.Kernel3Ideal.Ffn.dgate (d : EReal) (g : EReal) (u : EReal) := by
  rw [dgate, Cert.Kernel3Ideal.Ffn.dgate, logistic_coe]
  generalize (1 / (1 + Real.exp (-g)) : ℝ) = s
  simp only [← EReal.coe_one, ← EReal.coe_mul, ← EReal.coe_sub, ← EReal.coe_add]
  exact congrArg _ (by ring)

/-- On any numbers the two ways of forming the other gradient agree. -/
theorem dup_eq (d g : EReal) : g * logistic g * d = Cert.Kernel3Ideal.Ffn.dup d g := by
  rw [Cert.Kernel3Ideal.Ffn.dup, mul_comm d g, mul_assoc, mul_assoc, mul_comm (logistic g) d]

/-- A sum of products of real numbers is a real number. -/
theorem rows_real {n p q : ℕ} {x : (⟨2, ![n, q]⟩ : Shape).Idx → EReal} {w : (⟨2, ![p, q]⟩ : Shape).Idx → EReal}
    (hx : ∀ i, (((x i).toReal : ℝ) : EReal) = x i) (hw : ∀ i, (((w i).toReal : ℝ) : EReal) = w i) (i : Fin n) (j : Fin p) :
    ∃ d : ℝ, rows x w i j = (d : EReal) := by
  refine ⟨∑ k : Fin q, (x (ix2 i k)).toReal * (w (ix2 j k)).toReal, ?_⟩
  refine Eq.trans ?_ (map_sum (⟨⟨((↑) : ℝ → EReal), EReal.coe_zero⟩, EReal.coe_add⟩ : ℝ →+ EReal) _ _).symm
  refine Finset.sum_congr rfl fun k _ => ?_
  exact (congrArg₂ (fun a b : EReal => a * b) (hx _).symm (hw _).symm).trans (EReal.coe_mul _ _).symm

/-- Where the precondition holds, every number of every argument is real. -/
theorem real_of_pre {x : Cert.Pre_finite_swiglu.S4224x1024.Idx → EReal} {w : Cert.Pre_finite_swiglu.S2816x1024.Idx → EReal} {g u : Cert.Pre_finite_swiglu.S4224x2816.Idx → EReal}
    (h : Cert.Pre_finite_swiglu.fn (F := Ideal) x w g u = fun _ => 1#1) :
    (∀ i, (((x i).toReal : ℝ) : EReal) = x i) ∧ (∀ i, (((w i).toReal : ℝ) : EReal) = w i)
      ∧ (∀ i, (((g i).toReal : ℝ) : EReal) = g i) ∧ (∀ i, (((u i).toReal : ℝ) : EReal) = u i) := by
  have e := congrFun h ix0
  unfold Cert.Pre_finite_swiglu.fn Cert.Pre_finite_swiglu.fn_part1 at e
  simp only [andi, andi_one] at e
  obtain ⟨⟨⟨e0, e1⟩, e2⟩, e3⟩ := e
  exact ⟨real_of_test x _ _ _ _ _ e0, real_of_test w _ _ _ _ _ e1, real_of_test g _ _ _ _ _ e2, real_of_test u _ _ _ _ _ e3⟩

theorem algebraic : Cert.algebraic_Kernel3Ideal_Reference3Ideal_pre_finite_swiglu := by
  intro m g m' g' hp he
  refine ⟨fun c => table fun i j => Cert.Kernel3Ideal.Ffn.dgate (rows (Cert.Kernel3Ideal.Ffn.A0 m c) (Cert.Kernel3Ideal.Ffn.A1 m c) i j) (Cert.Kernel3Ideal.Ffn.A2 m c (ix2 i j)) (Cert.Kernel3Ideal.Ffn.A3 m c (ix2 i j)),
    fun c => table fun i j => Cert.Kernel3Ideal.Ffn.dup (rows (Cert.Kernel3Ideal.Ffn.A0 m c) (Cert.Kernel3Ideal.Ffn.A1 m c) i j) (Cert.Kernel3Ideal.Ffn.A2 m c (ix2 i j)), ?_, ?_⟩
  · refine (θ_run Cert.Kernel3Ideal.defs _ _).mono (fun r h c => ?_) (Cert.Kernel3Ideal.Value.run_blocks (F := Ideal) m g)
    obtain ⟨r0, r1, rest⟩ := h c
    exact ⟨r0.trans (Cert.Kernel3Ideal.Ffn.arr4 m c), r1.trans (Cert.Kernel3Ideal.Ffn.arr5 m c), rest⟩
  · refine (θ_run Cert.Reference3Ideal.defs _ _).mono (fun r h c => ?_) (Cert.Reference3Ideal.Value.run (F := Ideal) m' g')
    obtain ⟨r0, r1, rest⟩ := h c
    obtain ⟨e0, e1, e2, e3⟩ := he c
    obtain ⟨h0, h1, h2, h3⟩ := real_of_pre (x := Cert.Kernel3Ideal.Ffn.A0 m c) (w := Cert.Kernel3Ideal.Ffn.A1 m c) (g := Cert.Kernel3Ideal.Ffn.A2 m c) (u := Cert.Kernel3Ideal.Ffn.A3 m c) (hp c)
    refine ⟨r0.trans ((gate_eq _ _ _ _).trans ?_), r1.trans ((up_eq _ _ _).trans ?_), rest⟩
    · rw [e0, e1, e2, e3]
      refine ext2 fun i j => ?_
      obtain ⟨d, hd⟩ := rows_real h0 h1 i j
      show dgate (rows (Cert.Kernel3Ideal.Ffn.A0 m c) (Cert.Kernel3Ideal.Ffn.A1 m c) i j) (Cert.Kernel3Ideal.Ffn.A2 m c (ix2 i j)) (Cert.Kernel3Ideal.Ffn.A3 m c (ix2 i j))
        = Cert.Kernel3Ideal.Ffn.dgate (rows (Cert.Kernel3Ideal.Ffn.A0 m c) (Cert.Kernel3Ideal.Ffn.A1 m c) i j) (Cert.Kernel3Ideal.Ffn.A2 m c (ix2 i j)) (Cert.Kernel3Ideal.Ffn.A3 m c (ix2 i j))
      rw [hd, ← h2, ← h3]
      exact dgate_eq _ _ _
    · rw [e0, e1, e2]
      exact ext2 fun i j => dup_eq _ _

end Cert.FfnGates

end
-- ==== Proof.FfnWeight.lean ====
module

public import proofs.«01_k».proof.Defs
public import proofs.«01_k».proof.Proof.Gen.Kernel4Ideal.Value
public import proofs.«01_k».proof.Proof.Gen.Reference4Ideal.Run
public import proofs.«01_k».proof.Proof.FfnRows

@[expose] public section

set_option maxRecDepth 16384

noncomputable section

namespace Cert.Kernel4Ideal.Ffn

open Idealize.ShloMosaic Idealize.ShloMosaic.TcCoe Idealize.ShloMosaic.Pointwise
open Cert.Kernel4Ideal Cert.Kernel4Ideal.Gen Facts

/-! The gradient of a weight: the sum over the rows of two arrays of the products of their columns. The kernel takes 2112 rows at
    a time and adds the second half's product to the first's; the reference sums all the rows. -/

variable (m : (devLoc : Loc nD τ sig) → devLoc.ty.Contents (Elt Ideal)) (c : Dev nD)

theorem index0 : ∀ t : Fin cfg0.N, win0_0.index t = ![t.val % 2, t.val / 2] := by decide +kernel
theorem index1 : ∀ t : Fin cfg0.N, win0_1.index t = ![t.val % 2, 0] := by decide +kernel
theorem index2 : ∀ t : Fin cfg0.N, win0_2.index t = ![t.val / 2, 0] := by decide +kernel

theorem block0 (t : Fin cfg0.N) (k : Fin 2112) (r : Fin 1408) (hk : 2112 * (t.val % 2) + k.val < 4224) (h : 1408 * (t.val / 2) + r.val < 2816) :
    iblk m c 0 t (ix2 k r) = m ((c : Thread nD τ).loc main_arg0) (ix2 ⟨2112 * (t.val % 2) + k.val, hk⟩ ⟨1408 * (t.val / 2) + r.val, h⟩) := by
  blk_ext [iblk, V, index0 t]

theorem block1 (t : Fin cfg0.N) (k : Fin 2112) (j : Fin 1024) (hk : 2112 * (t.val % 2) + k.val < 4224) :
    iblk m c 1 t (ix2 k j) = m ((c : Thread nD τ).loc main_arg1) (ix2 ⟨2112 * (t.val % 2) + k.val, hk⟩ j) := by
  blk_ext [iblk, V, index1 t]

/-- The product of two blocks over their rows. -/
theorem part_at (x0 : Vec Ideal S2112x1408 .bf16) (x1 : Vec Ideal S2112x1024 .bf16) (r : Fin 1408) (j : Fin 1024) :
    k0_pay1 x0 x1 (ix2 r j) = ∑ k : Fin 2112, (x0 (ix2 k r) * x1 (ix2 k j) : EReal) := by
  pointwise [k0_pay1]

/-- It is added to what the point before left. -/
theorem step_at (x0 : Vec Ideal S2112x1408 .bf16) (x1 : Vec Ideal S2112x1024 .bf16) (a : Vec Ideal S1408x1024 .f32) (r : Fin 1408) (j : Fin 1024) :
    k0_pay2 x0 x1 a (ix2 r j) = ((show EReal from a (ix2 r j)) + ∑ k : Fin 2112, (x0 (ix2 k r) * x1 (ix2 k j) : EReal) : EReal) := by
  pointwise [k0_pay2, k0_pay1]

/-- The sum over the rows of the products of two arrays' columns. -/
def prod (x : S4224x2816.Idx → EReal) (w : S4224x1024.Idx → EReal) : S2816x1024.Idx → EReal := fun i =>
  ∑ k : Fin 4224, (x (ix2 k (i 0)) * w (ix2 k (i 1)) : EReal)

theorem prod_at (x : S4224x2816.Idx → EReal) (w : S4224x1024.Idx → EReal) (i : Fin 2816) (j : Fin 1024) :
    prod x w (ix2 i j) = ∑ k : Fin 4224, (x (ix2 k i) * w (ix2 k j) : EReal) := rfl

/-- The two arguments as arrays of numbers. -/
abbrev rows : S4224x2816.Idx → EReal := m ((c : Thread nD τ).loc main_arg0)
abbrev grads : S4224x1024.Idx → EReal := m ((c : Thread nD τ).loc main_arg1)

/-- What an even point leaves: the first half's product. -/
theorem first_at (t : Fin cfg0.N) (h0 : t.val % 2 = 0) (r : Fin 1408) (j : Fin 1024) (h : 1408 * (t.val / 2) + r.val < 2816) :
    outsAt0 m c t.val t.isLt (ix2 r j) = ∑ k : Fin 2112, (rows m c (ix2 ⟨k.val, by omega⟩ ⟨1408 * (t.val / 2) + r.val, h⟩)
      * grads m c (ix2 ⟨k.val, by omega⟩ j) : EReal) := by
  rw [outsAt0_A m c t h0 (by omega)]
  frame_out
  rw [part_at]
  refine Finset.sum_congr rfl fun k _ => ?_
  rw [block0 m c t k r (by omega) h, block1 m c t k j (by omega)]
  simp only [h0, Nat.mul_zero, Nat.zero_add]

/-- What an odd point leaves: both halves' products added, so the whole product. -/
theorem second_at (t : Fin cfg0.N) (h1 : t.val % 2 = 1) (r : Fin 1408) (j : Fin 1024) (h : 1408 * (t.val / 2) + r.val < 2816) :
    outsAt0 m c t.val t.isLt (ix2 r j) = prod (m ((c : Thread nD τ).loc main_arg0)) (m ((c : Thread nD τ).loc main_arg1)) (ix2 ⟨1408 * (t.val / 2) + r.val, h⟩ j) := by
  have hf := first_at m c ⟨t.val - 1, by omega⟩ (by show (t.val - 1) % 2 = 0; omega) r j (by show 1408 * ((t.val - 1) / 2) + r.val < 2816; omega)
  simp only [show (t.val - 1) / 2 = t.val / 2 by omega] at hf
  rw [outsAt0_B m c t (by omega) h1]
  frame_out
  rw [step_at, prod_at]
  refine Eq.trans ?_ (Fin.sum_univ_add (a := 2112) (b := 2112) fun k => (rows m c (ix2 k ⟨1408 * (t.val / 2) + r.val, h⟩) * grads m c (ix2 k j) : EReal)).symm
  refine congrArg₂ (fun a b : EReal => a + b) hf (Finset.sum_congr rfl fun k _ => ?_)
  rw [block0 m c t k r (by omega) h, block1 m c t k j (by omega)]
  simp only [h1, Nat.mul_one, Fin.natAdd]

theorem arr2 : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt (show cfg0.N = 4 from N_0)
  have h1 : t.val % 2 = 1 := (flush0_2 t).mp hf
  show (dats m 0 c).after 2 t _ = _
  rw [after0_2]
  have key := fun (r : Fin 1408) (j : Fin 1024) => second_at m c t h1 r j (by omega)
  refine (congrArg _ (eq_ix2 y)).trans ((key (y 0) (y 1)).trans (congrArg _ (funext fun a => Fin.ext ?_)))
  blk_simp [index2 t]
  match a with
  | 0 => simp; omega
  | 1 => simp

end Cert.Kernel4Ideal.Ffn

namespace Cert.FfnWeight

open Idealize.ShloMosaic Idealize.ShloMosaic.TcCoe Idealize.ShloMosaic.Pointwise

section
open Cert.Reference4Ideal Cert.Reference4Ideal.Gen Facts

/-- The reference's result: the same product, its factors the other way round. -/
theorem reference_at (x : Vec Ideal S4224x2816 .bf16) (w : Vec Ideal S4224x1024 .bf16) :
    (transpose S2816x1024 [1, 0] (Host.dotGeneral (F := Ideal) dot_S4224x1024_S4224x2816_S1024x2816_0_0_1_1_n_n none (extf (F := Ideal) .f32 w bitsLt_bf16_f32)
      (extf (F := Ideal) .f32 x bitsLt_bf16_f32)) transposes_S1024x2816_S2816x1024_1_0)
      = Cert.Kernel4Ideal.Ffn.prod x w := by
  refine Cert.FfnRows.ext2 fun i j => Eq.trans ?_ ((Finset.sum_congr rfl fun k _ => mul_comm _ _).trans (Cert.Kernel4Ideal.Ffn.prod_at x w i j).symm)
  pointwise
end

theorem algebraic : Cert.algebraic_Kernel4Ideal_Reference4Ideal := by
  intro m g m' g' _ he
  refine ⟨fun c => Cert.Kernel4Ideal.Ffn.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m g)
    obtain ⟨r0, rest⟩ := h c
    exact ⟨r0.trans (Cert.Kernel4Ideal.Ffn.arr2 m c), rest⟩
  · refine (θ_run Cert.Reference4Ideal.defs _ _).mono (fun r h c => ?_) (Cert.Reference4Ideal.Value.run (F := Ideal) m' g')
    obtain ⟨r0, rest⟩ := h c
    obtain ⟨e0, e1⟩ := he c
    refine ⟨r0.trans ((reference_at _ _).trans ?_), rest⟩
    rw [e0, e1]

end Cert.FfnWeight

end
-- ==== Proof.FfnInput.lean ====
module

public import proofs.«01_k».proof.Defs
public import proofs.«01_k».proof.Proof.Gen.Kernel5Ideal.Value
public import proofs.«01_k».proof.Proof.Gen.Reference5Ideal.Run
public import proofs.«01_k».proof.Proof.FfnRows

@[expose] public section

set_option maxRecDepth 16384

noncomputable section

namespace Cert.Kernel5Ideal.Ffn

open Idealize.ShloMosaic Idealize.ShloMosaic.TcCoe Idealize.ShloMosaic.Pointwise
open Cert.Kernel5Ideal Cert.Kernel5Ideal.Gen Facts

/-! The product of a gradient with a weight stored by the rows of the product's contraction: the kernel multiplies 1056 rows at
    a time, the reference all of them. -/

variable (m : (devLoc : Loc nD τ sig) → devLoc.ty.Contents (Elt Ideal)) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem block0 (t : Fin cfg0.N) (r : Fin 1056) (k : Fin 2816) (h : 1056 * t.val + r.val < 4224) :
    iblk m c 0 t (ix2 r k) = m ((c : Thread nD τ).loc main_arg0) (ix2 ⟨1056 * t.val + r.val, h⟩ k) := by
  blk_ext [iblk, V, index0 t]

theorem block1 (t : Fin cfg0.N) (k : Fin 2816) (j : Fin 1024) :
    iblk m c 1 t (ix2 k j) = m ((c : Thread nD τ).loc main_arg1) (ix2 k j) := by
  blk_ext [iblk, V, index1 t]

/-- What a grid point leaves: the product of its two blocks. -/
theorem out_at (x0 : Vec Ideal S1056x2816 .bf16) (x1 : Vec Ideal S2816x1024 .bf16) (r : Fin 1056) (j : Fin 1024) :
    out0_2 x0 x1 (ix2 r j) = ∑ k : Fin 2816, (x0 (ix2 r k) * x1 (ix2 k j) : EReal) := by
  have e : out0_2 x0 x1 = k0_pay1 x0 x1 := by
    refine (View.canon_cons_unit_lit _ _ _ (by decide)).trans ?_
    rw [show View.ld x0 r0_0 = x0 from View.ld_unit_lit _ _ (by decide), show View.ld x1 r0_1 = x1 from View.ld_unit_lit _ _ (by decide)]
  rw [e]
  pointwise [k0_pay1]

/-- The product of two arrays, the second by the rows of the contraction. -/
def prod (x : S4224x2816.Idx → EReal) (w : S2816x1024.Idx → EReal) : S4224x1024.Idx → EReal := fun i =>
  ∑ k : Fin 2816, (x (ix2 (i 0) k) * w (ix2 k (i 1)) : EReal)

theorem prod_at (x : S4224x2816.Idx → EReal) (w : S2816x1024.Idx → EReal) (i : Fin 4224) (j : Fin 1024) :
    prod x w (ix2 i j) = ∑ k : Fin 2816, (x (ix2 i k) * w (ix2 k j) : EReal) := rfl

theorem arr2 : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt (show cfg0.N = 4 from N_0)
  show (dats m 0 c).after 2 t _ = _
  rw [after0_2]
  have key : ∀ (r : Fin 1056) (j : Fin 1024), out0_2 (iblk m c 0 t) (iblk m c 1 t) (ix2 r j)
      = prod (m ((c : Thread nD τ).loc main_arg0)) (m ((c : Thread nD τ).loc main_arg1)) (ix2 ⟨1056 * t.val + r.val, by omega⟩ j) := fun r j => by
    rw [out_at, prod_at]
    refine Finset.sum_congr rfl fun k _ => ?_
    rw [block0 m c t r k (by omega), block1 m c t k j]
  refine (congrArg _ (eq_ix2 y)).trans ((key (y 0) (y 1)).trans (congrArg _ (funext fun a => Fin.ext ?_)))
  blk_simp [index2 t]
  match a with
  | 0 => simp; omega
  | 1 => simp

end Cert.Kernel5Ideal.Ffn

namespace Cert.FfnInput

open Idealize.ShloMosaic Idealize.ShloMosaic.TcCoe Idealize.ShloMosaic.Pointwise

section
open Cert.Reference5Ideal Cert.Reference5Ideal.Gen Facts

/-- The reference's result at an index. -/
theorem reference_at (x : Vec Ideal S4224x2816 .bf16) (w : Vec Ideal S2816x1024 .bf16) :
    (Host.dotGeneral (F := Ideal) dot_S4224x2816_S1024x2816_S4224x1024_1_1_0_0_n_n none (extf (F := Ideal) .f32 x bitsLt_bf16_f32)
      (transpose S1024x2816 [1, 0] (extf (F := Ideal) .f32 w bitsLt_bf16_f32) transposes_S2816x1024_S1024x2816_1_0))
      = Cert.Kernel5Ideal.Ffn.prod x w := by
  refine Cert.FfnRows.ext2 fun i j => Eq.trans ?_ (Cert.Kernel5Ideal.Ffn.prod_at x w i j).symm
  pointwise
end

theorem algebraic : Cert.algebraic_Kernel5Ideal_Reference5Ideal := by
  intro m g m' g' _ he
  refine ⟨fun c => Cert.Kernel5Ideal.Ffn.prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m g)
    obtain ⟨r0, rest⟩ := h c
    exact ⟨r0.trans (Cert.Kernel5Ideal.Ffn.arr2 m c), rest⟩
  · refine (θ_run Cert.Reference5Ideal.defs _ _).mono (fun r h c => ?_) (Cert.Reference5Ideal.Value.run (F := Ideal) m' g')
    obtain ⟨r0, rest⟩ := h c
    obtain ⟨e0, e1⟩ := he c
    refine ⟨r0.trans ((reference_at _ _).trans ?_), rest⟩
    rw [e0, e1]

end Cert.FfnInput

end
-- ==== Proof.FfnForward.lean ====
module

public import proofs.«01_k».proof.Defs
public import proofs.«01_k».proof.Proof.Gen.Kernel6Ideal.Value
public import proofs.«01_k».proof.Proof.Gen.Reference6Ideal.Run
public import proofs.«01_k».proof.Proof.FfnRows

@[expose] public section

set_option maxRecDepth 16384

noncomputable section

namespace Cert.Kernel6Ideal.Ffn

open Idealize.ShloMosaic Idealize.ShloMosaic.TcCoe Idealize.ShloMosaic.Pointwise
open Cert.Kernel6Ideal Cert.Kernel6Ideal.Gen Cert.FfnRows Facts

/-! The forward pass of the gated layer: two products with weights stored by rows, and the gate's SiLU times the other. The kernel
    takes 1056 rows by 1408 columns at a time. -/

variable (m : (devLoc : Loc nD τ sig) → devLoc.ty.Contents (Elt Ideal)) (c : Dev nD)

theorem index0 : ∀ t : Fin cfg0.N, win0_0.index t = ![t.val % 4, 0] := by decide +kernel
theorem index1 : ∀ t : Fin cfg0.N, win0_1.index t = ![t.val / 4, 0] := by decide +kernel
theorem index2 : ∀ t : Fin cfg0.N, win0_2.index t = ![t.val / 4, 0] := by decide +kernel
theorem index3 : ∀ t : Fin cfg0.N, win0_3.index t = ![t.val % 4, t.val / 4] := by decide +kernel
theorem index4 : ∀ t : Fin cfg0.N, win0_4.index t = ![t.val % 4, t.val / 4] := by decide +kernel
theorem index5 : ∀ t : Fin cfg0.N, win0_5.index t = ![t.val % 4, t.val / 4] := by decide +kernel

/-- The three arguments as arrays of numbers. -/
abbrev A0 : S4224x1024.Idx → EReal := m ((c : Thread nD τ).loc main_arg0)
abbrev A1 : S2816x1024.Idx → EReal := m ((c : Thread nD τ).loc main_arg1)
abbrev A2 : S2816x1024.Idx → EReal := m ((c : Thread nD τ).loc main_arg2)

theorem block0 (t : Fin cfg0.N) (r : Fin 1056) (k : Fin 1024) (h : 1056 * (t.val % 4) + r.val < 4224) :
    iblk m c 0 t (ix2 r k) = A0 m c (ix2 ⟨1056 * (t.val % 4) + r.val, h⟩ k) := by
  blk_ext [iblk, V, index0 t]

theorem block1 (t : Fin cfg0.N) (j : Fin 1408) (k : Fin 1024) (h : 1408 * (t.val / 4) + j.val < 2816) :
    iblk m c 1 t (ix2 j k) = A1 m c (ix2 ⟨1408 * (t.val / 4) + j.val, h⟩ k) := by
  blk_ext [iblk, V, index1 t]

theorem block2 (t : Fin cfg0.N) (j : Fin 1408) (k : Fin 1024) (h : 1408 * (t.val / 4) + j.val < 2816) :
    iblk m c 2 t (ix2 j k) = A2 m c (ix2 ⟨1408 * (t.val / 4) + j.val, h⟩ k) := by
  blk_ext [iblk, V, index2 t]

/-- What a point leaves of the gate, of the other product, and of the layer's activations. -/
theorem gate_at (x0 : Vec Ideal S1056x1024 .bf16) (x1 x2 : Vec Ideal S1408x1024 .bf16) (r : Fin 1056) (j : Fin 1408) :
    out0_3 x0 x1 x2 (ix2 r j) = rows x0 x1 r j := by
  frame_out
  pointwise [k0_pay3, k0_pay1]
  rfl

theorem up_at (x0 : Vec Ideal S1056x1024 .bf16) (x1 x2 : Vec Ideal S1408x1024 .bf16) (r : Fin 1056) (j : Fin 1408) :
    out0_4 x0 x1 x2 (ix2 r j) = rows x0 x2 r j := by
  frame_out
  pointwise [k0_pay4, k0_pay2]
  rfl

/-- The gate's SiLU times the other product. -/
def swiglu (g u : EReal) : EReal := g * logistic g * u

theorem act_at (x0 : Vec Ideal S1056x1024 .bf16) (x1 x2 : Vec Ideal S1408x1024 .bf16) (r : Fin 1056) (j : Fin 1408) :
    out0_5 x0 x1 x2 (ix2 r j) = swiglu (rows x0 x1 r j) (rows x0 x2 r j) := by
  frame_out
  pointwise [k0_pay5, k0_pay1, k0_pay2]
  rw [tanh_logistic]
  rfl

theorem rows1 (t : Fin cfg0.N) (r : Fin 1056) (j : Fin 1408) (h : 1056 * (t.val % 4) + r.val < 4224) (h' : 1408 * (t.val / 4) + j.val < 2816) :
    rows (iblk m c 0 t) (iblk m c 1 t) r j = rows (A0 m c) (A1 m c) ⟨1056 * (t.val % 4) + r.val, h⟩ ⟨1408 * (t.val / 4) + j.val, h'⟩ := by
  refine Finset.sum_congr rfl fun k _ => ?_
  exact congrArg₂ (fun a b : EReal => a * b) (block0 m c t r k h) (block1 m c t j k h')

theorem rows2 (t : Fin cfg0.N) (r : Fin 1056) (j : Fin 1408) (h : 1056 * (t.val % 4) + r.val < 4224) (h' : 1408 * (t.val / 4) + j.val < 2816) :
    rows (iblk m c 0 t) (iblk m c 2 t) r j = rows (A0 m c) (A2 m c) ⟨1056 * (t.val % 4) + r.val, h⟩ ⟨1408 * (t.val / 4) + j.val, h'⟩ := by
  refine Finset.sum_congr rfl fun k _ => ?_
  exact congrArg₂ (fun a b : EReal => a * b) (block0 m c t r k h) (block2 m c t j k h')

theorem arr3 : (dats m 0 c).arrAt 3 cfg0.N = table (rows (A0 m c) (A1 m c)) := by
  refine (dats m 0 c).arrAt_eq_of_covers 3 _ (by decide +kernel) fun t hf y => ?_
  have ht : t.val < 8 := lt_of_lt_of_eq t.isLt (show cfg0.N = 8 from N_0)
  show (dats m 0 c).after 3 t _ = _
  rw [after0_3]
  have key : ∀ (r : Fin 1056) (j : Fin 1408), out0_3 (iblk m c 0 t) (iblk m c 1 t) (iblk m c 2 t) (ix2 r j)
      = (table (rows (A0 m c) (A1 m c))) (ix2 ⟨1056 * (t.val % 4) + r.val, by omega⟩ ⟨1408 * (t.val / 4) + j.val, by omega⟩) := fun r j =>
    (gate_at (iblk m c 0 t) (iblk m c 1 t) (iblk m c 2 t) r j).trans (rows1 m c t r j (by omega) (by omega))
  refine (congrArg _ (eq_ix2 y)).trans ((key (y 0) (y 1)).trans (congrArg (table (rows (A0 m c) (A1 m c))) (funext fun a => Fin.ext ?_)))
  blk_simp [index3 t]
  match a with
  | 0 => simp; omega
  | 1 => simp; omega

theorem arr4 : (dats m 0 c).arrAt 4 cfg0.N = table (rows (A0 m c) (A2 m c)) := by
  refine (dats m 0 c).arrAt_eq_of_covers 4 _ (by decide +kernel) fun t hf y => ?_
  have ht : t.val < 8 := lt_of_lt_of_eq t.isLt (show cfg0.N = 8 from N_0)
  show (dats m 0 c).after 4 t _ = _
  rw [after0_4]
  have key : ∀ (r : Fin 1056) (j : Fin 1408), out0_4 (iblk m c 0 t) (iblk m c 1 t) (iblk m c 2 t) (ix2 r j)
      = (table (rows (A0 m c) (A2 m c))) (ix2 ⟨1056 * (t.val % 4) + r.val, by omega⟩ ⟨1408 * (t.val / 4) + j.val, by omega⟩) := fun r j =>
    (up_at (iblk m c 0 t) (iblk m c 1 t) (iblk m c 2 t) r j).trans (rows2 m c t r j (by omega) (by omega))
  refine (congrArg _ (eq_ix2 y)).trans ((key (y 0) (y 1)).trans (congrArg (table (rows (A0 m c) (A2 m c))) (funext fun a => Fin.ext ?_)))
  blk_simp [index4 t]
  match a with
  | 0 => simp; omega
  | 1 => simp; omega

theorem arr5 : (dats m 0 c).arrAt 5 cfg0.N = table fun i j => swiglu (rows (A0 m c) (A1 m c) i j) (rows (A0 m c) (A2 m c) i j) := by
  refine (dats m 0 c).arrAt_eq_of_covers 5 _ (by decide +kernel) fun t hf y => ?_
  have ht : t.val < 8 := lt_of_lt_of_eq t.isLt (show cfg0.N = 8 from N_0)
  show (dats m 0 c).after 5 t _ = _
  rw [after0_5]
  have key : ∀ (r : Fin 1056) (j : Fin 1408), out0_5 (iblk m c 0 t) (iblk m c 1 t) (iblk m c 2 t) (ix2 r j)
      = (table fun i j => swiglu (rows (A0 m c) (A1 m c) i j) (rows (A0 m c) (A2 m c) i j)) (ix2 ⟨1056 * (t.val % 4) + r.val, by omega⟩ ⟨1408 * (t.val / 4) + j.val, by omega⟩) := fun r j =>
    (act_at (iblk m c 0 t) (iblk m c 1 t) (iblk m c 2 t) r j).trans (congrArg₂ swiglu (rows1 m c t r j (by omega) (by omega)) (rows2 m c t r j (by omega) (by omega)))
  refine (congrArg _ (eq_ix2 y)).trans ((key (y 0) (y 1)).trans (congrArg (table fun i j => swiglu (rows (A0 m c) (A1 m c) i j) (rows (A0 m c) (A2 m c) i j)) (funext fun a => Fin.ext ?_)))
  blk_simp [index5 t]
  match a with
  | 0 => simp; omega
  | 1 => simp; omega

end Cert.Kernel6Ideal.Ffn

namespace Cert.FfnForward

open Idealize.ShloMosaic Idealize.ShloMosaic.TcCoe Idealize.ShloMosaic.Pointwise

section
open Cert.Reference6Ideal Cert.Reference6Ideal.Gen Cert.FfnRows Facts

/-- The reference's products at an index, and its activations. -/
theorem product_eq (x : Vec Ideal S4224x1024 .bf16) (w : Vec Ideal S2816x1024 .bf16) :
    truncf (F := Ideal) .bf16 (Host.dotGeneral (F := Ideal) dot_S4224x1024_S1024x2816_S4224x2816_1_0_0_1_n_n none (extf (F := Ideal) .f32 x bitsLt_bf16_f32) (transpose S1024x2816 [1, 0] (extf (F := Ideal) .f32 w bitsLt_bf16_f32) transposes_S2816x1024_S1024x2816_1_0)) bitsLt_bf16_f32
      = table (rows x w) := by
  refine ext2 fun i j => Eq.trans ?_ (show rows x w i j = _ from rfl)
  pointwise
  rfl

theorem act_eq (x : Vec Ideal S4224x1024 .bf16) (w u : Vec Ideal S2816x1024 .bf16) :
    truncf (F := Ideal) .bf16 (mulf (mulf (Host.dotGeneral (F := Ideal) dot_S4224x1024_S1024x2816_S4224x2816_1_0_0_1_n_n none (extf (F := Ideal) .f32 x bitsLt_bf16_f32) (transpose S1024x2816 [1, 0] (extf (F := Ideal) .f32 w bitsLt_bf16_f32) transposes_S2816x1024_S1024x2816_1_0)) (Host.divf (broadcastInDim S4224x2816 ![] bcast_S_S4224x2816 (constant (F := Ideal) S_ .f32 0x3F800000#32)) (addf (broadcastInDim S4224x2816 ![] bcast_S_S4224x2816 (constant (F := Ideal) S_ .f32 0x3F800000#32)) (Host.exp (Host.negf (Host.dotGeneral (F := Ideal) dot_S4224x1024_S1024x2816_S4224x2816_1_0_0_1_n_n none (extf (F := Ideal) .f32 x bitsLt_bf16_f32) (transpose S1024x2816 [1, 0] (extf (F := Ideal) .f32 w bitsLt_bf16_f32) transposes_S2816x1024_S1024x2816_1_0))))))) (Host.dotGeneral (F := Ideal) dot_S4224x1024_S1024x2816_S4224x2816_1_0_0_1_n_n none (extf (F := Ideal) .f32 x bitsLt_bf16_f32) (transpose S1024x2816 [1, 0] (extf (F := Ideal) .f32 u bitsLt_bf16_f32) transposes_S2816x1024_S1024x2816_1_0))) bitsLt_bf16_f32
      = table fun i j => Cert.Kernel6Ideal.Ffn.swiglu (rows x w i j) (rows x u i j) := by
  refine ext2 fun i j => Eq.trans ?_ (show Cert.Kernel6Ideal.Ffn.swiglu (rows x w i j) (rows x u i j) = _ from rfl)
  pointwise
  rfl

end

open Cert.FfnRows in
theorem algebraic : Cert.algebraic_Kernel6Ideal_Reference6Ideal := by
  intro m g m' g' _ he
  refine ⟨fun c => table (rows (Cert.Kernel6Ideal.Ffn.A0 m c) (Cert.Kernel6Ideal.Ffn.A1 m c)), fun c => table (rows (Cert.Kernel6Ideal.Ffn.A0 m c) (Cert.Kernel6Ideal.Ffn.A2 m c)),
    fun c => table fun i j => Cert.Kernel6Ideal.Ffn.swiglu (rows (Cert.Kernel6Ideal.Ffn.A0 m c) (Cert.Kernel6Ideal.Ffn.A1 m c) i j) (rows (Cert.Kernel6Ideal.Ffn.A0 m c) (Cert.Kernel6Ideal.Ffn.A2 m c) i j), ?_, ?_⟩
  · refine (θ_run Cert.Kernel6Ideal.defs _ _).mono (fun r h c => ?_) (Cert.Kernel6Ideal.Value.run_blocks (F := Ideal) m g)
    obtain ⟨r0, r1, r2, rest⟩ := h c
    exact ⟨r0.trans (Cert.Kernel6Ideal.Ffn.arr3 m c), r1.trans (Cert.Kernel6Ideal.Ffn.arr4 m c), r2.trans (Cert.Kernel6Ideal.Ffn.arr5 m c), rest⟩
  · refine (θ_run Cert.Reference6Ideal.defs _ _).mono (fun r h c => ?_) (Cert.Reference6Ideal.Value.run (F := Ideal) m' g')
    obtain ⟨r0, r1, r2, rest⟩ := h c
    obtain ⟨e0, e1, e2⟩ := he c
    refine ⟨r0.trans ((product_eq _ _).trans ?_), r1.trans ((product_eq _ _).trans ?_), r2.trans ((act_eq _ _ _).trans ?_), rest⟩
    · rw [e0, e1]
    · rw [e0, e2]
    · rw [e0, e1, e2]

end Cert.FfnForward

end
-- ==== Proof.MixWeights.lean ====
module

public import proofs.«01_k».proof.Defs
public import proofs.«01_k».proof.Proof.Gen.Kernel7Ideal.Value
public import proofs.«01_k».proof.Proof.Gen.Reference7Ideal.Run
public import proofs.«01_k».proof.Proof.Gen.Kernel9Ideal.Value
public import proofs.«01_k».proof.Proof.Gen.Reference9Ideal.Run
public import proofs.«01_k».proof.Proof.FfnRows

@[expose] public section

set_option maxRecDepth 16384

noncomputable section

namespace Cert.Kernel7Ideal.Mix

open Idealize.ShloMosaic Idealize.ShloMosaic.TcCoe Idealize.ShloMosaic.Pointwise
open Cert.Kernel7Ideal Cert.Kernel7Ideal.Gen Facts
open Cert.FfnRows (rows inner cols table)

/-! The gradient of the input weight: the sum over the rows of the products of the columns of the projections' gradient and of
    the input, in two halves of the rows. -/

variable (m : (devLoc : Loc nD τ sig) → devLoc.ty.Contents (Elt Ideal)) (c : Dev nD)

/-- The two arguments as arrays of numbers. -/
abbrev a0 : S4224x3840.Idx → EReal := m ((c : Thread nD τ).loc main_arg0)
abbrev a1 : S4224x1024.Idx → EReal := m ((c : Thread nD τ).loc main_arg1)

theorem index0 : ∀ t : Fin cfg0.N, win0_0.index t = ![t.val % 2, t.val / 2] := by decide +kernel
theorem index1 : ∀ t : Fin cfg0.N, win0_1.index t = ![t.val % 2, 0] := by decide +kernel
theorem index2 : ∀ t : Fin cfg0.N, win0_2.index t = ![t.val / 2, 0] := by decide +kernel

theorem block0 (t : Fin cfg0.N) (k : Fin 2112) (r : Fin 1280) (hk : 2112 * (t.val % 2) + k.val < 4224) (h : 1280 * (t.val / 2) + r.val < 3840) :
    iblk m c 0 t (ix2 k r) = a0 m c (ix2 ⟨2112 * (t.val % 2) + k.val, hk⟩ ⟨1280 * (t.val / 2) + r.val, h⟩) := by
  blk_ext [iblk, V, index0 t]

theorem block1 (t : Fin cfg0.N) (k : Fin 2112) (j : Fin 1024) (hk : 2112 * (t.val % 2) + k.val < 4224) :
    iblk m c 1 t (ix2 k j) = a1 m c (ix2 ⟨2112 * (t.val % 2) + k.val, hk⟩ j) := by
  blk_ext [iblk, V, index1 t]

theorem part_at (x0 : Vec Ideal S2112x1280 .bf16) (x1 : Vec Ideal S2112x1024 .bf16) (r : Fin 1280) (j : Fin 1024) :
    k0_pay1 x0 x1 (ix2 r j) = ∑ k : Fin 2112, (x0 (ix2 k r) * x1 (ix2 k j) : EReal) := by
  pointwise [k0_pay1]

theorem step_at (x0 : Vec Ideal S2112x1280 .bf16) (x1 : Vec Ideal S2112x1024 .bf16) (a : Vec Ideal S1280x1024 .f32) (r : Fin 1280) (j : Fin 1024) :
    k0_pay2 x0 x1 a (ix2 r j) = ((show EReal from a (ix2 r j)) + ∑ k : Fin 2112, (x0 (ix2 k r) * x1 (ix2 k j) : EReal) : EReal) := by
  pointwise [k0_pay2, k0_pay1]

/-- What an even point leaves: the first half's product. -/
theorem first_at (t : Fin cfg0.N) (h0 : t.val % 2 = 0) (r : Fin 1280) (j : Fin 1024) (h : 1280 * (t.val / 2) + r.val < 3840) :
    outsAt0 m c t.val t.isLt (ix2 r j) = ∑ k : Fin 2112, (a0 m c (ix2 (Fin.castAdd 2112 k) ⟨1280 * (t.val / 2) + r.val, h⟩)
      * a1 m c (ix2 (Fin.castAdd 2112 k) j) : EReal) := by
  rw [outsAt0_A m c t h0 (by omega)]
  frame_out
  rw [part_at]
  refine Finset.sum_congr rfl fun k _ => ?_
  rw [block0 m c t k r (by omega) h, block1 m c t k j (by omega)]
  simp only [h0, Nat.mul_zero, Nat.zero_add]
  rfl

/-- What an odd point leaves: both halves' products added, so the whole product. -/
theorem second_at (t : Fin cfg0.N) (h1 : t.val % 2 = 1) (r : Fin 1280) (j : Fin 1024) (h : 1280 * (t.val / 2) + r.val < 3840) :
    outsAt0 m c t.val t.isLt (ix2 r j) = table (cols (a0 m c) (a1 m c)) (ix2 ⟨1280 * (t.val / 2) + r.val, h⟩ j) := by
  have hf := first_at m c ⟨t.val - 1, by omega⟩ (by show (t.val - 1) % 2 = 0; omega) r j (by show 1280 * ((t.val - 1) / 2) + r.val < 3840; omega)
  simp only [show (t.val - 1) / 2 = t.val / 2 by omega] at hf
  rw [outsAt0_B m c t (by omega) h1]
  frame_out
  rw [step_at]
  refine Eq.trans ?_ (Cert.FfnRows.cols_add (q := 2112) (r := 2112) (a0 m c) (a1 m c) ⟨1280 * (t.val / 2) + r.val, h⟩ j).symm
  refine congrArg₂ (fun a b : EReal => a + b) hf (Finset.sum_congr rfl fun k _ => ?_)
  rw [block0 m c t k r (by omega) h, block1 m c t k j (by omega)]
  simp only [h1, Nat.mul_one, Fin.natAdd]
  rfl

theorem arr2 : (dats m 0 c).arrAt 2 cfg0.N = table (cols (a0 m c) (a1 m c)) := by
  refine (dats m 0 c).arrAt_eq_of_covers 2 _ (by decide +kernel) fun t hf y => ?_
  have ht : t.val < 6 := lt_of_lt_of_eq t.isLt (show cfg0.N = 6 from N_0)
  have h1 : t.val % 2 = 1 := (flush0_2 t).mp hf
  show (dats m 0 c).after 2 t _ = _
  rw [after0_2]
  have key := fun (r : Fin 1280) (j : Fin 1024) => second_at m c t h1 r j (by omega)
  refine (congrArg _ (eq_ix2 y)).trans ((key (y 0) (y 1)).trans (congrArg _ (funext fun a => Fin.ext ?_)))
  blk_simp [index2 t]
  match a with
  | 0 => simp; omega
  | 1 => simp

end Cert.Kernel7Ideal.Mix

namespace Cert.Kernel9Ideal.Mix

open Idealize.ShloMosaic Idealize.ShloMosaic.TcCoe Idealize.ShloMosaic.Pointwise
open Cert.Kernel9Ideal Cert.Kernel9Ideal.Gen Facts
open Cert.FfnRows (rows inner cols table)

/-! The gradient of the output weight, likewise. -/

variable (m : (devLoc : Loc nD τ sig) → devLoc.ty.Contents (Elt Ideal)) (c : Dev nD)

/-- The two arguments as arrays of numbers. -/
abbrev a0 : S4224x1024.Idx → EReal := m ((c : Thread nD τ).loc main_arg0)
abbrev a1 : S4224x1024.Idx → EReal := m ((c : Thread nD τ).loc main_arg1)

theorem index0 : ∀ t : Fin cfg0.N, win0_0.index t = ![t.val % 2, t.val / 2] := by decide +kernel
theorem index1 : ∀ t : Fin cfg0.N, win0_1.index t = ![t.val % 2, 0] := by decide +kernel
theorem index2 : ∀ t : Fin cfg0.N, win0_2.index t = ![t.val / 2, 0] := by decide +kernel

theorem block0 (t : Fin cfg0.N) (k : Fin 2112) (r : Fin 1024) (hk : 2112 * (t.val % 2) + k.val < 4224) (h : 1024 * (t.val / 2) + r.val < 1024) :
    iblk m c 0 t (ix2 k r) = a0 m c (ix2 ⟨2112 * (t.val % 2) + k.val, hk⟩ ⟨1024 * (t.val / 2) + r.val, h⟩) := by
  blk_ext [iblk, V, index0 t]

theorem block1 (t : Fin cfg0.N) (k : Fin 2112) (j : Fin 1024) (hk : 2112 * (t.val % 2) + k.val < 4224) :
    iblk m c 1 t (ix2 k j) = a1 m c (ix2 ⟨2112 * (t.val % 2) + k.val, hk⟩ j) := by
  blk_ext [iblk, V, index1 t]

theorem part_at (x0 : Vec Ideal S2112x1024 .bf16) (x1 : Vec Ideal S2112x1024 .bf16) (r : Fin 1024) (j : Fin 1024) :
    k0_pay1 x0 x1 (ix2 r j) = ∑ k : Fin 2112, (x0 (ix2 k r) * x1 (ix2 k j) : EReal) := by
  pointwise [k0_pay1]

theorem step_at (x0 : Vec Ideal S2112x1024 .bf16) (x1 : Vec Ideal S2112x1024 .bf16) (a : Vec Ideal S1024x1024 .f32) (r : Fin 1024) (j : Fin 1024) :
    k0_pay2 x0 x1 a (ix2 r j) = ((show EReal from a (ix2 r j)) + ∑ k : Fin 2112, (x0 (ix2 k r) * x1 (ix2 k j) : EReal) : EReal) := by
  pointwise [k0_pay2, k0_pay1]

/-- What an even point leaves: the first half's product. -/
theorem first_at (t : Fin cfg0.N) (h0 : t.val % 2 = 0) (r : Fin 1024) (j : Fin 1024) (h : 1024 * (t.val / 2) + r.val < 1024) :
    outsAt0 m c t.val t.isLt (ix2 r j) = ∑ k : Fin 2112, (a0 m c (ix2 (Fin.castAdd 2112 k) ⟨1024 * (t.val / 2) + r.val, h⟩)
      * a1 m c (ix2 (Fin.castAdd 2112 k) j) : EReal) := by
  rw [outsAt0_A m c t h0 (by omega)]
  frame_out
  rw [part_at]
  refine Finset.sum_congr rfl fun k _ => ?_
  rw [block0 m c t k r (by omega) h, block1 m c t k j (by omega)]
  simp only [h0, Nat.mul_zero, Nat.zero_add]
  rfl

/-- What an odd point leaves: both halves' products added, so the whole product. -/
theorem second_at (t : Fin cfg0.N) (h1 : t.val % 2 = 1) (r : Fin 1024) (j : Fin 1024) (h : 1024 * (t.val / 2) + r.val < 1024) :
    outsAt0 m c t.val t.isLt (ix2 r j) = table (cols (a0 m c) (a1 m c)) (ix2 ⟨1024 * (t.val / 2) + r.val, h⟩ j) := by
  have hf := first_at m c ⟨t.val - 1, by omega⟩ (by show (t.val - 1) % 2 = 0; omega) r j (by show 1024 * ((t.val - 1) / 2) + r.val < 1024; omega)
  simp only [show (t.val - 1) / 2 = t.val / 2 by omega] at hf
  rw [outsAt0_B m c t (by omega) h1]
  frame_out
  rw [step_at]
  refine Eq.trans ?_ (Cert.FfnRows.cols_add (q := 2112) (r := 2112) (a0 m c) (a1 m c) ⟨1024 * (t.val / 2) + r.val, h⟩ j).symm
  refine congrArg₂ (fun a b : EReal => a + b) hf (Finset.sum_congr rfl fun k _ => ?_)
  rw [block0 m c t k r (by omega) h, block1 m c t k j (by omega)]
  simp only [h1, Nat.mul_one, Fin.natAdd]
  rfl

theorem arr2 : (dats m 0 c).arrAt 2 cfg0.N = table (cols (a0 m c) (a1 m c)) := by
  refine (dats m 0 c).arrAt_eq_of_covers 2 _ (by decide +kernel) fun t hf y => ?_
  have ht : t.val < 2 := lt_of_lt_of_eq t.isLt (show cfg0.N = 2 from N_0)
  have h1 : t.val % 2 = 1 := (flush0_2 t).mp hf
  show (dats m 0 c).after 2 t _ = _
  rw [after0_2]
  have key := fun (r : Fin 1024) (j : Fin 1024) => second_at m c t h1 r j (by omega)
  refine (congrArg _ (eq_ix2 y)).trans ((key (y 0) (y 1)).trans (congrArg _ (funext fun a => Fin.ext ?_)))
  blk_simp [index2 t]
  match a with
  | 0 => simp; omega
  | 1 => simp

end Cert.Kernel9Ideal.Mix

namespace Cert.MixWeights

open Idealize.ShloMosaic Idealize.ShloMosaic.TcCoe Idealize.ShloMosaic.Pointwise

section
open Cert.Reference7Ideal Cert.Reference7Ideal.Gen Facts

theorem reference7_at (x : Vec Ideal S4224x3840 .bf16) (w : Vec Ideal S4224x1024 .bf16) :
    transpose S3840x1024 [1, 0] (transpose S1024x3840 [1, 0] (Host.dotGeneral (F := Ideal) dot_S4224x3840_S4224x1024_S3840x1024_0_0_1_1_n_n none
      (extf (F := Ideal) .f32 x bitsLt_bf16_f32) (extf (F := Ideal) .f32 w bitsLt_bf16_f32)) transposes_S3840x1024_S1024x3840_1_0) transposes_S1024x3840_S3840x1024_1_0
      = FfnRows.table (FfnRows.cols x w) := by
  refine FfnRows.ext2 fun i j => Eq.trans ?_ (FfnRows.table_cols x w i j).symm
  pointwise
  rfl
end

section
open Cert.Reference9Ideal Cert.Reference9Ideal.Gen Facts

theorem reference9_at (x w : Vec Ideal S4224x1024 .bf16) :
    transpose S1024x1024 [1, 0] (Host.dotGeneral (F := Ideal) dot_S4224x1024_S4224x1024_S1024x1024_0_0_1_1_n_n none
      (extf (F := Ideal) .f32 w bitsLt_bf16_f32) (extf (F := Ideal) .f32 x bitsLt_bf16_f32)) transposes_S1024x1024_S1024x1024_1_0
      = FfnRows.table (FfnRows.cols x w) := by
  refine FfnRows.ext2 fun i j => Eq.trans ?_ (FfnRows.cols_comm w x j i)
  refine Eq.trans ?_ (FfnRows.table_cols w x j i)
  pointwise
  rfl
end

theorem algebraic7 : Cert.algebraic_Kernel7Ideal_Reference7Ideal := by
  intro m g m' g' _ he
  refine ⟨fun c => FfnRows.table (FfnRows.cols (Cert.Kernel7Ideal.Mix.a0 m c) (Cert.Kernel7Ideal.Mix.a1 m c)), ?_, ?_⟩
  · refine (θ_run Cert.Kernel7Ideal.defs _ _).mono (fun r h c => ?_) (Cert.Kernel7Ideal.Value.run_blocks (F := Ideal) m g)
    obtain ⟨r0, rest⟩ := h c
    exact ⟨r0.trans (Cert.Kernel7Ideal.Mix.arr2 m c), rest⟩
  · refine (θ_run Cert.Reference7Ideal.defs _ _).mono (fun r h c => ?_) (Cert.Reference7Ideal.Value.run (F := Ideal) m' g')
    obtain ⟨r0, rest⟩ := h c
    obtain ⟨e0, e1⟩ := he c
    refine ⟨r0.trans ((reference7_at _ _).trans ?_), rest⟩
    rw [e0, e1]

theorem algebraic9 : Cert.algebraic_Kernel9Ideal_Reference9Ideal := by
  intro m g m' g' _ he
  refine ⟨fun c => FfnRows.table (FfnRows.cols (Cert.Kernel9Ideal.Mix.a0 m c) (Cert.Kernel9Ideal.Mix.a1 m c)), ?_, ?_⟩
  · refine (θ_run Cert.Kernel9Ideal.defs _ _).mono (fun r h c => ?_) (Cert.Kernel9Ideal.Value.run_blocks (F := Ideal) m g)
    obtain ⟨r0, rest⟩ := h c
    exact ⟨r0.trans (Cert.Kernel9Ideal.Mix.arr2 m c), rest⟩
  · refine (θ_run Cert.Reference9Ideal.defs _ _).mono (fun r h c => ?_) (Cert.Reference9Ideal.Value.run (F := Ideal) m' g')
    obtain ⟨r0, rest⟩ := h c
    obtain ⟨e0, e1⟩ := he c
    refine ⟨r0.trans ((reference9_at _ _).trans ?_), rest⟩
    rw [e0, e1]

end Cert.MixWeights

end
-- ==== Proof.MixProducts.lean ====
module

public import proofs.«01_k».proof.Defs
public import proofs.«01_k».proof.Proof.Gen.Kernel8Ideal.Value
public import proofs.«01_k».proof.Proof.Gen.Reference8Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.FfnRows

@[expose] public section

set_option maxRecDepth 16384

noncomputable section

namespace Cert.Kernel8Ideal.Mix

open Idealize.ShloMosaic Idealize.ShloMosaic.TcCoe Idealize.ShloMosaic.Pointwise
open Cert.Kernel8Ideal Cert.Kernel8Ideal.Gen Facts
open Cert.FfnRows (rows inner cols table)

/-! The gradient of the mixer's input: the projections' gradient by the input weight, 1056 rows at a time. -/

variable (m : (devLoc : Loc nD τ sig) → devLoc.ty.Contents (Elt Ideal)) (c : Dev nD)

/-- The two arguments as arrays of numbers. -/
abbrev a0 : S4224x3840.Idx → EReal := m ((c : Thread nD τ).loc main_arg0)
abbrev a1 : S3840x1024.Idx → EReal := m ((c : Thread nD τ).loc main_arg1)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem block0 (t : Fin cfg0.N) (r : Fin 1056) (k : Fin 3840) (h : 1056 * t.val + r.val < 4224) :
    iblk m c 0 t (ix2 r k) = a0 m c (ix2 ⟨1056 * t.val + r.val, h⟩ k) := by
  blk_ext [iblk, V, index0 t]

theorem block1 (t : Fin cfg0.N) (j : Fin 1024) (k : Fin 3840) :
    iblk m c 1 t (ix2 k j) = a1 m c (ix2 k j) := by
  blk_ext [iblk, V, index1 t]

/-- What a grid point leaves: the product of its two blocks. -/
theorem out_at (x0 : Vec Ideal S1056x3840 .bf16) (x1 : Vec Ideal S3840x1024 .bf16) (r : Fin 1056) (j : Fin 1024) :
    out0_2 x0 x1 (ix2 r j) = ∑ k : Fin 3840, (x0 (ix2 r k) * x1 (ix2 k j) : EReal) := by
  have e : out0_2 x0 x1 = k0_pay1 x0 x1 := by
    refine (View.canon_cons_unit_lit _ _ _ (by decide)).trans ?_
    rw [show View.ld x0 r0_0 = x0 from View.ld_unit_lit _ _ (by decide), show View.ld x1 r0_1 = x1 from View.ld_unit_lit _ _ (by decide)]
  rw [e]
  pointwise [k0_pay1]

theorem arr2 : (dats m 0 c).arrAt 2 cfg0.N = table (inner (a0 m c) (a1 m c)) := by
  refine (dats m 0 c).arrAt_eq_of_covers 2 _ (by decide +kernel) fun t hf y => ?_
  have ht : t.val < 4 := lt_of_lt_of_eq t.isLt (show cfg0.N = 4 from N_0)
  show (dats m 0 c).after 2 t _ = _
  rw [after0_2]
  have key : ∀ (r : Fin 1056) (j : Fin 1024), out0_2 (iblk m c 0 t) (iblk m c 1 t) (ix2 r j)
      = table (inner (a0 m c) (a1 m c)) (ix2 ⟨1056 * t.val + r.val, by omega⟩ j) := fun r j => by
    rw [out_at]
    refine Eq.trans ?_ (Cert.FfnRows.table_inner (a0 m c) (a1 m c) _ _).symm
    refine Finset.sum_congr rfl fun k _ => ?_
    rw [block0 m c t r k (by omega), block1 m c t j k]
    rfl
  refine (congrArg _ (eq_ix2 y)).trans ((key (y 0) (y 1)).trans (congrArg _ (funext fun a => Fin.ext ?_)))
  blk_simp [index2 t]
  match a with
  | 0 => simp; omega
  | 1 => simp

end Cert.Kernel8Ideal.Mix

namespace Cert.Kernel10Ideal.Mix

open Idealize.ShloMosaic Idealize.ShloMosaic.TcCoe Idealize.ShloMosaic.Pointwise
open Cert.Kernel10Ideal Cert.Kernel10Ideal.Gen Facts
open Cert.FfnRows (rows inner cols table)

/-! The gradient of the mixed heads: the output's gradient by the rows of the output weight, 2112 rows at a time. -/

variable (m : (devLoc : Loc nD τ sig) → devLoc.ty.Contents (Elt Ideal)) (c : Dev nD)

/-- The two arguments as arrays of numbers. -/
abbrev a0 : S4224x1024.Idx → EReal := m ((c : Thread nD τ).loc main_arg0)
abbrev a1 : S1024x1024.Idx → EReal := m ((c : Thread nD τ).loc main_arg1)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem block0 (t : Fin cfg0.N) (r : Fin 2112) (k : Fin 1024) (h : 2112 * t.val + r.val < 4224) :
    iblk m c 0 t (ix2 r k) = a0 m c (ix2 ⟨2112 * t.val + r.val, h⟩ k) := by
  blk_ext [iblk, V, index0 t]

theorem block1 (t : Fin cfg0.N) (j : Fin 1024) (k : Fin 1024) :
    iblk m c 1 t (ix2 j k) = a1 m c (ix2 j k) := by
  blk_ext [iblk, V, index1 t]

/-- What a grid point leaves: the product of its two blocks. -/
theorem out_at (x0 : Vec Ideal S2112x1024 .bf16) (x1 : Vec Ideal S1024x1024 .bf16) (r : Fin 2112) (j : Fin 1024) :
    out0_2 x0 x1 (ix2 r j) = ∑ k : Fin 1024, (x0 (ix2 r k) * x1 (ix2 j k) : EReal) := by
  have e : out0_2 x0 x1 = k0_pay1 x0 x1 := by
    refine (View.canon_cons_unit_lit _ _ _ (by decide)).trans ?_
    rw [show View.ld x0 r0_0 = x0 from View.ld_unit_lit _ _ (by decide), show View.ld x1 r0_1 = x1 from View.ld_unit_lit _ _ (by decide)]
  rw [e]
  pointwise [k0_pay1]

theorem arr2 : (dats m 0 c).arrAt 2 cfg0.N = table (rows (a0 m c) (a1 m c)) := by
  refine (dats m 0 c).arrAt_eq_of_covers 2 _ (by decide +kernel) fun t hf y => ?_
  have ht : t.val < 2 := lt_of_lt_of_eq t.isLt (show cfg0.N = 2 from N_0)
  show (dats m 0 c).after 2 t _ = _
  rw [after0_2]
  have key : ∀ (r : Fin 2112) (j : Fin 1024), out0_2 (iblk m c 0 t) (iblk m c 1 t) (ix2 r j)
      = table (rows (a0 m c) (a1 m c)) (ix2 ⟨2112 * t.val + r.val, by omega⟩ j) := fun r j => by
    rw [out_at]
    refine Eq.trans ?_ (Cert.FfnRows.table_rows (a0 m c) (a1 m c) _ _).symm
    refine Finset.sum_congr rfl fun k _ => ?_
    rw [block0 m c t r k (by omega), block1 m c t j k]
    rfl
  refine (congrArg _ (eq_ix2 y)).trans ((key (y 0) (y 1)).trans (congrArg _ (funext fun a => Fin.ext ?_)))
  blk_simp [index2 t]
  match a with
  | 0 => simp; omega
  | 1 => simp

end Cert.Kernel10Ideal.Mix

namespace Cert.Kernel11Ideal.Mix

open Idealize.ShloMosaic Idealize.ShloMosaic.TcCoe Idealize.ShloMosaic.Pointwise
open Cert.Kernel11Ideal Cert.Kernel11Ideal.Gen Facts
open Cert.FfnRows (rows inner cols table)

/-! The projections: the mixer's input by the rows of the transposed input weight, 2112 rows and 1280 columns at a time. -/

variable (m : (devLoc : Loc nD τ sig) → devLoc.ty.Contents (Elt Ideal)) (c : Dev nD)

/-- The two arguments as arrays of numbers. -/
abbrev a0 : S4224x1024.Idx → EReal := m ((c : Thread nD τ).loc main_arg0)
abbrev a1 : S3840x1024.Idx → EReal := m ((c : Thread nD τ).loc main_arg1)

theorem index0 : ∀ t : Fin cfg0.N, win0_0.index t = ![t.val / 3, 0] := by decide +kernel
theorem index1 : ∀ t : Fin cfg0.N, win0_1.index t = ![t.val % 3, 0] := by decide +kernel
theorem index2 : ∀ t : Fin cfg0.N, win0_2.index t = ![t.val / 3, t.val % 3] := by decide +kernel

theorem block0 (t : Fin cfg0.N) (r : Fin 2112) (k : Fin 1024) (h : 2112 * (t.val / 3) + r.val < 4224) :
    iblk m c 0 t (ix2 r k) = a0 m c (ix2 ⟨2112 * (t.val / 3) + r.val, h⟩ k) := by
  blk_ext [iblk, V, index0 t]

theorem block1 (t : Fin cfg0.N) (j : Fin 1280) (k : Fin 1024) (h1 : 1280 * (t.val % 3) + j.val < 3840) :
    iblk m c 1 t (ix2 j k) = a1 m c (ix2 ⟨1280 * (t.val % 3) + j.val, h1⟩ k) := by
  blk_ext [iblk, V, index1 t]

/-- What a grid point leaves: the product of its two blocks. -/
theorem out_at (x0 : Vec Ideal S2112x1024 .bf16) (x1 : Vec Ideal S1280x1024 .bf16) (r : Fin 2112) (j : Fin 1280) :
    out0_2 x0 x1 (ix2 r j) = ∑ k : Fin 1024, (x0 (ix2 r k) * x1 (ix2 j k) : EReal) := by
  have e : out0_2 x0 x1 = k0_pay1 x0 x1 := by
    refine (View.canon_cons_unit_lit _ _ _ (by decide)).trans ?_
    rw [show View.ld x0 r0_0 = x0 from View.ld_unit_lit _ _ (by decide), show View.ld x1 r0_1 = x1 from View.ld_unit_lit _ _ (by decide)]
  rw [e]
  pointwise [k0_pay1]

theorem arr2 : (dats m 0 c).arrAt 2 cfg0.N = table (rows (a0 m c) (a1 m c)) := by
  refine (dats m 0 c).arrAt_eq_of_covers 2 _ (by decide +kernel) fun t hf y => ?_
  have ht : t.val < 6 := lt_of_lt_of_eq t.isLt (show cfg0.N = 6 from N_0)
  show (dats m 0 c).after 2 t _ = _
  rw [after0_2]
  have key : ∀ (r : Fin 2112) (j : Fin 1280), out0_2 (iblk m c 0 t) (iblk m c 1 t) (ix2 r j)
      = table (rows (a0 m c) (a1 m c)) (ix2 ⟨2112 * (t.val / 3) + r.val, by omega⟩ ⟨1280 * (t.val % 3) + j.val, by omega⟩) := fun r j => by
    rw [out_at]
    refine Eq.trans ?_ (Cert.FfnRows.table_rows (a0 m c) (a1 m c) _ _).symm
    refine Finset.sum_congr rfl fun k _ => ?_
    rw [block0 m c t r k (by omega), block1 m c t j k (by omega)]
    rfl
  refine (congrArg _ (eq_ix2 y)).trans ((key (y 0) (y 1)).trans (congrArg _ (funext fun a => Fin.ext ?_)))
  blk_simp [index2 t]
  match a with
  | 0 => simp; omega
  | 1 => simp; omega

end Cert.Kernel11Ideal.Mix

namespace Cert.MixProducts

open Idealize.ShloMosaic Idealize.ShloMosaic.TcCoe Idealize.ShloMosaic.Pointwise

section
open Cert.Reference8Ideal Cert.Reference8Ideal.Gen Facts

theorem reference8_at (x : Vec Ideal S4224x3840 .bf16) (w : Vec Ideal S3840x1024 .bf16) :
    Host.dotGeneral (F := Ideal) dot_S4224x3840_S1024x3840_S4224x1024_1_1_0_0_n_n none (extf (F := Ideal) .f32 x bitsLt_bf16_f32)
      (transpose S1024x3840 [1, 0] (extf (F := Ideal) .f32 w bitsLt_bf16_f32) transposes_S3840x1024_S1024x3840_1_0)
      = FfnRows.table (FfnRows.inner x w) := by
  refine FfnRows.ext2 fun i j => Eq.trans ?_ (FfnRows.table_inner x w i j).symm
  pointwise
  rfl
end

section
open Cert.Reference10Ideal Cert.Reference10Ideal.Gen Facts

theorem reference10_at (x : Vec Ideal S4224x1024 .bf16) (w : Vec Ideal S1024x1024 .bf16) :
    Host.dotGeneral (F := Ideal) dot_S4224x1024_S1024x1024_S4224x1024_1_1_0_0_n_n none (extf (F := Ideal) .f32 x bitsLt_bf16_f32)
      (extf (F := Ideal) .f32 w bitsLt_bf16_f32)
      = FfnRows.table (FfnRows.rows x w) := by
  refine FfnRows.ext2 fun i j => Eq.trans ?_ (FfnRows.table_rows x w i j).symm
  pointwise
  rfl
end

section
open Cert.Reference11Ideal Cert.Reference11Ideal.Gen Facts

theorem reference11_at (x : Vec Ideal S4224x1024 .bf16) (w : Vec Ideal S3840x1024 .bf16) :
    Host.dotGeneral (F := Ideal) dot_S4224x1024_S1024x3840_S4224x3840_1_0_0_1_n_n none (extf (F := Ideal) .f32 x bitsLt_bf16_f32)
      (transpose S1024x3840 [1, 0] (extf (F := Ideal) .f32 w bitsLt_bf16_f32) transposes_S3840x1024_S1024x3840_1_0)
      = FfnRows.table (FfnRows.rows x w) := by
  refine FfnRows.ext2 fun i j => Eq.trans ?_ (FfnRows.table_rows x w i j).symm
  pointwise
  rfl
end

theorem algebraic8 : Cert.algebraic_Kernel8Ideal_Reference8Ideal := by
  intro m g m' g' _ he
  refine ⟨fun c => FfnRows.table (FfnRows.inner (Cert.Kernel8Ideal.Mix.a0 m c) (Cert.Kernel8Ideal.Mix.a1 m c)), ?_, ?_⟩
  · refine (θ_run Cert.Kernel8Ideal.defs _ _).mono (fun r h c => ?_) (Cert.Kernel8Ideal.Value.run_blocks (F := Ideal) m g)
    obtain ⟨r0, rest⟩ := h c
    exact ⟨r0.trans (Cert.Kernel8Ideal.Mix.arr2 m c), rest⟩
  · refine (θ_run Cert.Reference8Ideal.defs _ _).mono (fun r h c => ?_) (Cert.Reference8Ideal.Value.run (F := Ideal) m' g')
    obtain ⟨r0, rest⟩ := h c
    obtain ⟨e0, e1⟩ := he c
    refine ⟨r0.trans ((reference8_at _ _).trans ?_), rest⟩
    rw [e0, e1]

theorem algebraic10 : Cert.algebraic_Kernel10Ideal_Reference10Ideal := by
  intro m g m' g' _ he
  refine ⟨fun c => FfnRows.table (FfnRows.rows (Cert.Kernel10Ideal.Mix.a0 m c) (Cert.Kernel10Ideal.Mix.a1 m c)), ?_, ?_⟩
  · refine (θ_run Cert.Kernel10Ideal.defs _ _).mono (fun r h c => ?_) (Cert.Kernel10Ideal.Value.run_blocks (F := Ideal) m g)
    obtain ⟨r0, rest⟩ := h c
    exact ⟨r0.trans (Cert.Kernel10Ideal.Mix.arr2 m c), rest⟩
  · refine (θ_run Cert.Reference10Ideal.defs _ _).mono (fun r h c => ?_) (Cert.Reference10Ideal.Value.run (F := Ideal) m' g')
    obtain ⟨r0, rest⟩ := h c
    obtain ⟨e0, e1⟩ := he c
    refine ⟨r0.trans ((reference10_at _ _).trans ?_), rest⟩
    rw [e0, e1]

theorem algebraic11 : Cert.algebraic_Kernel11Ideal_Reference11Ideal := by
  intro m g m' g' _ he
  refine ⟨fun c => FfnRows.table (FfnRows.rows (Cert.Kernel11Ideal.Mix.a0 m c) (Cert.Kernel11Ideal.Mix.a1 m c)), ?_, ?_⟩
  · refine (θ_run Cert.Kernel11Ideal.defs _ _).mono (fun r h c => ?_) (Cert.Kernel11Ideal.Value.run_blocks (F := Ideal) m g)
    obtain ⟨r0, rest⟩ := h c
    exact ⟨r0.trans (Cert.Kernel11Ideal.Mix.arr2 m c), rest⟩
  · refine (θ_run Cert.Reference11Ideal.defs _ _).mono (fun r h c => ?_) (Cert.Reference11Ideal.Value.run (F := Ideal) m' g')
    obtain ⟨r0, rest⟩ := h c
    obtain ⟨e0, e1⟩ := he c
    refine ⟨r0.trans ((reference11_at _ _).trans ?_), rest⟩
    rw [e0, e1]

end Cert.MixProducts

end
-- ==== Proof.MixResidual.lean ====
module

public import proofs.«01_k».proof.Defs
public import proofs.«01_k».proof.Proof.Gen.Kernel12Ideal.Value
public import proofs.«01_k».proof.Proof.Gen.Reference12Ideal.Run
public import proofs.«01_k».proof.Proof.FfnRows

@[expose] public section

set_option maxRecDepth 16384

noncomputable section

namespace Cert.FfnRows

open Idealize.ShloMosaic

/-- One over the root of the mean of a row's squares, the small constant added. The two words are 1024 and that constant. -/
def scale (x : Fin 1024 → EReal) : EReal :=
  Ideal.rsqrt (Ideal.div (∑ k, x k * x k) (Ideal.ofBits .f32 0x44800000#32) + Ideal.ofBits .f32 0x358637BD#32)

/-- A row's norm with its gains. -/
def norm (x : Fin 1024 → EReal) (w : (⟨2, ![1, 1024]⟩ : Shape).Idx → EReal) (j : Fin 1024) : EReal :=
  x j * scale x * w (ValueIdx.ix2 0 j)

/-- A row added to the norm of another. -/
def added (h x : Fin 1024 → EReal) (w : (⟨2, ![1, 1024]⟩ : Shape).Idx → EReal) (j : Fin 1024) : EReal :=
  h j + norm x w j

/-- A row of an array. -/
def line {n p : ℕ} (x : (⟨2, ![n, p]⟩ : Shape).Idx → EReal) (i : Fin n) (j : Fin p) : EReal := x (ValueIdx.ix2 i j)

end Cert.FfnRows

namespace Cert.Kernel12Ideal.Mix

open Idealize.ShloMosaic Idealize.ShloMosaic.TcCoe Idealize.ShloMosaic.Pointwise
open Cert.Kernel12Ideal Cert.Kernel12Ideal.Gen Facts
open Cert.FfnRows (inner table norm added line)

/-! The mixer's output, the stream it is added to after its norm, and that stream's norm, 1056 rows at a time. -/

variable (m : (devLoc : Loc nD τ sig) → devLoc.ty.Contents (Elt Ideal)) (c : Dev nD)

/-- The five arguments as arrays of numbers. -/
abbrev a0 : S4224x1024.Idx → EReal := m ((c : Thread nD τ).loc main_arg0)
abbrev a1 : S1024x1024.Idx → EReal := m ((c : Thread nD τ).loc main_arg1)
abbrev a2 : S4224x1024.Idx → EReal := m ((c : Thread nD τ).loc main_arg2)
abbrev a3 : S1x1024.Idx → EReal := m ((c : Thread nD τ).loc main_arg3)
abbrev a4 : S1x1024.Idx → EReal := m ((c : Thread nD τ).loc main_arg4)

/-- A row of the stream after the mixer, and that row's norm. -/
def stream (i : Fin 4224) : Fin 1024 → EReal := added (line (a2 m c) i) (inner (a0 m c) (a1 m c) i) (a3 m c)
def normed (i : Fin 4224) : Fin 1024 → EReal := norm (stream m c i) (a4 m c)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

theorem block0 (t : Fin cfg0.N) (r : Fin 1056) (k : Fin 1024) (h : 1056 * t.val + r.val < 4224) :
    iblk m c 0 t (ix2 r k) = a0 m c (ix2 ⟨1056 * t.val + r.val, h⟩ k) := by
  blk_ext [iblk, V, index0 t]

theorem block1 (t : Fin cfg0.N) (j : Fin 1024) (k : Fin 1024) : iblk m c 1 t (ix2 k j) = a1 m c (ix2 k j) := by
  blk_ext [iblk, V, index1 t]

theorem block2 (t : Fin cfg0.N) (r : Fin 1056) (k : Fin 1024) (h : 1056 * t.val + r.val < 4224) :
    iblk m c 2 t (ix2 r k) = a2 m c (ix2 ⟨1056 * t.val + r.val, h⟩ k) := by
  blk_ext [iblk, V, index2 t]

theorem block3 (t : Fin cfg0.N) (r : Fin 1) (j : Fin 1024) : iblk m c 3 t (ix2 r j) = a3 m c (ix2 r j) := by
  blk_ext [iblk, V, index3 t]

theorem block4 (t : Fin cfg0.N) (r : Fin 1) (j : Fin 1024) : iblk m c 4 t (ix2 r j) = a4 m c (ix2 r j) := by
  blk_ext [iblk, V, index4 t]

/-- What the body computes of a row: the product, the stream and its norm. -/
theorem product_at (x0 : Vec Ideal S1056x1024 .bf16) (x1 : Vec Ideal S1024x1024 .bf16) (r : Fin 1056) (j : Fin 1024) :
    k0_pay1 (F := Ideal) x0 x1 (ix2 r j) = inner x0 x1 r j := by
  pointwise [k0_pay1]
  rfl

theorem stream_at (x0 : Vec Ideal S1056x1024 .bf16) (x1 : Vec Ideal S1024x1024 .bf16) (x2 : Vec Ideal S1056x1024 .f32) (x3 : Vec Ideal S1x1024 .f32)
    (r : Fin 1056) (j : Fin 1024) :
    k0_pay2 (F := Ideal) x0 x1 x2 x3 (ix2 r j) = added (line x2 r) (inner x0 x1 r) x3 j := by
  pointwise [k0_pay2]
  simp only [product_at]
  rfl

theorem normed_at (x0 : Vec Ideal S1056x1024 .bf16) (x1 : Vec Ideal S1024x1024 .bf16) (x2 : Vec Ideal S1056x1024 .f32) (x3 x4 : Vec Ideal S1x1024 .f32)
    (r : Fin 1056) (j : Fin 1024) :
    k0_pay3 (F := Ideal) x0 x1 x2 x3 x4 (ix2 r j) = norm (added (line x2 r) (inner x0 x1 r) x3) x4 j := by
  pointwise [k0_pay3]
  simp only [stream_at]
  rfl

/-- The blocks' rows are the arguments'. -/
theorem inner_block (t : Fin cfg0.N) (r : Fin 1056) (h : 1056 * t.val + r.val < 4224) :
    inner (iblk m c 0 t) (iblk m c 1 t) r = inner (a0 m c) (a1 m c) ⟨1056 * t.val + r.val, h⟩ := by
  funext j
  refine Finset.sum_congr rfl fun k _ => ?_
  exact congrArg₂ (fun a b : EReal => a * b) (block0 m c t r k h) (block1 m c t j k)

theorem line_block (t : Fin cfg0.N) (r : Fin 1056) (h : 1056 * t.val + r.val < 4224) :
    line (iblk m c 2 t) r = line (a2 m c) ⟨1056 * t.val + r.val, h⟩ := funext fun k => block2 m c t r k h

theorem gains3 (t : Fin cfg0.N) : iblk m c 3 t = a3 m c := Cert.FfnRows.ext2 (block3 m c t)
theorem gains4 (t : Fin cfg0.N) : iblk m c 4 t = a4 m c := Cert.FfnRows.ext2 (block4 m c t)

theorem stream_block (t : Fin cfg0.N) (r : Fin 1056) (h : 1056 * t.val + r.val < 4224) :
    added (line (iblk m c 2 t) r) (inner (iblk m c 0 t) (iblk m c 1 t) r) (iblk m c 3 t) = stream m c ⟨1056 * t.val + r.val, h⟩ := by
  rw [line_block m c t r h, inner_block m c t r h, gains3]
  rfl

theorem arr5 : (dats m 0 c).arrAt 5 cfg0.N = table (inner (a0 m c) (a1 m c)) := by
  refine (dats m 0 c).arrAt_eq_of_covers 5 _ (by decide +kernel) fun t hf y => ?_
  have ht : t.val < 4 := lt_of_lt_of_eq t.isLt (show cfg0.N = 4 from N_0)
  show (dats m 0 c).after 5 t _ = _
  rw [after0_5]
  have key : ∀ (r : Fin 1056) (j : Fin 1024), out0_5 (iblk m c 0 t) (iblk m c 1 t) (iblk m c 2 t) (iblk m c 3 t) (iblk m c 4 t) (ix2 r j)
      = table (inner (a0 m c) (a1 m c)) (ix2 ⟨1056 * t.val + r.val, by omega⟩ j) := fun r j => by
    frame_out
    exact (product_at _ _ r j).trans (congrFun (inner_block m c t r _) j)
  refine (congrArg _ (eq_ix2 y)).trans ((key (y 0) (y 1)).trans (congrArg (table (inner (a0 m c) (a1 m c))) (funext fun a => Fin.ext ?_)))
  blk_simp [index5 t]
  match a with
  | 0 => simp; omega
  | 1 => simp

theorem arr6 : (dats m 0 c).arrAt 6 cfg0.N = table (stream m c) := by
  refine (dats m 0 c).arrAt_eq_of_covers 6 _ (by decide +kernel) fun t hf y => ?_
  have ht : t.val < 4 := lt_of_lt_of_eq t.isLt (show cfg0.N = 4 from N_0)
  show (dats m 0 c).after 6 t _ = _
  rw [after0_6]
  have key : ∀ (r : Fin 1056) (j : Fin 1024), out0_6 (iblk m c 0 t) (iblk m c 1 t) (iblk m c 2 t) (iblk m c 3 t) (iblk m c 4 t) (ix2 r j)
      = table (stream m c) (ix2 ⟨1056 * t.val + r.val, by omega⟩ j) := fun r j => by
    frame_out
    exact (stream_at _ _ _ _ r j).trans (congrFun (stream_block m c t r _) j)
  refine (congrArg _ (eq_ix2 y)).trans ((key (y 0) (y 1)).trans (congrArg (table (stream m c)) (funext fun a => Fin.ext ?_)))
  blk_simp [index6 t]
  match a with
  | 0 => simp; omega
  | 1 => simp

theorem arr7 : (dats m 0 c).arrAt 7 cfg0.N = table (normed m c) := by
  refine (dats m 0 c).arrAt_eq_of_covers 7 _ (by decide +kernel) fun t hf y => ?_
  have ht : t.val < 4 := lt_of_lt_of_eq t.isLt (show cfg0.N = 4 from N_0)
  show (dats m 0 c).after 7 t _ = _
  rw [after0_7]
  have key : ∀ (r : Fin 1056) (j : Fin 1024), out0_7 (iblk m c 0 t) (iblk m c 1 t) (iblk m c 2 t) (iblk m c 3 t) (iblk m c 4 t) (ix2 r j)
      = table (normed m c) (ix2 ⟨1056 * t.val + r.val, by omega⟩ j) := fun r j => by
    frame_out
    exact (normed_at _ _ _ _ _ r j).trans (congrArg₂ (fun s w => norm s w j) (stream_block m c t r _) (gains4 m c t))
  refine (congrArg _ (eq_ix2 y)).trans ((key (y 0) (y 1)).trans (congrArg (table (normed m c)) (funext fun a => Fin.ext ?_)))
  blk_simp [index7 t]
  match a with
  | 0 => simp; omega
  | 1 => simp

end Cert.Kernel12Ideal.Mix

namespace Cert.MixResidual

open Idealize.ShloMosaic Idealize.ShloMosaic.TcCoe Idealize.ShloMosaic.Pointwise
open Cert.FfnRows (inner table norm added line)

section
open Cert.Reference12Ideal Cert.Reference12Ideal.Gen Facts

theorem product_eq (x : Vec Ideal S4224x1024 .bf16) (w : Vec Ideal S1024x1024 .bf16) :
    Host.dotGeneral (F := Ideal) dot_S4224x1024_S1024x1024_S4224x1024_1_0_0_1_n_n none (extf (F := Ideal) .f32 x bitsLt_bf16_f32)
      (extf (F := Ideal) .f32 w bitsLt_bf16_f32) = table (inner x w) := by
  refine FfnRows.ext2 fun i j => Eq.trans ?_ (FfnRows.table_inner x w i j).symm
  pointwise
  rfl

/-- The reference's norm of an array's rows with its gains. -/
abbrev refNorm (x : Vec Ideal S4224x1024 .f32) (w : Vec Ideal S1x1024 .f32) : Vec Ideal S4224x1024 .f32 :=
  mulf (mulf x (broadcastInDim S4224x1024 ![0, 1] bcast_S4224x1_S4224x1024_0_1 (Host.rsqrt (addf (Host.divf (broadcastInDim S4224x1 ![0] bcast_S4224_S4224x1_0
    (Host.reduceAdd (F := Ideal) (mulf x x) (constant (F := Ideal) S_ .f32 0x00000000#32) reducesTo_S4224x1024_S4224_d1 h_S_))
    (broadcastInDim S4224x1 ![] bcast_S_S4224x1 (constant (F := Ideal) S_ .f32 0x44800000#32)))
    (broadcastInDim S4224x1 ![] bcast_S_S4224x1 (constant (F := Ideal) S_ .f32 0x358637BD#32))))))
    (broadcastInDim S4224x1024 ![0, 1] bcast_S1x1024_S4224x1024_0_1 w)

theorem norm_eq (x : Vec Ideal S4224x1024 .f32) (w : Vec Ideal S1x1024 .f32) (f : Fin 4224 → Fin 1024 → EReal) (h : x = table f) :
    refNorm x w = table fun i => norm (f i) w := by
  subst h
  refine FfnRows.ext2 fun i j => ?_
  pointwise
  rfl

theorem added_eq (y : Vec Ideal S4224x1024 .f32) (x : Vec Ideal S4224x1024 .f32) (w : Vec Ideal S1x1024 .f32) (f : Fin 4224 → Fin 1024 → EReal)
    (h : x = table f) : addf (F := Ideal) (φ := .f32) y (refNorm x w) = table fun i => added (line y i) (f i) w := by
  rw [norm_eq x w f h]
  refine FfnRows.ext2 fun i j => ?_
  pointwise
  rfl
end

open Cert.Kernel12Ideal.Mix in
theorem algebraic : Cert.algebraic_Kernel12Ideal_Reference12Ideal := by
  intro m g m' g' _ he
  refine ⟨fun c => table (inner (a0 m c) (a1 m c)), fun c => table (stream m c), fun c => table (normed m c), ?_, ?_⟩
  · refine (θ_run Cert.Kernel12Ideal.defs _ _).mono (fun r h c => ?_) (Cert.Kernel12Ideal.Value.run_blocks (F := Ideal) m g)
    obtain ⟨r0, r1, r2, rest⟩ := h c
    exact ⟨r0.trans (arr5 m c), r1.trans (arr6 m c), r2.trans (arr7 m c), rest⟩
  · refine (θ_run Cert.Reference12Ideal.defs _ _).mono (fun r h c => ?_) (Cert.Reference12Ideal.Value.run (F := Ideal) m' g')
    obtain ⟨r0, r1, r2, rest⟩ := h c
    obtain ⟨e0, e1, e2, e3, e4⟩ := he c
    have p := product_eq (m' ((c.tc : Thread _ Cert.Reference12Ideal.τ).loc Cert.Reference12Ideal.main_arg0)) (m' ((c.tc : Thread _ Cert.Reference12Ideal.τ).loc Cert.Reference12Ideal.main_arg1))
    have s := added_eq (m' ((c.tc : Thread _ Cert.Reference12Ideal.τ).loc Cert.Reference12Ideal.main_arg2)) _
      (m' ((c.tc : Thread _ Cert.Reference12Ideal.τ).loc Cert.Reference12Ideal.main_arg3)) _ p
    have n := norm_eq _ (m' ((c.tc : Thread _ Cert.Reference12Ideal.τ).loc Cert.Reference12Ideal.main_arg4)) _ s
    refine ⟨r0.trans (p.trans ?_), r1.trans (s.trans ?_), r2.trans (Eq.trans ?_ (n.trans ?_)), rest⟩
    · rw [e0, e1]
    · rw [e0, e1, e2, e3]
      rfl
    · rfl
    · rw [e0, e1, e2, e3, e4]
      rfl

end Cert.MixResidual

end
-- ==== Proof.Adam.lean ====
module

public import proofs.«01_k».proof.Defs
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.FfnRows

@[expose] public section

set_option maxRecDepth 16384

noncomputable section

namespace Cert.Kernel13Ideal.Adam

open Idealize.ShloMosaic Idealize.ShloMosaic.TcCoe
open Cert.Kernel13Ideal

/-! The four arguments as arrays of numbers: the input weight, its gradient and its two moments. -/

variable (m : (devLoc : Loc nD τ sig) → devLoc.ty.Contents (Elt Ideal)) (c : Dev nD)

abbrev w : S898x1024.Idx → EReal := m ((c : Thread nD τ).loc main_arg0)
abbrev g : S898x1024.Idx → EReal := m ((c : Thread nD τ).loc main_arg1)
abbrev m1 : S898x1024.Idx → EReal := m ((c : Thread nD τ).loc main_arg2)
abbrev m2 : S898x1024.Idx → EReal := m ((c : Thread nD τ).loc main_arg3)

end Cert.Kernel13Ideal.Adam

namespace Cert.Kernel14Ideal.Adam

open Idealize.ShloMosaic Idealize.ShloMosaic.TcCoe
open Cert.Kernel14Ideal

/-! The four arguments as arrays of numbers: the output weight, its gradient and its two moments. -/

variable (m : (devLoc : Loc nD τ sig) → devLoc.ty.Contents (Elt Ideal)) (c : Dev nD)

abbrev w : S256x1024.Idx → EReal := m ((c : Thread nD τ).loc main_arg0)
abbrev g : S256x1024.Idx → EReal := m ((c : Thread nD τ).loc main_arg1)
abbrev m1 : S256x1024.Idx → EReal := m ((c : Thread nD τ).loc main_arg2)
abbrev m2 : S256x1024.Idx → EReal := m ((c : Thread nD τ).loc main_arg3)

end Cert.Kernel14Ideal.Adam

namespace Cert.Kernel15Ideal.Adam

open Idealize.ShloMosaic Idealize.ShloMosaic.TcCoe
open Cert.Kernel15Ideal

/-! The four arguments as arrays of numbers: a weight of the feed-forward layer, its gradient and its two moments. -/

variable (m : (devLoc : Loc nD τ sig) → devLoc.ty.Contents (Elt Ideal)) (c : Dev nD)

abbrev w : S704x1024.Idx → EReal := m ((c : Thread nD τ).loc main_arg0)
abbrev g : S704x1024.Idx → EReal := m ((c : Thread nD τ).loc main_arg1)
abbrev m1 : S704x1024.Idx → EReal := m ((c : Thread nD τ).loc main_arg2)
abbrev m2 : S704x1024.Idx → EReal := m ((c : Thread nD τ).loc main_arg3)

end Cert.Kernel15Ideal.Adam

namespace Cert.Adam

open Idealize.ShloMosaic Idealize.ShloMosaic.TcCoe Idealize.ShloMosaic.Pointwise

/-! The optimiser's step on a matrix: every number of the three results is one function of the numbers at its place. -/

/-- The two moments and the step, of the numbers at one place. The words are the optimiser's constants. -/
def moment (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (moment g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

/-- The same of arrays. -/
def moments {ι : Type} (g m : ι → EReal) (i : ι) : EReal := moment (g i) (m i)
def squares {ι : Type} (g v : ι → EReal) (i : ι) : EReal := square (g i) (v i)
def steps {ι : Type} (w g m v : ι → EReal) (i : ι) : EReal := step (w i) (g i) (m i) (v i)

open Cert.Kernel13Ideal.Adam in
theorem algebraic13 : Cert.algebraic_Kernel13Ideal_Reference13Ideal := by
  intro m ρ m' ρ' _ he
  refine ⟨fun c => steps (w m c) (g m c) (m1 m c) (m2 m c), fun c => moments (g m c) (m1 m c), fun c => squares (g m c) (m2 m c), ?_, ?_⟩
  · exact Cert.Kernel13Ideal.Value.run (F := Ideal) m ρ
  · refine (θ_run Cert.Reference13Ideal.defs _ _).mono (fun r h c => ?_) (Cert.Reference13Ideal.Value.run (F := Ideal) m' ρ')
    obtain ⟨r0, r1, r2, rest⟩ := h c
    obtain ⟨e0, e1, e2, e3⟩ := he c
    rw [e0, e1, e2, e3] at r0
    rw [e1, e2] at r1
    rw [e1, e3] at r2
    exact ⟨r0, r1, r2, rest⟩

open Cert.Kernel14Ideal.Adam in
theorem algebraic14 : Cert.algebraic_Kernel14Ideal_Reference14Ideal := by
  intro m ρ m' ρ' _ he
  refine ⟨fun c => steps (w m c) (g m c) (m1 m c) (m2 m c), fun c => moments (g m c) (m1 m c), fun c => squares (g m c) (m2 m c), ?_, ?_⟩
  · exact Cert.Kernel14Ideal.Value.run (F := Ideal) m ρ
  · refine (θ_run Cert.Reference14Ideal.defs _ _).mono (fun r h c => ?_) (Cert.Reference14Ideal.Value.run (F := Ideal) m' ρ')
    obtain ⟨r0, r1, r2, rest⟩ := h c
    obtain ⟨e0, e1, e2, e3⟩ := he c
    rw [e0, e1, e2, e3] at r0
    rw [e1, e2] at r1
    rw [e1, e3] at r2
    exact ⟨r0, r1, r2, rest⟩

open Cert.Kernel15Ideal.Adam in
theorem algebraic15 : Cert.algebraic_Kernel15Ideal_Reference15Ideal := by
  intro m ρ m' ρ' _ he
  refine ⟨fun c => steps (w m c) (g m c) (m1 m c) (m2 m c), fun c => moments (g m c) (m1 m c), fun c => squares (g m c) (m2 m c), ?_, ?_⟩
  · exact Cert.Kernel15Ideal.Value.run (F := Ideal) m ρ
  · refine (θ_run Cert.Reference15Ideal.defs _ _).mono (fun r h c => ?_) (Cert.Reference15Ideal.Value.run (F := Ideal) m' ρ')
    obtain ⟨r0, r1, r2, rest⟩ := h c
    obtain ⟨e0, e1, e2, e3⟩ := he c
    rw [e0, e1, e2, e3] at r0
    rw [e1, e2] at r1
    rw [e1, e3] at r2
    exact ⟨r0, r1, r2, rest⟩

end Cert.Adam

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite_swiglu
public import proofs.«01_k».proof.Proof.GdnOut
public import proofs.«01_k».proof.Proof.GdnKernel
public import proofs.«01_k».proof.Proof.GdnAlg
public import proofs.«01_k».proof.Proof.FfnGates
public import proofs.«01_k».proof.Proof.FfnWeight
public import proofs.«01_k».proof.Proof.FfnInput
public import proofs.«01_k».proof.Proof.FfnForward
public import proofs.«01_k».proof.Proof.MixWeights
public import proofs.«01_k».proof.Proof.MixProducts
public import proofs.«01_k».proof.Proof.MixResidual
public import proofs.«01_k».proof.Proof.Adam
public import Idealize.ShloMosaic.Adequacy
public import Idealize.ShloMosaic.Init

@[expose] public section

set_option maxRecDepth 16384

noncomputable section

-- The claims about the kernels, their exact readings and the references also say that every semaphore counter ends at zero; the proof shows that too.

namespace Cert.Proof

open Idealize.ShloMosaic Idealize.SL.Sem Cert.Kernel

/-- The reference of the recurrence's gradient: its run, every argument as it was, and no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The reference of the short convolution's gradient, likewise. -/
theorem frame_reference2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- The references of the gated layer's calls, likewise. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The references of the mixer's products with its weights, likewise. -/
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The reference of the mixer's output and the residual stream, likewise. -/
theorem frame_reference12 : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

/-- The references of the optimiser's steps, likewise. -/
theorem frame_reference13 : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite_swiglu.Gen.facts,
  frame_kernel, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  trivial, Cert.GdnAlg.algebraic, trivial, trivial, Cert.FfnGates.algebraic, trivial, Cert.FfnWeight.algebraic, trivial, Cert.FfnInput.algebraic, trivial, Cert.FfnForward.algebraic,
  trivial, Cert.MixWeights.algebraic7, trivial, Cert.MixProducts.algebraic8, trivial, Cert.MixWeights.algebraic9, trivial, Cert.MixProducts.algebraic10, trivial, Cert.MixProducts.algebraic11,
  trivial, Cert.MixResidual.algebraic, trivial, Cert.Adam.algebraic13, trivial, Cert.Adam.algebraic14, trivial, Cert.Adam.algebraic15⟩

end Cert.Proof

end
